-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x256 : Shape := ⟨3, ![8, 1024, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S1024x1 : Shape := ⟨2, ![1024, 1]⟩
abbrev S1x1024x256 : Shape := ⟨3, ![1, 1024, 256]⟩
abbrev S1024x256 : Shape := ⟨2, ![1024, 256]⟩
abbrev S8x256 : Shape := ⟨2, ![8, 256]⟩
abbrev S64x256 : Shape := ⟨2, ![64, 256]⟩
abbrev S64 : Shape := ⟨1, ![64]⟩
abbrev S64x1 : Shape := ⟨2, ![64, 1]⟩
abbrev S2048x256 : Shape := ⟨2, ![2048, 256]⟩
abbrev S64x2048 : Shape := ⟨2, ![64, 2048]⟩
abbrev S1x256 : Shape := ⟨2, ![1, 256]⟩
abbrev S1024x4 : Shape := ⟨2, ![1024, 4]⟩
abbrev S4x256 : Shape := ⟨2, ![4, 256]⟩
abbrev S16x1024 : Shape := ⟨2, ![16, 1024]⟩
abbrev S1024x9 : Shape := ⟨2, ![1024, 9]⟩
abbrev S16x256 : Shape := ⟨2, ![16, 256]⟩
abbrev S128x256 : Shape := ⟨2, ![128, 256]⟩
abbrev S128 : Shape := ⟨1, ![128]⟩
abbrev S128x1 : Shape := ⟨2, ![128, 1]⟩
abbrev S128x2048 : Shape := ⟨2, ![128, 2048]⟩
abbrev S9x256 : Shape := ⟨2, ![9, 256]⟩
abbrev S1024x16 : Shape := ⟨2, ![1024, 16]⟩
abbrev S32x1024 : Shape := ⟨2, ![32, 1024]⟩
abbrev S1024x25 : Shape := ⟨2, ![1024, 25]⟩
abbrev S32x256 : Shape := ⟨2, ![32, 256]⟩
abbrev S256x256 : Shape := ⟨2, ![256, 256]⟩
abbrev S256 : Shape := ⟨1, ![256]⟩
abbrev S256x1 : Shape := ⟨2, ![256, 1]⟩
abbrev S256x2048 : Shape := ⟨2, ![256, 2048]⟩
abbrev S25x256 : Shape := ⟨2, ![25, 256]⟩
abbrev S40x1024 : Shape := ⟨2, ![40, 1024]⟩
abbrev S1024x36 : Shape := ⟨2, ![1024, 36]⟩
abbrev S40x256 : Shape := ⟨2, ![40, 256]⟩
abbrev S320x256 : Shape := ⟨2, ![320, 256]⟩
abbrev S320 : Shape := ⟨1, ![320]⟩
abbrev S320x1 : Shape := ⟨2, ![320, 1]⟩
abbrev S320x2048 : Shape := ⟨2, ![320, 2048]⟩
abbrev S36x256 : Shape := ⟨2, ![36, 256]⟩
abbrev S64x1024 : Shape := ⟨2, ![64, 1024]⟩
abbrev S1024x64 : Shape := ⟨2, ![1024, 64]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S104x1024 : Shape := ⟨2, ![104, 1024]⟩
abbrev S1024x100 : Shape := ⟨2, ![1024, 100]⟩
abbrev S104x256 : Shape := ⟨2, ![104, 256]⟩
abbrev S832x256 : Shape := ⟨2, ![832, 256]⟩
abbrev S832 : Shape := ⟨1, ![832]⟩
abbrev S832x1 : Shape := ⟨2, ![832, 1]⟩
abbrev S832x2048 : Shape := ⟨2, ![832, 2048]⟩
abbrev S100x256 : Shape := ⟨2, ![100, 256]⟩
abbrev S176x1024 : Shape := ⟨2, ![176, 1024]⟩
abbrev S1024x169 : Shape := ⟨2, ![1024, 169]⟩
abbrev S176x256 : Shape := ⟨2, ![176, 256]⟩
abbrev S176 : Shape := ⟨1, ![176]⟩
abbrev S176x1 : Shape := ⟨2, ![176, 1]⟩
abbrev S4096x256 : Shape := ⟨2, ![4096, 256]⟩
abbrev S176x4096 : Shape := ⟨2, ![176, 4096]⟩
abbrev S169x256 : Shape := ⟨2, ![169, 256]⟩
abbrev S256x1024 : Shape := ⟨2, ![256, 1024]⟩
abbrev S256x4096 : Shape := ⟨2, ![256, 4096]⟩
abbrev S1024 : Shape := ⟨1, ![1024]⟩
abbrev S1024x2048 : Shape := ⟨2, ![1024, 2048]⟩

abbrev nBuf : Space → Nat
  | .hbm => 15
  | .vmem => 13
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S8192x256, .bf16⟩
  | .hbm, ⟨12, _⟩ => ⟨S8x1024x256, .f32⟩
  | .hbm, ⟨13, _⟩ => ⟨S8x1024x256, .f32⟩
  | .hbm, ⟨14, _⟩ => ⟨S8x1024x256, .f32⟩
  | .local _ .vmem, ⟨0, _⟩ => ⟨S8x1024x256, .f32⟩
  | .local _ .vmem, ⟨1, _⟩ => ⟨S8192x256, .f32⟩
  | .local _ .vmem, ⟨2, _⟩ => ⟨S8192x256, .bf16⟩
  | .local _ .vmem, ⟨3, _⟩ => ⟨S8x1024x256, .f32⟩
  | .local _ .vmem, ⟨4, _⟩ => ⟨S8x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S8192x256, .f32⟩
  | .local _ .vmem, ⟨10, _⟩ => ⟨S8192x256, .bf16⟩
  | .local _ .vmem, ⟨11, _⟩ => ⟨S1x1024x256, .f32⟩
  | .local _ .vmem, ⟨12, _⟩ => ⟨S1x1024x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_44 : BitVec 32 := 0#32
  let c4_i32 : BitVec 32 := 4#32
  let v75 : BitVec 32 := Scalar.addi c0_i32_44 c4_i32
  let c1_i32_45 : BitVec 32 := 1#32
  ⟨c0_i32_44, v75, c1_i32_45⟩
def k0_off1 (k0_t1 : Fin k0_t1_loop.trips) : Fin 2 → Nat :=
  let c0_i32_44 : BitVec 32 := 0#32
  let c1_i32_45 : BitVec 32 := 1#32
  let arg6 : BitVec 32 := Scf.iv c0_i32_44 c1_i32_45 k0_t1
  let c2048_i32 : BitVec 32 := 2048#32
  let v2084 : BitVec 32 := Scalar.muli arg6 c2048_i32
  let v2085 : Index := Scalar.indexCast v2084
  let c0_1760 : Index := 0#32
  ![v2085.toNat, 0]
@[reducible] def k0_t2_loop : Scf.Loop 32 :=
  let c0_i32_48 : BitVec 32 := 0#32
  let c4_i32_49 : BitVec 32 := 4#32
  let v78 : BitVec 32 := Scalar.addi c0_i32_48 c4_i32_49
  let c1_i32_50 : BitVec 32 := 1#32
  ⟨c0_i32_48, v78, c1_i32_50⟩
def k0_off2 (k0_t2 : Fin k0_t2_loop.trips) : Fin 2 → Nat :=
  let c0_i32_48 : BitVec 32 := 0#32
  let c1_i32_50 : BitVec 32 := 1#32
  let arg6 : BitVec 32 := Scf.iv c0_i32_48 c1_i32_50 k0_t2
  let c2048_i32 : BitVec 32 := 2048#32
  let v2084 : BitVec 32 := Scalar.muli arg6 c2048_i32
  let v2092 : Index := Scalar.indexCast v2084
  let c0_1760 : Index := 0#32
  ![v2092.toNat, 0]
@[reducible] def k0_t3_loop : Scf.Loop 32 :=
  let c0_i32_202 : BitVec 32 := 0#32
  let c4_i32_203 : BitVec 32 := 4#32
  let v263 : BitVec 32 := Scalar.addi c0_i32_202 c4_i32_203
  let c1_i32_204 : BitVec 32 := 1#32
  ⟨c0_i32_202, v263, c1_i32_204⟩
def k0_off3 (k0_t3 : Fin k0_t3_loop.trips) : Fin 2 → Nat :=
  let c0_i32_202 : BitVec 32 := 0#32
  let c1_i32_204 : BitVec 32 := 1#32
  let arg6 : BitVec 32 := Scf.iv c0_i32_202 c1_i32_204 k0_t3
  let c2048_i32 : BitVec 32 := 2048#32
  let v2084 : BitVec 32 := Scalar.muli arg6 c2048_i32
  let v2085 : Index := Scalar.indexCast v2084
  let c0_1760 : Index := 0#32
  ![v2085.toNat, 0]
@[reducible] def k0_t4_loop : Scf.Loop 32 :=
  let c0_i32_207 : BitVec 32 := 0#32
  let c4_i32_208 : BitVec 32 := 4#32
  let v266 : BitVec 32 := Scalar.addi c0_i32_207 c4_i32_208
  let c1_i32_209 : BitVec 32 := 1#32
  ⟨c0_i32_207, v266, c1_i32_209⟩
def k0_off4 (k0_t4 : Fin k0_t4_loop.trips) : Fin 2 → Nat :=
  let c0_i32_207 : BitVec 32 := 0#32
  let c1_i32_209 : BitVec 32 := 1#32
  let arg6 : BitVec 32 := Scf.iv c0_i32_207 c1_i32_209 k0_t4
  let c2048_i32 : BitVec 32 := 2048#32
  let v2084 : BitVec 32 := Scalar.muli arg6 c2048_i32
  let v2092 : Index := Scalar.indexCast v2084
  let c0_1760 : Index := 0#32
  ![v2092.toNat, 0]
@[reducible] def k0_t5_loop : Scf.Loop 32 :=
  let c0_i32_360 : BitVec 32 := 0#32
  let c4_i32_361 : BitVec 32 := 4#32
  let v451 : BitVec 32 := Scalar.addi c0_i32_360 c4_i32_361
  let c1_i32_362 : BitVec 32 := 1#32
  ⟨c0_i32_360, v451, c1_i32_362⟩
def k0_off5 (k0_t5 : Fin k0_t5_loop.trips) : Fin 2 → Nat :=
  let c0_i32_360 : BitVec 32 := 0#32
  let c1_i32_362 : BitVec 32 := 1#32
  let arg6 : BitVec 32 := Scf.iv c0_i32_360 c1_i32_362 k0_t5
  let c2048_i32 : BitVec 32 := 2048#32
  let v2084 : BitVec 32 := Scalar.muli arg6 c2048_i32
  let v2085 : Index := Scalar.indexCast v2084
  let c0_1760 : Index := 0#32
  ![v2085.toNat, 0]
@[reducible] def k0_t6_loop : Scf.Loop 32 :=
  let c0_i32_365 : BitVec 32 := 0#32
  let c4_i32_366 : BitVec 32 := 4#32
  let v454 : BitVec 32 := Scalar.addi c0_i32_365 c4_i32_366
  let c1_i32_367 : BitVec 32 := 1#32
  ⟨c0_i32_365, v454, c1_i32_367⟩
def k0_off6 (k0_t6 : Fin k0_t6_loop.trips) : Fin 2 → Nat :=
  let c0_i32_365 : BitVec 32 := 0#32
  let c1_i32_367 : BitVec 32 := 1#32
  let arg6 : BitVec 32 := Scf.iv c0_i32_365 c1_i32_367 k0_t6
  let c2048_i32 : BitVec 32 := 2048#32
  let v2084 : BitVec 32 := Scalar.muli arg6 c2048_i32
  let v2092 : Index := Scalar.indexCast v2084
  let c0_1760 : Index := 0#32
  ![v2092.toNat, 0]
@[reducible] def k0_t7_loop : Scf.Loop 32 :=
  let c0_i32_518 : BitVec 32 := 0#32
  let c4_i32_519 : BitVec 32 := 4#32
  let v639 : BitVec 32 := Scalar.addi c0_i32_518 c4_i32_519
  let c1_i32_520 : BitVec 32 := 1#32
  ⟨c0_i32_518, v639, c1_i32_520⟩
def k0_off7 (k0_t7 : Fin k0_t7_loop.trips) : Fin 2 → Nat :=
  let c0_i32_518 : BitVec 32 := 0#32
  let c1_i32_520 : BitVec 32 := 1#32
  let arg6 : BitVec 32 := Scf.iv c0_i32_518 c1_i32_520 k0_t7
  let c2048_i32 : BitVec 32 := 2048#32
  let v2084 : BitVec 32 := Scalar.muli arg6 c2048_i32
  let v2085 : Index := Scalar.indexCast v2084
  let c0_1760 : Index := 0#32
  ![v2085.toNat, 0]
@[reducible] def k0_t8_loop : Scf.Loop 32 :=
  let c0_i32_523 : BitVec 32 := 0#32
  let c4_i32_524 : BitVec 32 := 4#32
  let v642 : BitVec 32 := Scalar.addi c0_i32_523 c4_i32_524
  let c1_i32_525 : BitVec 32 := 1#32
  ⟨c0_i32_523, v642, c1_i32_525⟩
def k0_off8 (k0_t8 : Fin k0_t8_loop.trips) : Fin 2 → Nat :=
  let c0_i32_523 : BitVec 32 := 0#32
  let c1_i32_525 : BitVec 32 := 1#32
  let arg6 : BitVec 32 := Scf.iv c0_i32_523 c1_i32_525 k0_t8
  let c2048_i32 : BitVec 32 := 2048#32
  let v2084 : BitVec 32 := Scalar.muli arg6 c2048_i32
  let v2092 : Index := Scalar.indexCast v2084
  let c0_1760 : Index := 0#32
  ![v2092.toNat, 0]
@[reducible] def k0_t9_loop : Scf.Loop 32 :=
  let c0_i32_676 : BitVec 32 := 0#32
  let c4_i32_677 : BitVec 32 := 4#32
  let v827 : BitVec 32 := Scalar.addi c0_i32_676 c4_i32_677
  let c1_i32_678 : BitVec 32 := 1#32
  ⟨c0_i32_676, v827, c1_i32_678⟩
def k0_off9 (k0_t9 : Fin k0_t9_loop.trips) : Fin 2 → Nat :=
  let c0_i32_676 : BitVec 32 := 0#32
  let c1_i32_678 : BitVec 32 := 1#32
  let arg6 : BitVec 32 := Scf.iv c0_i32_676 c1_i32_678 k0_t9
  let c2048_i32 : BitVec 32 := 2048#32
  let v2084 : BitVec 32 := Scalar.muli arg6 c2048_i32
  let v2085 : Index := Scalar.indexCast v2084
  let c0_1760 : Index := 0#32
  ![v2085.toNat, 0]
@[reducible] def k0_t10_loop : Scf.Loop 32 :=
  let c0_i32_681 : BitVec 32 := 0#32
  let c4_i32_682 : BitVec 32 := 4#32
  let v830 : BitVec 32 := Scalar.addi c0_i32_681 c4_i32_682
  let c1_i32_683 : BitVec 32 := 1#32
  ⟨c0_i32_681, v830, c1_i32_683⟩
def k0_off10 (k0_t10 : Fin k0_t10_loop.trips) : Fin 2 → Nat :=
  let c0_i32_681 : BitVec 32 := 0#32
  let c1_i32_683 : BitVec 32 := 1#32
  let arg6 : BitVec 32 := Scf.iv c0_i32_681 c1_i32_683 k0_t10
  let c2048_i32 : BitVec 32 := 2048#32
  let v2084 : BitVec 32 := Scalar.muli arg6 c2048_i32
  let v2092 : Index := Scalar.indexCast v2084
  let c0_1760 : Index := 0#32
  ![v2092.toNat, 0]
@[reducible] def k0_t11_loop : Scf.Loop 32 :=
  let c0_i32_834 : BitVec 32 := 0#32
  let c4_i32_835 : BitVec 32 := 4#32
  let v1015 : BitVec 32 := Scalar.addi c0_i32_834 c4_i32_835
  let c1_i32_836 : BitVec 32 := 1#32
  ⟨c0_i32_834, v1015, c1_i32_836⟩
def k0_off11 (k0_t11 : Fin k0_t11_loop.trips) : Fin 2 → Nat :=
  let c0_i32_834 : BitVec 32 := 0#32
  let c1_i32_836 : BitVec 32 := 1#32
  let arg6 : BitVec 32 := Scf.iv c0_i32_834 c1_i32_836 k0_t11
  let c2048_i32 : BitVec 32 := 2048#32
  let v2084 : BitVec 32 := Scalar.muli arg6 c2048_i32
  let v2085 : Index := Scalar.indexCast v2084
  let c0_1760 : Index := 0#32
  ![v2085.toNat, 0]
@[reducible] def k0_t12_loop : Scf.Loop 32 :=
  let c0_i32_839 : BitVec 32 := 0#32
  let c4_i32_840 : BitVec 32 := 4#32
  let v1018 : BitVec 32 := Scalar.addi c0_i32_839 c4_i32_840
  let c1_i32_841 : BitVec 32 := 1#32
  ⟨c0_i32_839, v1018, c1_i32_841⟩
def k0_off12 (k0_t12 : Fin k0_t12_loop.trips) : Fin 2 → Nat :=
  let c0_i32_839 : BitVec 32 := 0#32
  let c1_i32_841 : BitVec 32 := 1#32
  let arg6 : BitVec 32 := Scf.iv c0_i32_839 c1_i32_841 k0_t12
  let c2048_i32 : BitVec 32 := 2048#32
  let v2084 : BitVec 32 := Scalar.muli arg6 c2048_i32
  let v2092 : Index := Scalar.indexCast v2084
  let c0_1760 : Index := 0#32
  ![v2092.toNat, 0]
@[reducible] def k0_t13_loop : Scf.Loop 32 :=
  let c0_i32_992 : BitVec 32 := 0#32
  let c4_i32_993 : BitVec 32 := 4#32
  let v1203 : BitVec 32 := Scalar.addi c0_i32_992 c4_i32_993
  let c1_i32_994 : BitVec 32 := 1#32
  ⟨c0_i32_992, v1203, c1_i32_994⟩
def k0_off13 (k0_t13 : Fin k0_t13_loop.trips) : Fin 2 → Nat :=
  let c0_i32_992 : BitVec 32 := 0#32
  let c1_i32_994 : BitVec 32 := 1#32
  let arg6 : BitVec 32 := Scf.iv c0_i32_992 c1_i32_994 k0_t13
  let c2048_i32 : BitVec 32 := 2048#32
  let v2084 : BitVec 32 := Scalar.muli arg6 c2048_i32
  let v2085 : Index := Scalar.indexCast v2084
  let c0_1760 : Index := 0#32
  ![v2085.toNat, 0]
@[reducible] def k0_t14_loop : Scf.Loop 32 :=
  let c0_i32_997 : BitVec 32 := 0#32
  let c4_i32_998 : BitVec 32 := 4#32
  let v1206 : BitVec 32 := Scalar.addi c0_i32_997 c4_i32_998
  let c1_i32_999 : BitVec 32 := 1#32
  ⟨c0_i32_997, v1206, c1_i32_999⟩
def k0_off14 (k0_t14 : Fin k0_t14_loop.trips) : Fin 2 → Nat :=
  let c0_i32_997 : BitVec 32 := 0#32
  let c1_i32_999 : BitVec 32 := 1#32
  let arg6 : BitVec 32 := Scf.iv c0_i32_997 c1_i32_999 k0_t14
  let c2048_i32 : BitVec 32 := 2048#32
  let v2084 : BitVec 32 := Scalar.muli arg6 c2048_i32
  let v2092 : Index := Scalar.indexCast v2084
  let c0_1760 : Index := 0#32
  ![v2092.toNat, 0]
@[reducible] def k0_t15_loop : Scf.Loop 32 :=
  let c0_i32_1150 : BitVec 32 := 0#32
  let c4_i32_1151 : BitVec 32 := 4#32
  let v1391 : BitVec 32 := Scalar.addi c0_i32_1150 c4_i32_1151
  let c1_i32_1152 : BitVec 32 := 1#32
  ⟨c0_i32_1150, v1391, c1_i32_1152⟩
def k0_off15 (k0_t15 : Fin k0_t15_loop.trips) : Fin 2 → Nat :=
  let c0_i32_1150 : BitVec 32 := 0#32
  let c1_i32_1152 : BitVec 32 := 1#32
  let arg6 : BitVec 32 := Scf.iv c0_i32_1150 c1_i32_1152 k0_t15
  let c2048_i32 : BitVec 32 := 2048#32
  let v2084 : BitVec 32 := Scalar.muli arg6 c2048_i32
  let v2085 : Index := Scalar.indexCast v2084
  let c0_1760 : Index := 0#32
  ![v2085.toNat, 0]
@[reducible] def k0_t16_loop : Scf.Loop 32 :=
  let c0_i32_1155 : BitVec 32 := 0#32
  let c4_i32_1156 : BitVec 32 := 4#32
  let v1394 : BitVec 32 := Scalar.addi c0_i32_1155 c4_i32_1156
  let c1_i32_1157 : BitVec 32 := 1#32
  ⟨c0_i32_1155, v1394, c1_i32_1157⟩
def k0_off16 (k0_t16 : Fin k0_t16_loop.trips) : Fin 2 → Nat :=
  let c0_i32_1155 : BitVec 32 := 0#32
  let c1_i32_1157 : BitVec 32 := 1#32
  let arg6 : BitVec 32 := Scf.iv c0_i32_1155 c1_i32_1157 k0_t16
  let c2048_i32 : BitVec 32 := 2048#32
  let v2084 : BitVec 32 := Scalar.muli arg6 c2048_i32
  let v2092 : Index := Scalar.indexCast v2084
  let c0_1760 : Index := 0#32
  ![v2092.toNat, 0]
@[reducible] def k0_t17_loop : Scf.Loop 32 :=
  let c0_i32_1280 : BitVec 32 := 0#32
  let c2_i32 : BitVec 32 := 2#32
  let v1557 : BitVec 32 := Scalar.addi c0_i32_1280 c2_i32
  let c1_i32_1281 : BitVec 32 := 1#32
  ⟨c0_i32_1280, v1557, c1_i32_1281⟩
def k0_off17 (k0_t17 : Fin k0_t17_loop.trips) : Fin 2 → Nat :=
  let c0_i32_1280 : BitVec 32 := 0#32
  let c1_i32_1281 : BitVec 32 := 1#32
  let arg6 : BitVec 32 := Scf.iv c0_i32_1280 c1_i32_1281 k0_t17
  let c4096_i32 : BitVec 32 := 4096#32
  let v2084 : BitVec 32 := Scalar.muli arg6 c4096_i32
  let v2085 : Index := Scalar.indexCast v2084
  let c0_1760 : Index := 0#32
  ![v2085.toNat, 0]
@[reducible] def k0_t18_loop : Scf.Loop 32 :=
  let c0_i32_1284 : BitVec 32 := 0#32
  let c2_i32_1285 : BitVec 32 := 2#32
  let v1560 : BitVec 32 := Scalar.addi c0_i32_1284 c2_i32_1285
  let c1_i32_1286 : BitVec 32 := 1#32
  ⟨c0_i32_1284, v1560, c1_i32_1286⟩
def k0_off18 (k0_t18 : Fin k0_t18_loop.trips) : Fin 2 → Nat :=
  let c0_i32_1284 : BitVec 32 := 0#32
  let c1_i32_1286 : BitVec 32 := 1#32
  let arg6 : BitVec 32 := Scf.iv c0_i32_1284 c1_i32_1286 k0_t18
  let c4096_i32 : BitVec 32 := 4096#32
  let v2084 : BitVec 32 := Scalar.muli arg6 c4096_i32
  let v2092 : Index := Scalar.indexCast v2084
  let c0_1760 : Index := 0#32
  ![v2092.toNat, 0]
@[reducible] def k0_t19_loop : Scf.Loop 32 :=
  let c0_i32_1309 : BitVec 32 := 0#32
  let c2_i32_1310 : BitVec 32 := 2#32
  let v1589 : BitVec 32 := Scalar.addi c0_i32_1309 c2_i32_1310
  let c1_i32_1311 : BitVec 32 := 1#32
  ⟨c0_i32_1309, v1589, c1_i32_1311⟩
def k0_off19 (k0_t19 : Fin k0_t19_loop.trips) : Fin 2 → Nat :=
  let c0_i32_1309 : BitVec 32 := 0#32
  let c1_i32_1311 : BitVec 32 := 1#32
  let arg6 : BitVec 32 := Scf.iv c0_i32_1309 c1_i32_1311 k0_t19
  let c4096_i32 : BitVec 32 := 4096#32
  let v2084 : BitVec 32 := Scalar.muli arg6 c4096_i32
  let v2085 : Index := Scalar.indexCast v2084
  let c0_1760 : Index := 0#32
  ![v2085.toNat, 0]
@[reducible] def k0_t20_loop : Scf.Loop 32 :=
  let c0_i32_1314 : BitVec 32 := 0#32
  let c2_i32_1315 : BitVec 32 := 2#32
  let v1592 : BitVec 32 := Scalar.addi c0_i32_1314 c2_i32_1315
  let c1_i32_1316 : BitVec 32 := 1#32
  ⟨c0_i32_1314, v1592, c1_i32_1316⟩
def k0_off20 (k0_t20 : Fin k0_t20_loop.trips) : Fin 2 → Nat :=
  let c0_i32_1314 : BitVec 32 := 0#32
  let c1_i32_1316 : BitVec 32 := 1#32
  let arg6 : BitVec 32 := Scf.iv c0_i32_1314 c1_i32_1316 k0_t20
  let c4096_i32 : BitVec 32 := 4096#32
  let v2084 : BitVec 32 := Scalar.muli arg6 c4096_i32
  let v2092 : Index := Scalar.indexCast v2084
  let c0_1760 : Index := 0#32
  ![v2092.toNat, 0]
@[reducible] def k0_t21_loop : Scf.Loop 32 :=
  let c0_i32_1339 : BitVec 32 := 0#32
  let c2_i32_1340 : BitVec 32 := 2#32
  let v1621 : BitVec 32 := Scalar.addi c0_i32_1339 c2_i32_1340
  let c1_i32_1341 : BitVec 32 := 1#32
  ⟨c0_i32_1339, v1621, c1_i32_1341⟩
def k0_off21 (k0_t21 : Fin k0_t21_loop.trips) : Fin 2 → Nat :=
  let c0_i32_1339 : BitVec 32 := 0#32
  let c1_i32_1341 : BitVec 32 := 1#32
  let arg6 : BitVec 32 := Scf.iv c0_i32_1339 c1_i32_1341 k0_t21
  let c4096_i32 : BitVec 32 := 4096#32
  let v2084 : BitVec 32 := Scalar.muli arg6 c4096_i32
  let v2085 : Index := Scalar.indexCast v2084
  let c0_1760 : Index := 0#32
  ![v2085.toNat, 0]
@[reducible] def k0_t22_loop : Scf.Loop 32 :=
  let c0_i32_1344 : BitVec 32 := 0#32
  let c2_i32_1345 : BitVec 32 := 2#32
  let v1624 : BitVec 32 := Scalar.addi c0_i32_1344 c2_i32_1345
  let c1_i32_1346 : BitVec 32 := 1#32
  ⟨c0_i32_1344, v1624, c1_i32_1346⟩
def k0_off22 (k0_t22 : Fin k0_t22_loop.trips) : Fin 2 → Nat :=
  let c0_i32_1344 : BitVec 32 := 0#32
  let c1_i32_1346 : BitVec 32 := 1#32
  let arg6 : BitVec 32 := Scf.iv c0_i32_1344 c1_i32_1346 k0_t22
  let c4096_i32 : BitVec 32 := 4096#32
  let v2084 : BitVec 32 := Scalar.muli arg6 c4096_i32
  let v2092 : Index := Scalar.indexCast v2084
  let c0_1760 : Index := 0#32
  ![v2092.toNat, 0]
@[reducible] def k0_t23_loop : Scf.Loop 32 :=
  let c0_i32_1369 : BitVec 32 := 0#32
  let c2_i32_1370 : BitVec 32 := 2#32
  let v1653 : BitVec 32 := Scalar.addi c0_i32_1369 c2_i32_1370
  let c1_i32_1371 : BitVec 32 := 1#32
  ⟨c0_i32_1369, v1653, c1_i32_1371⟩
def k0_off23 (k0_t23 : Fin k0_t23_loop.trips) : Fin 2 → Nat :=
  let c0_i32_1369 : BitVec 32 := 0#32
  let c1_i32_1371 : BitVec 32 := 1#32
  let arg6 : BitVec 32 := Scf.iv c0_i32_1369 c1_i32_1371 k0_t23
  let c4096_i32 : BitVec 32 := 4096#32
  let v2084 : BitVec 32 := Scalar.muli arg6 c4096_i32
  let v2085 : Index := Scalar.indexCast v2084
  let c0_1760 : Index := 0#32
  ![v2085.toNat, 0]
@[reducible] def k0_t24_loop : Scf.Loop 32 :=
  let c0_i32_1374 : BitVec 32 := 0#32
  let c2_i32_1375 : BitVec 32 := 2#32
  let v1656 : BitVec 32 := Scalar.addi c0_i32_1374 c2_i32_1375
  let c1_i32_1376 : BitVec 32 := 1#32
  ⟨c0_i32_1374, v1656, c1_i32_1376⟩
def k0_off24 (k0_t24 : Fin k0_t24_loop.trips) : Fin 2 → Nat :=
  let c0_i32_1374 : BitVec 32 := 0#32
  let c1_i32_1376 : BitVec 32 := 1#32
  let arg6 : BitVec 32 := Scf.iv c0_i32_1374 c1_i32_1376 k0_t24
  let c4096_i32 : BitVec 32 := 4096#32
  let v2084 : BitVec 32 := Scalar.muli arg6 c4096_i32
  let v2092 : Index := Scalar.indexCast v2084
  let c0_1760 : Index := 0#32
  ![v2092.toNat, 0]
@[reducible] def k0_t25_loop : Scf.Loop 32 :=
  let c0_i32_1399 : BitVec 32 := 0#32
  let c2_i32_1400 : BitVec 32 := 2#32
  let v1685 : BitVec 32 := Scalar.addi c0_i32_1399 c2_i32_1400
  let c1_i32_1401 : BitVec 32 := 1#32
  ⟨c0_i32_1399, v1685, c1_i32_1401⟩
def k0_off25 (k0_t25 : Fin k0_t25_loop.trips) : Fin 2 → Nat :=
  let c0_i32_1399 : BitVec 32 := 0#32
  let c1_i32_1401 : BitVec 32 := 1#32
  let arg6 : BitVec 32 := Scf.iv c0_i32_1399 c1_i32_1401 k0_t25
  let c4096_i32 : BitVec 32 := 4096#32
  let v2084 : BitVec 32 := Scalar.muli arg6 c4096_i32
  let v2085 : Index := Scalar.indexCast v2084
  let c0_1760 : Index := 0#32
  ![v2085.toNat, 0]
@[reducible] def k0_t26_loop : Scf.Loop 32 :=
  let c0_i32_1404 : BitVec 32 := 0#32
  let c2_i32_1405 : BitVec 32 := 2#32
  let v1688 : BitVec 32 := Scalar.addi c0_i32_1404 c2_i32_1405
  let c1_i32_1406 : BitVec 32 := 1#32
  ⟨c0_i32_1404, v1688, c1_i32_1406⟩
def k0_off26 (k0_t26 : Fin k0_t26_loop.trips) : Fin 2 → Nat :=
  let c0_i32_1404 : BitVec 32 := 0#32
  let c1_i32_1406 : BitVec 32 := 1#32
  let arg6 : BitVec 32 := Scf.iv c0_i32_1404 c1_i32_1406 k0_t26
  let c4096_i32 : BitVec 32 := 4096#32
  let v2084 : BitVec 32 := Scalar.muli arg6 c4096_i32
  let v2092 : Index := Scalar.indexCast v2084
  let c0_1760 : Index := 0#32
  ![v2092.toNat, 0]
@[reducible] def k0_t27_loop : Scf.Loop 32 :=
  let c0_i32_1429 : BitVec 32 := 0#32
  let c2_i32_1430 : BitVec 32 := 2#32
  let v1717 : BitVec 32 := Scalar.addi c0_i32_1429 c2_i32_1430
  let c1_i32_1431 : BitVec 32 := 1#32
  ⟨c0_i32_1429, v1717, c1_i32_1431⟩
def k0_off27 (k0_t27 : Fin k0_t27_loop.trips) : Fin 2 → Nat :=
  let c0_i32_1429 : BitVec 32 := 0#32
  let c1_i32_1431 : BitVec 32 := 1#32
  let arg6 : BitVec 32 := Scf.iv c0_i32_1429 c1_i32_1431 k0_t27
  let c4096_i32 : BitVec 32 := 4096#32
  let v2084 : BitVec 32 := Scalar.muli arg6 c4096_i32
  let v2085 : Index := Scalar.indexCast v2084
  let c0_1760 : Index := 0#32
  ![v2085.toNat, 0]
@[reducible] def k0_t28_loop : Scf.Loop 32 :=
  let c0_i32_1434 : BitVec 32 := 0#32
  let c2_i32_1435 : BitVec 32 := 2#32
  let v1720 : BitVec 32 := Scalar.addi c0_i32_1434 c2_i32_1435
  let c1_i32_1436 : BitVec 32 := 1#32
  ⟨c0_i32_1434, v1720, c1_i32_1436⟩
def k0_off28 (k0_t28 : Fin k0_t28_loop.trips) : Fin 2 → Nat :=
  let c0_i32_1434 : BitVec 32 := 0#32
  let c1_i32_1436 : BitVec 32 := 1#32
  let arg6 : BitVec 32 := Scf.iv c0_i32_1434 c1_i32_1436 k0_t28
  let c4096_i32 : BitVec 32 := 4096#32
  let v2084 : BitVec 32 := Scalar.muli arg6 c4096_i32
  let v2092 : Index := Scalar.indexCast v2084
  let c0_1760 : Index := 0#32
  ![v2092.toNat, 0]
@[reducible] def k0_t29_loop : Scf.Loop 32 :=
  let c0_i32_1459 : BitVec 32 := 0#32
  let c2_i32_1460 : BitVec 32 := 2#32
  let v1749 : BitVec 32 := Scalar.addi c0_i32_1459 c2_i32_1460
  let c1_i32_1461 : BitVec 32 := 1#32
  ⟨c0_i32_1459, v1749, c1_i32_1461⟩
def k0_off29 (k0_t29 : Fin k0_t29_loop.trips) : Fin 2 → Nat :=
  let c0_i32_1459 : BitVec 32 := 0#32
  let c1_i32_1461 : BitVec 32 := 1#32
  let arg6 : BitVec 32 := Scf.iv c0_i32_1459 c1_i32_1461 k0_t29
  let c4096_i32 : BitVec 32 := 4096#32
  let v2084 : BitVec 32 := Scalar.muli arg6 c4096_i32
  let v2085 : Index := Scalar.indexCast v2084
  let c0_1760 : Index := 0#32
  ![v2085.toNat, 0]
@[reducible] def k0_t30_loop : Scf.Loop 32 :=
  let c0_i32_1464 : BitVec 32 := 0#32
  let c2_i32_1465 : BitVec 32 := 2#32
  let v1752 : BitVec 32 := Scalar.addi c0_i32_1464 c2_i32_1465
  let c1_i32_1466 : BitVec 32 := 1#32
  ⟨c0_i32_1464, v1752, c1_i32_1466⟩
def k0_off30 (k0_t30 : Fin k0_t30_loop.trips) : Fin 2 → Nat :=
  let c0_i32_1464 : BitVec 32 := 0#32
  let c1_i32_1466 : BitVec 32 := 1#32
  let arg6 : BitVec 32 := Scf.iv c0_i32_1464 c1_i32_1466 k0_t30
  let c4096_i32 : BitVec 32 := 4096#32
  let v2084 : BitVec 32 := Scalar.muli arg6 c4096_i32
  let v2092 : Index := Scalar.indexCast v2084
  let c0_1760 : Index := 0#32
  ![v2092.toNat, 0]
@[reducible] def k0_t31_loop : Scf.Loop 32 :=
  let c0_i32_1489 : BitVec 32 := 0#32
  let c2_i32_1490 : BitVec 32 := 2#32
  let v1781 : BitVec 32 := Scalar.addi c0_i32_1489 c2_i32_1490
  let c1_i32_1491 : BitVec 32 := 1#32
  ⟨c0_i32_1489, v1781, c1_i32_1491⟩
def k0_off31 (k0_t31 : Fin k0_t31_loop.trips) : Fin 2 → Nat :=
  let c0_i32_1489 : BitVec 32 := 0#32
  let c1_i32_1491 : BitVec 32 := 1#32
  let arg6 : BitVec 32 := Scf.iv c0_i32_1489 c1_i32_1491 k0_t31
  let c4096_i32 : BitVec 32 := 4096#32
  let v2084 : BitVec 32 := Scalar.muli arg6 c4096_i32
  let v2085 : Index := Scalar.indexCast v2084
  let c0_1760 : Index := 0#32
  ![v2085.toNat, 0]
@[reducible] def k0_t32_loop : Scf.Loop 32 :=
  let c0_i32_1494 : BitVec 32 := 0#32
  let c2_i32_1495 : BitVec 32 := 2#32
  let v1784 : BitVec 32 := Scalar.addi c0_i32_1494 c2_i32_1495
  let c1_i32_1496 : BitVec 32 := 1#32
  ⟨c0_i32_1494, v1784, c1_i32_1496⟩
def k0_off32 (k0_t32 : Fin k0_t32_loop.trips) : Fin 2 → Nat :=
  let c0_i32_1494 : BitVec 32 := 0#32
  let c1_i32_1496 : BitVec 32 := 1#32
  let arg6 : BitVec 32 := Scf.iv c0_i32_1494 c1_i32_1496 k0_t32
  let c4096_i32 : BitVec 32 := 4096#32
  let v2084 : BitVec 32 := Scalar.muli arg6 c4096_i32
  let v2092 : Index := Scalar.indexCast v2084
  let c0_1760 : Index := 0#32
  ![v2092.toNat, 0]
@[reducible] def k0_t33_loop : Scf.Loop 32 :=
  let c0_i32_1528 : BitVec 32 := 0#32
  let c2_i32_1529 : BitVec 32 := 2#32
  let v1849 : BitVec 32 := Scalar.addi c0_i32_1528 c2_i32_1529
  let c1_i32_1530 : BitVec 32 := 1#32
  ⟨c0_i32_1528, v1849, c1_i32_1530⟩
def k0_off33 (k0_t33 : Fin k0_t33_loop.trips) : Fin 2 → Nat :=
  let c0_i32_1528 : BitVec 32 := 0#32
  let c1_i32_1530 : BitVec 32 := 1#32
  let arg6 : BitVec 32 := Scf.iv c0_i32_1528 c1_i32_1530 k0_t33
  let c4096_i32 : BitVec 32 := 4096#32
  let v2084 : BitVec 32 := Scalar.muli arg6 c4096_i32
  let v2085 : Index := Scalar.indexCast v2084
  let c0_1760 : Index := 0#32
  ![v2085.toNat, 0]
@[reducible] def k0_t34_loop : Scf.Loop 32 :=
  let c0_i32_1533 : BitVec 32 := 0#32
  let c2_i32_1534 : BitVec 32 := 2#32
  let v1852 : BitVec 32 := Scalar.addi c0_i32_1533 c2_i32_1534
  let c1_i32_1535 : BitVec 32 := 1#32
  ⟨c0_i32_1533, v1852, c1_i32_1535⟩
def k0_off34 (k0_t34 : Fin k0_t34_loop.trips) : Fin 2 → Nat :=
  let c0_i32_1533 : BitVec 32 := 0#32
  let c1_i32_1535 : BitVec 32 := 1#32
  let arg6 : BitVec 32 := Scf.iv c0_i32_1533 c1_i32_1535 k0_t34
  let c4096_i32 : BitVec 32 := 4096#32
  let v2084 : BitVec 32 := Scalar.muli arg6 c4096_i32
  let v2092 : Index := Scalar.indexCast v2084
  let c0_1760 : Index := 0#32
  ![v2092.toNat, 0]
@[reducible] def k0_t35_loop : Scf.Loop 32 :=
  let c0_i32_1558 : BitVec 32 := 0#32
  let c2_i32_1559 : BitVec 32 := 2#32
  let v1880 : BitVec 32 := Scalar.addi c0_i32_1558 c2_i32_1559
  let c1_i32_1560 : BitVec 32 := 1#32
  ⟨c0_i32_1558, v1880, c1_i32_1560⟩
def k0_off35 (k0_t35 : Fin k0_t35_loop.trips) : Fin 2 → Nat :=
  let c0_i32_1558 : BitVec 32 := 0#32
  let c1_i32_1560 : BitVec 32 := 1#32
  let arg6 : BitVec 32 := Scf.iv c0_i32_1558 c1_i32_1560 k0_t35
  let c4096_i32 : BitVec 32 := 4096#32
  let v2084 : BitVec 32 := Scalar.muli arg6 c4096_i32
  let v2085 : Index := Scalar.indexCast v2084
  let c0_1760 : Index := 0#32
  ![v2085.toNat, 0]
@[reducible] def k0_t36_loop : Scf.Loop 32 :=
  let c0_i32_1563 : BitVec 32 := 0#32
  let c2_i32_1564 : BitVec 32 := 2#32
  let v1883 : BitVec 32 := Scalar.addi c0_i32_1563 c2_i32_1564
  let c1_i32_1565 : BitVec 32 := 1#32
  ⟨c0_i32_1563, v1883, c1_i32_1565⟩
def k0_off36 (k0_t36 : Fin k0_t36_loop.trips) : Fin 2 → Nat :=
  let c0_i32_1563 : BitVec 32 := 0#32
  let c1_i32_1565 : BitVec 32 := 1#32
  let arg6 : BitVec 32 := Scf.iv c0_i32_1563 c1_i32_1565 k0_t36
  let c4096_i32 : BitVec 32 := 4096#32
  let v2084 : BitVec 32 := Scalar.muli arg6 c4096_i32
  let v2092 : Index := Scalar.indexCast v2084
  let c0_1760 : Index := 0#32
  ![v2092.toNat, 0]
@[reducible] def k0_t37_loop : Scf.Loop 32 :=
  let c0_i32_1588 : BitVec 32 := 0#32
  let c2_i32_1589 : BitVec 32 := 2#32
  let v1911 : BitVec 32 := Scalar.addi c0_i32_1588 c2_i32_1589
  let c1_i32_1590 : BitVec 32 := 1#32
  ⟨c0_i32_1588, v1911, c1_i32_1590⟩
def k0_off37 (k0_t37 : Fin k0_t37_loop.trips) : Fin 2 → Nat :=
  let c0_i32_1588 : BitVec 32 := 0#32
  let c1_i32_1590 : BitVec 32 := 1#32
  let arg6 : BitVec 32 := Scf.iv c0_i32_1588 c1_i32_1590 k0_t37
  let c4096_i32 : BitVec 32 := 4096#32
  let v2084 : BitVec 32 := Scalar.muli arg6 c4096_i32
  let v2085 : Index := Scalar.indexCast v2084
  let c0_1760 : Index := 0#32
  ![v2085.toNat, 0]
@[reducible] def k0_t38_loop : Scf.Loop 32 :=
  let c0_i32_1593 : BitVec 32 := 0#32
  let c2_i32_1594 : BitVec 32 := 2#32
  let v1914 : BitVec 32 := Scalar.addi c0_i32_1593 c2_i32_1594
  let c1_i32_1595 : BitVec 32 := 1#32
  ⟨c0_i32_1593, v1914, c1_i32_1595⟩
def k0_off38 (k0_t38 : Fin k0_t38_loop.trips) : Fin 2 → Nat :=
  let c0_i32_1593 : BitVec 32 := 0#32
  let c1_i32_1595 : BitVec 32 := 1#32
  let arg6 : BitVec 32 := Scf.iv c0_i32_1593 c1_i32_1595 k0_t38
  let c4096_i32 : BitVec 32 := 4096#32
  let v2084 : BitVec 32 := Scalar.muli arg6 c4096_i32
  let v2092 : Index := Scalar.indexCast v2084
  let c0_1760 : Index := 0#32
  ![v2092.toNat, 0]
@[reducible] def k0_t39_loop : Scf.Loop 32 :=
  let c0_i32_1618 : BitVec 32 := 0#32
  let c2_i32_1619 : BitVec 32 := 2#32
  let v1942 : BitVec 32 := Scalar.addi c0_i32_1618 c2_i32_1619
  let c1_i32_1620 : BitVec 32 := 1#32
  ⟨c0_i32_1618, v1942, c1_i32_1620⟩
def k0_off39 (k0_t39 : Fin k0_t39_loop.trips) : Fin 2 → Nat :=
  let c0_i32_1618 : BitVec 32 := 0#32
  let c1_i32_1620 : BitVec 32 := 1#32
  let arg6 : BitVec 32 := Scf.iv c0_i32_1618 c1_i32_1620 k0_t39
  let c4096_i32 : BitVec 32 := 4096#32
  let v2084 : BitVec 32 := Scalar.muli arg6 c4096_i32
  let v2085 : Index := Scalar.indexCast v2084
  let c0_1760 : Index := 0#32
  ![v2085.toNat, 0]
@[reducible] def k0_t40_loop : Scf.Loop 32 :=
  let c0_i32_1623 : BitVec 32 := 0#32
  let c2_i32_1624 : BitVec 32 := 2#32
  let v1945 : BitVec 32 := Scalar.addi c0_i32_1623 c2_i32_1624
  let c1_i32_1625 : BitVec 32 := 1#32
  ⟨c0_i32_1623, v1945, c1_i32_1625⟩
def k0_off40 (k0_t40 : Fin k0_t40_loop.trips) : Fin 2 → Nat :=
  let c0_i32_1623 : BitVec 32 := 0#32
  let c1_i32_1625 : BitVec 32 := 1#32
  let arg6 : BitVec 32 := Scf.iv c0_i32_1623 c1_i32_1625 k0_t40
  let c4096_i32 : BitVec 32 := 4096#32
  let v2084 : BitVec 32 := Scalar.muli arg6 c4096_i32
  let v2092 : Index := Scalar.indexCast v2084
  let c0_1760 : Index := 0#32
  ![v2092.toNat, 0]
@[reducible] def k0_t41_loop : Scf.Loop 32 :=
  let c0_i32_1648 : BitVec 32 := 0#32
  let c2_i32_1649 : BitVec 32 := 2#32
  let v1973 : BitVec 32 := Scalar.addi c0_i32_1648 c2_i32_1649
  let c1_i32_1650 : BitVec 32 := 1#32
  ⟨c0_i32_1648, v1973, c1_i32_1650⟩
def k0_off41 (k0_t41 : Fin k0_t41_loop.trips) : Fin 2 → Nat :=
  let c0_i32_1648 : BitVec 32 := 0#32
  let c1_i32_1650 : BitVec 32 := 1#32
  let arg6 : BitVec 32 := Scf.iv c0_i32_1648 c1_i32_1650 k0_t41
  let c4096_i32 : BitVec 32 := 4096#32
  let v2084 : BitVec 32 := Scalar.muli arg6 c4096_i32
  let v2085 : Index := Scalar.indexCast v2084
  let c0_1760 : Index := 0#32
  ![v2085.toNat, 0]
@[reducible] def k0_t42_loop : Scf.Loop 32 :=
  let c0_i32_1653 : BitVec 32 := 0#32
  let c2_i32_1654 : BitVec 32 := 2#32
  let v1976 : BitVec 32 := Scalar.addi c0_i32_1653 c2_i32_1654
  let c1_i32_1655 : BitVec 32 := 1#32
  ⟨c0_i32_1653, v1976, c1_i32_1655⟩
def k0_off42 (k0_t42 : Fin k0_t42_loop.trips) : Fin 2 → Nat :=
  let c0_i32_1653 : BitVec 32 := 0#32
  let c1_i32_1655 : BitVec 32 := 1#32
  let arg6 : BitVec 32 := Scf.iv c0_i32_1653 c1_i32_1655 k0_t42
  let c4096_i32 : BitVec 32 := 4096#32
  let v2084 : BitVec 32 := Scalar.muli arg6 c4096_i32
  let v2092 : Index := Scalar.indexCast v2084
  let c0_1760 : Index := 0#32
  ![v2092.toNat, 0]
@[reducible] def k0_t43_loop : Scf.Loop 32 :=
  let c0_i32_1678 : BitVec 32 := 0#32
  let c2_i32_1679 : BitVec 32 := 2#32
  let v2004 : BitVec 32 := Scalar.addi c0_i32_1678 c2_i32_1679
  let c1_i32_1680 : BitVec 32 := 1#32
  ⟨c0_i32_1678, v2004, c1_i32_1680⟩
def k0_off43 (k0_t43 : Fin k0_t43_loop.trips) : Fin 2 → Nat :=
  let c0_i32_1678 : BitVec 32 := 0#32
  let c1_i32_1680 : BitVec 32 := 1#32
  let arg6 : BitVec 32 := Scf.iv c0_i32_1678 c1_i32_1680 k0_t43
  let c4096_i32 : BitVec 32 := 4096#32
  let v2084 : BitVec 32 := Scalar.muli arg6 c4096_i32
  let v2085 : Index := Scalar.indexCast v2084
  let c0_1760 : Index := 0#32
  ![v2085.toNat, 0]
@[reducible] def k0_t44_loop : Scf.Loop 32 :=
  let c0_i32_1683 : BitVec 32 := 0#32
  let c2_i32_1684 : BitVec 32 := 2#32
  let v2007 : BitVec 32 := Scalar.addi c0_i32_1683 c2_i32_1684
  let c1_i32_1685 : BitVec 32 := 1#32
  ⟨c0_i32_1683, v2007, c1_i32_1685⟩
def k0_off44 (k0_t44 : Fin k0_t44_loop.trips) : Fin 2 → Nat :=
  let c0_i32_1683 : BitVec 32 := 0#32
  let c1_i32_1685 : BitVec 32 := 1#32
  let arg6 : BitVec 32 := Scf.iv c0_i32_1683 c1_i32_1685 k0_t44
  let c4096_i32 : BitVec 32 := 4096#32
  let v2084 : BitVec 32 := Scalar.muli arg6 c4096_i32
  let v2092 : Index := Scalar.indexCast v2084
  let c0_1760 : Index := 0#32
  ![v2092.toNat, 0]
@[reducible] def k0_t45_loop : Scf.Loop 32 :=
  let c0_i32_1708 : BitVec 32 := 0#32
  let c2_i32_1709 : BitVec 32 := 2#32
  let v2035 : BitVec 32 := Scalar.addi c0_i32_1708 c2_i32_1709
  let c1_i32_1710 : BitVec 32 := 1#32
  ⟨c0_i32_1708, v2035, c1_i32_1710⟩
def k0_off45 (k0_t45 : Fin k0_t45_loop.trips) : Fin 2 → Nat :=
  let c0_i32_1708 : BitVec 32 := 0#32
  let c1_i32_1710 : BitVec 32 := 1#32
  let arg6 : BitVec 32 := Scf.iv c0_i32_1708 c1_i32_1710 k0_t45
  let c4096_i32 : BitVec 32 := 4096#32
  let v2084 : BitVec 32 := Scalar.muli arg6 c4096_i32
  let v2085 : Index := Scalar.indexCast v2084
  let c0_1760 : Index := 0#32
  ![v2085.toNat, 0]
@[reducible] def k0_t46_loop : Scf.Loop 32 :=
  let c0_i32_1713 : BitVec 32 := 0#32
  let c2_i32_1714 : BitVec 32 := 2#32
  let v2038 : BitVec 32 := Scalar.addi c0_i32_1713 c2_i32_1714
  let c1_i32_1715 : BitVec 32 := 1#32
  ⟨c0_i32_1713, v2038, c1_i32_1715⟩
def k0_off46 (k0_t46 : Fin k0_t46_loop.trips) : Fin 2 → Nat :=
  let c0_i32_1713 : BitVec 32 := 0#32
  let c1_i32_1715 : BitVec 32 := 1#32
  let arg6 : BitVec 32 := Scf.iv c0_i32_1713 c1_i32_1715 k0_t46
  let c4096_i32 : BitVec 32 := 4096#32
  let v2084 : BitVec 32 := Scalar.muli arg6 c4096_i32
  let v2092 : Index := Scalar.indexCast v2084
  let c0_1760 : Index := 0#32
  ![v2092.toNat, 0]
@[reducible] def k0_t47_loop : Scf.Loop 32 :=
  let c0_i32_1738 : BitVec 32 := 0#32
  let c2_i32_1739 : BitVec 32 := 2#32
  let v2066 : BitVec 32 := Scalar.addi c0_i32_1738 c2_i32_1739
  let c1_i32_1740 : BitVec 32 := 1#32
  ⟨c0_i32_1738, v2066, c1_i32_1740⟩
def k0_off47 (k0_t47 : Fin k0_t47_loop.trips) : Fin 2 → Nat :=
  let c0_i32_1738 : BitVec 32 := 0#32
  let c1_i32_1740 : BitVec 32 := 1#32
  let arg6 : BitVec 32 := Scf.iv c0_i32_1738 c1_i32_1740 k0_t47
  let c4096_i32 : BitVec 32 := 4096#32
  let v2084 : BitVec 32 := Scalar.muli arg6 c4096_i32
  let v2085 : Index := Scalar.indexCast v2084
  let c0_1760 : Index := 0#32
  ![v2085.toNat, 0]
@[reducible] def k0_t48_loop : Scf.Loop 32 :=
  let c0_i32_1743 : BitVec 32 := 0#32
  let c2_i32_1744 : BitVec 32 := 2#32
  let v2069 : BitVec 32 := Scalar.addi c0_i32_1743 c2_i32_1744
  let c1_i32_1745 : BitVec 32 := 1#32
  ⟨c0_i32_1743, v2069, c1_i32_1745⟩
def k0_off48 (k0_t48 : Fin k0_t48_loop.trips) : Fin 2 → Nat :=
  let c0_i32_1743 : BitVec 32 := 0#32
  let c1_i32_1745 : BitVec 32 := 1#32
  let arg6 : BitVec 32 := Scf.iv c0_i32_1743 c1_i32_1745 k0_t48
  let c4096_i32 : BitVec 32 := 4096#32
  let v2084 : BitVec 32 := Scalar.muli arg6 c4096_i32
  let v2092 : Index := Scalar.indexCast v2084
  let c0_1760 : Index := 0#32
  ![v2092.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

@[reducible] def k1_t1_loop : Scf.Loop 32 :=
  let c0_i32_4 : BitVec 32 := 0#32
  let c4_i32 : BitVec 32 := 4#32
  let v12 : BitVec 32 := Scalar.addi c0_i32_4 c4_i32
  let c1_i32 : BitVec 32 := 1#32
  ⟨c0_i32_4, v12, c1_i32⟩
def k1_off1 (k1_t1 : Fin k1_t1_loop.trips) : Fin 2 → Nat :=
  let c0_i32_4 : BitVec 32 := 0#32
  let c1_i32 : BitVec 32 := 1#32
  let arg6 : BitVec 32 := Scf.iv c0_i32_4 c1_i32 k1_t1
  let c2048_i32 : BitVec 32 := 2048#32
  let v23 : BitVec 32 := Scalar.muli arg6 c2048_i32
  let v24 : Index := Scalar.indexCast v23
  let c0_17 : Index := 0#32
  ![v24.toNat, 0]
@[reducible] def k1_t2_loop : Scf.Loop 32 :=
  let c0_i32_7 : BitVec 32 := 0#32
  let c4_i32_8 : BitVec 32 := 4#32
  let v15 : BitVec 32 := Scalar.addi c0_i32_7 c4_i32_8
  let c1_i32_9 : BitVec 32 := 1#32
  ⟨c0_i32_7, v15, c1_i32_9⟩
def k1_off2 (k1_t2 : Fin k1_t2_loop.trips) : Fin 2 → Nat :=
  let c0_i32_7 : BitVec 32 := 0#32
  let c1_i32_9 : BitVec 32 := 1#32
  let arg6 : BitVec 32 := Scf.iv c0_i32_7 c1_i32_9 k1_t2
  let c2048_i32 : BitVec 32 := 2048#32
  let v23 : BitVec 32 := Scalar.muli arg6 c2048_i32
  let v31 : Index := Scalar.indexCast v23
  let c0_17 : Index := 0#32
  ![v31.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8x1024x256 : Shape := ⟨3, ![8, 1024, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S8x1x256 : Shape := ⟨3, ![8, 1, 256]⟩
abbrev S8x1 : Shape := ⟨2, ![8, 1]⟩
abbrev S8x1x1 : Shape := ⟨3, ![8, 1, 1]⟩
abbrev S8x256 : Shape := ⟨2, ![8, 256]⟩
abbrev S256x8192 : Shape := ⟨2, ![256, 8192]⟩
abbrev S8x8192 : Shape := ⟨2, ![8, 8192]⟩
abbrev S8 : Shape := ⟨1, ![8]⟩
abbrev S1024 : Shape := ⟨1, ![1024]⟩
abbrev S1024x1 : Shape := ⟨2, ![1024, 1]⟩
abbrev S4 : Shape := ⟨1, ![4]⟩
abbrev S4x1 : Shape := ⟨2, ![4, 1]⟩
abbrev S8x4x256 : Shape := ⟨3, ![8, 4, 256]⟩
abbrev S8x4 : Shape := ⟨2, ![8, 4]⟩
abbrev S8x4x1 : Shape := ⟨3, ![8, 4, 1]⟩
abbrev S32x256 : Shape := ⟨2, ![32, 256]⟩
abbrev S32x8192 : Shape := ⟨2, ![32, 8192]⟩
abbrev S32 : Shape := ⟨1, ![32]⟩
abbrev S32x1 : Shape := ⟨2, ![32, 1]⟩
abbrev S9 : Shape := ⟨1, ![9]⟩
abbrev S9x1 : Shape := ⟨2, ![9, 1]⟩
abbrev S8x9x256 : Shape := ⟨3, ![8, 9, 256]⟩
abbrev S8x9 : Shape := ⟨2, ![8, 9]⟩
abbrev S8x9x1 : Shape := ⟨3, ![8, 9, 1]⟩
abbrev S72x256 : Shape := ⟨2, ![72, 256]⟩
abbrev S72x8192 : Shape := ⟨2, ![72, 8192]⟩
abbrev S72 : Shape := ⟨1, ![72]⟩
abbrev S72x1 : Shape := ⟨2, ![72, 1]⟩
abbrev S16 : Shape := ⟨1, ![16]⟩
abbrev S16x1 : Shape := ⟨2, ![16, 1]⟩
abbrev S8x16x256 : Shape := ⟨3, ![8, 16, 256]⟩
abbrev S8x16 : Shape := ⟨2, ![8, 16]⟩
abbrev S8x16x1 : Shape := ⟨3, ![8, 16, 1]⟩
abbrev S128x256 : Shape := ⟨2, ![128, 256]⟩
abbrev S128x8192 : Shape := ⟨2, ![128, 8192]⟩
abbrev S128 : Shape := ⟨1, ![128]⟩
abbrev S128x1 : Shape := ⟨2, ![128, 1]⟩
abbrev S25 : Shape := ⟨1, ![25]⟩
abbrev S25x1 : Shape := ⟨2, ![25, 1]⟩
abbrev S8x25x256 : Shape := ⟨3, ![8, 25, 256]⟩
abbrev S8x25 : Shape := ⟨2, ![8, 25]⟩
abbrev S8x25x1 : Shape := ⟨3, ![8, 25, 1]⟩
abbrev S200x256 : Shape := ⟨2, ![200, 256]⟩
abbrev S200x8192 : Shape := ⟨2, ![200, 8192]⟩
abbrev S200 : Shape := ⟨1, ![200]⟩
abbrev S200x1 : Shape := ⟨2, ![200, 1]⟩
abbrev S36 : Shape := ⟨1, ![36]⟩
abbrev S36x1 : Shape := ⟨2, ![36, 1]⟩
abbrev S8x36x256 : Shape := ⟨3, ![8, 36, 256]⟩
abbrev S8x36 : Shape := ⟨2, ![8, 36]⟩
abbrev S8x36x1 : Shape := ⟨3, ![8, 36, 1]⟩
abbrev S288x256 : Shape := ⟨2, ![288, 256]⟩
abbrev S288x8192 : Shape := ⟨2, ![288, 8192]⟩
abbrev S288 : Shape := ⟨1, ![288]⟩
abbrev S288x1 : Shape := ⟨2, ![288, 1]⟩
abbrev S64 : Shape := ⟨1, ![64]⟩
abbrev S64x1 : Shape := ⟨2, ![64, 1]⟩
abbrev S8x64x256 : Shape := ⟨3, ![8, 64, 256]⟩
abbrev S8x64 : Shape := ⟨2, ![8, 64]⟩
abbrev S8x64x1 : Shape := ⟨3, ![8, 64, 1]⟩
abbrev S512x256 : Shape := ⟨2, ![512, 256]⟩
abbrev S512x8192 : Shape := ⟨2, ![512, 8192]⟩
abbrev S512 : Shape := ⟨1, ![512]⟩
abbrev S512x1 : Shape := ⟨2, ![512, 1]⟩
abbrev S100 : Shape := ⟨1, ![100]⟩
abbrev S100x1 : Shape := ⟨2, ![100, 1]⟩
abbrev S8x100x256 : Shape := ⟨3, ![8, 100, 256]⟩
abbrev S8x100 : Shape := ⟨2, ![8, 100]⟩
abbrev S8x100x1 : Shape := ⟨3, ![8, 100, 1]⟩
abbrev S800x256 : Shape := ⟨2, ![800, 256]⟩
abbrev S800x8192 : Shape := ⟨2, ![800, 8192]⟩
abbrev S800 : Shape := ⟨1, ![800]⟩
abbrev S800x1 : Shape := ⟨2, ![800, 1]⟩
abbrev S169 : Shape := ⟨1, ![169]⟩
abbrev S169x1 : Shape := ⟨2, ![169, 1]⟩
abbrev S8x169x256 : Shape := ⟨3, ![8, 169, 256]⟩
abbrev S8x169 : Shape := ⟨2, ![8, 169]⟩
abbrev S8x169x1 : Shape := ⟨3, ![8, 169, 1]⟩
abbrev S1352x256 : Shape := ⟨2, ![1352, 256]⟩
abbrev S1352x8192 : Shape := ⟨2, ![1352, 8192]⟩
abbrev S1352 : Shape := ⟨1, ![1352]⟩
abbrev S1352x1 : Shape := ⟨2, ![1352, 1]⟩
abbrev S256 : Shape := ⟨1, ![256]⟩
abbrev S256x1 : Shape := ⟨2, ![256, 1]⟩
abbrev S8x256x256 : Shape := ⟨3, ![8, 256, 256]⟩
abbrev S8x256x1 : Shape := ⟨3, ![8, 256, 1]⟩
abbrev S2048x256 : Shape := ⟨2, ![2048, 256]⟩
abbrev S2048x8192 : Shape := ⟨2, ![2048, 8192]⟩
abbrev S2048 : Shape := ⟨1, ![2048]⟩
abbrev S2048x1 : Shape := ⟨2, ![2048, 1]⟩
abbrev S8x1024 : Shape := ⟨2, ![8, 1024]⟩
abbrev S8x1024x1 : Shape := ⟨3, ![8, 1024, 1]⟩
abbrev S8192x8192 : Shape := ⟨2, ![8192, 8192]⟩

abbrev nBuf : Space → Nat
  | .hbm => 906
  | .vmem => 0
  | .smem => 0
  | _ => 0

abbrev hbmTy0_0 (i : Nat) : BufTy := match i % 128 with
  | 0 => ⟨S8x1024x256, .f32⟩
  | 1 => ⟨S8192x256, .f32⟩
  | 2 => ⟨S8192x256, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S8192x256, .f32⟩
  | 10 => ⟨S8192x256, .f32⟩
  | 11 => ⟨S_, .f32⟩
  | 12 => ⟨S8x1024x256, .f32⟩
  | 13 => ⟨S1, .f32⟩
  | 14 => ⟨S_, .f32⟩
  | 15 => ⟨S1, .f32⟩
  | 16 => ⟨S1, .f32⟩
  | 17 => ⟨S_, .f32⟩
  | 18 => ⟨S1, .f32⟩
  | 19 => ⟨S1, .f32⟩
  | 20 => ⟨S_, .f32⟩
  | 21 => ⟨S1, .f32⟩
  | 22 => ⟨S1, .f32⟩
  | 23 => ⟨S1, .f32⟩
  | 24 => ⟨S1, .i32⟩
  | 25 => ⟨S_, .i32⟩
  | 26 => ⟨S1, .i32⟩
  | 27 => ⟨S1, .i1⟩
  | 28 => ⟨S_, .i32⟩
  | 29 => ⟨S1, .i32⟩
  | 30 => ⟨S1, .i32⟩
  | 31 => ⟨S1, .i32⟩
  | 32 => ⟨S1x1, .i32⟩
  | 33 => ⟨S8x1x256, .f32⟩
  | 34 => ⟨S8x1x256, .f32⟩
  | 35 => ⟨S_, .f32⟩
  | 36 => ⟨S8x1, .f32⟩
  | 37 => ⟨S8x1x1, .f32⟩
  | 38 => ⟨S_, .f32⟩
  | 39 => ⟨S8x1x1, .f32⟩
  | 40 => ⟨S8x1x1, .f32⟩
  | 41 => ⟨S8x1x256, .f32⟩
  | 42 => ⟨S8x1x256, .f32⟩
  | 43 => ⟨S8x256, .f32⟩
  | 44 => ⟨S256x8192, .f32⟩
  | 45 => ⟨S8x8192, .f32⟩
  | 46 => ⟨S8x8192, .i32⟩
  | 47 => ⟨S_, .f32⟩
  | 48 => ⟨S_, .i32⟩
  | 49 => ⟨S8, .f32⟩
  | 50 => ⟨S8, .i32⟩
  | 51 => ⟨S_, .i32⟩
  | 52 => ⟨S8, .i32⟩
  | 53 => ⟨S8, .i1⟩
  | 54 => ⟨S_, .i32⟩
  | 55 => ⟨S8, .i32⟩
  | 56 => ⟨S8, .i32⟩
  | 57 => ⟨S8, .i32⟩
  | 58 => ⟨S8x1, .i32⟩
  | 59 => ⟨S1, .i32⟩
  | 60 => ⟨S_, .i32⟩
  | 61 => ⟨S8x1, .i32⟩
  | 62 => ⟨S8x1, .i1⟩
  | 63 => ⟨S1x1, .i32⟩
  | 64 => ⟨S8x1, .i32⟩
  | 65 => ⟨S8x1, .i1⟩
  | 66 => ⟨S8x1, .i1⟩
  | 67 => ⟨S_, .i1⟩
  | 68 => ⟨S8, .i1⟩
  | 69 => ⟨S8x256, .f32⟩
  | 70 => ⟨S8x256, .i1⟩
  | 71 => ⟨S_, .f32⟩
  | 72 => ⟨S8x256, .f32⟩
  | 73 => ⟨S8x256, .f32⟩
  | 74 => ⟨S8x1x256, .f32⟩
  | 75 => ⟨S1024, .f32⟩
  | 76 => ⟨S_, .f32⟩
  | 77 => ⟨S1024, .f32⟩
  | 78 => ⟨S1024, .f32⟩
  | 79 => ⟨S_, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S1024, .i32⟩
  | 87 => ⟨S_, .i32⟩
  | 88 => ⟨S1024, .i32⟩
  | 89 => ⟨S1024, .i1⟩
  | 90 => ⟨S_, .i32⟩
  | 91 => ⟨S1024, .i32⟩
  | 92 => ⟨S1024, .i32⟩
  | 93 => ⟨S1024, .i32⟩
  | 94 => ⟨S1024x1, .i32⟩
  | 95 => ⟨S8x1024x256, .f32⟩
  | 96 => ⟨S8x1024x256, .f32⟩
  | 97 => ⟨S8x1024x256, .f32⟩
  | 98 => ⟨S4, .f32⟩
  | 99 => ⟨S_, .f32⟩
  | 100 => ⟨S4, .f32⟩
  | 101 => ⟨S4, .f32⟩
  | 102 => ⟨S_, .f32⟩
  | 103 => ⟨S4, .f32⟩
  | 104 => ⟨S4, .f32⟩
  | 105 => ⟨S_, .f32⟩
  | 106 => ⟨S4, .f32⟩
  | 107 => ⟨S4, .f32⟩
  | 108 => ⟨S4, .f32⟩
  | 109 => ⟨S4, .i32⟩
  | 110 => ⟨S_, .i32⟩
  | 111 => ⟨S4, .i32⟩
  | 112 => ⟨S4, .i1⟩
  | 113 => ⟨S_, .i32⟩
  | 114 => ⟨S4, .i32⟩
  | 115 => ⟨S4, .i32⟩
  | 116 => ⟨S4, .i32⟩
  | 117 => ⟨S4x1, .i32⟩
  | 118 => ⟨S8x4x256, .f32⟩
  | 119 => ⟨S8x4x256, .f32⟩
  | 120 => ⟨S_, .f32⟩
  | 121 => ⟨S8x4, .f32⟩
  | 122 => ⟨S8x4x1, .f32⟩
  | 123 => ⟨S_, .f32⟩
  | 124 => ⟨S8x4x1, .f32⟩
  | 125 => ⟨S8x4x1, .f32⟩
  | 126 => ⟨S8x4x256, .f32⟩
  | 127 => ⟨S8x4x256, .f32⟩
  | _ => ⟨S8x1024x256, .f32⟩

abbrev hbmTy0_1 (i : Nat) : BufTy := match i % 128 with
  | 0 => ⟨S32x256, .f32⟩
  | 1 => ⟨S256x8192, .f32⟩
  | 2 => ⟨S32x8192, .f32⟩
  | 3 => ⟨S32x8192, .i32⟩
  | 4 => ⟨S_, .f32⟩
  | 5 => ⟨S_, .i32⟩
  | 6 => ⟨S32, .f32⟩
  | 7 => ⟨S32, .i32⟩
  | 8 => ⟨S_, .i32⟩
  | 9 => ⟨S32, .i32⟩
  | 10 => ⟨S32, .i1⟩
  | 11 => ⟨S_, .i32⟩
  | 12 => ⟨S32, .i32⟩
  | 13 => ⟨S32, .i32⟩
  | 14 => ⟨S32, .i32⟩
  | 15 => ⟨S32x1, .i32⟩
  | 16 => ⟨S1, .i32⟩
  | 17 => ⟨S_, .i32⟩
  | 18 => ⟨S32x1, .i32⟩
  | 19 => ⟨S32x1, .i1⟩
  | 20 => ⟨S1x1, .i32⟩
  | 21 => ⟨S32x1, .i32⟩
  | 22 => ⟨S32x1, .i1⟩
  | 23 => ⟨S32x1, .i1⟩
  | 24 => ⟨S_, .i1⟩
  | 25 => ⟨S32, .i1⟩
  | 26 => ⟨S32x256, .f32⟩
  | 27 => ⟨S32x256, .i1⟩
  | 28 => ⟨S_, .f32⟩
  | 29 => ⟨S32x256, .f32⟩
  | 30 => ⟨S32x256, .f32⟩
  | 31 => ⟨S8x4x256, .f32⟩
  | 32 => ⟨S1024, .f32⟩
  | 33 => ⟨S_, .f32⟩
  | 34 => ⟨S1024, .f32⟩
  | 35 => ⟨S1024, .f32⟩
  | 36 => ⟨S_, .f32⟩
  | 37 => ⟨S1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S1024, .i32⟩
  | 44 => ⟨S_, .i32⟩
  | 45 => ⟨S1024, .i32⟩
  | 46 => ⟨S1024, .i1⟩
  | 47 => ⟨S_, .i32⟩
  | 48 => ⟨S1024, .i32⟩
  | 49 => ⟨S1024, .i32⟩
  | 50 => ⟨S1024, .i32⟩
  | 51 => ⟨S1024x1, .i32⟩
  | 52 => ⟨S8x1024x256, .f32⟩
  | 53 => ⟨S8x1024x256, .f32⟩
  | 54 => ⟨S8x1024x256, .f32⟩
  | 55 => ⟨S9, .f32⟩
  | 56 => ⟨S_, .f32⟩
  | 57 => ⟨S9, .f32⟩
  | 58 => ⟨S9, .f32⟩
  | 59 => ⟨S_, .f32⟩
  | 60 => ⟨S9, .f32⟩
  | 61 => ⟨S9, .f32⟩
  | 62 => ⟨S_, .f32⟩
  | 63 => ⟨S9, .f32⟩
  | 64 => ⟨S9, .f32⟩
  | 65 => ⟨S9, .f32⟩
  | 66 => ⟨S9, .i32⟩
  | 67 => ⟨S_, .i32⟩
  | 68 => ⟨S9, .i32⟩
  | 69 => ⟨S9, .i1⟩
  | 70 => ⟨S_, .i32⟩
  | 71 => ⟨S9, .i32⟩
  | 72 => ⟨S9, .i32⟩
  | 73 => ⟨S9, .i32⟩
  | 74 => ⟨S9x1, .i32⟩
  | 75 => ⟨S8x9x256, .f32⟩
  | 76 => ⟨S8x9x256, .f32⟩
  | 77 => ⟨S_, .f32⟩
  | 78 => ⟨S8x9, .f32⟩
  | 79 => ⟨S8x9x1, .f32⟩
  | 80 => ⟨S_, .f32⟩
  | 81 => ⟨S8x9x1, .f32⟩
  | 82 => ⟨S8x9x1, .f32⟩
  | 83 => ⟨S8x9x256, .f32⟩
  | 84 => ⟨S8x9x256, .f32⟩
  | 85 => ⟨S72x256, .f32⟩
  | 86 => ⟨S256x8192, .f32⟩
  | 87 => ⟨S72x8192, .f32⟩
  | 88 => ⟨S72x8192, .i32⟩
  | 89 => ⟨S_, .f32⟩
  | 90 => ⟨S_, .i32⟩
  | 91 => ⟨S72, .f32⟩
  | 92 => ⟨S72, .i32⟩
  | 93 => ⟨S_, .i32⟩
  | 94 => ⟨S72, .i32⟩
  | 95 => ⟨S72, .i1⟩
  | 96 => ⟨S_, .i32⟩
  | 97 => ⟨S72, .i32⟩
  | 98 => ⟨S72, .i32⟩
  | 99 => ⟨S72, .i32⟩
  | 100 => ⟨S72x1, .i32⟩
  | 101 => ⟨S1, .i32⟩
  | 102 => ⟨S_, .i32⟩
  | 103 => ⟨S72x1, .i32⟩
  | 104 => ⟨S72x1, .i1⟩
  | 105 => ⟨S1x1, .i32⟩
  | 106 => ⟨S72x1, .i32⟩
  | 107 => ⟨S72x1, .i1⟩
  | 108 => ⟨S72x1, .i1⟩
  | 109 => ⟨S_, .i1⟩
  | 110 => ⟨S72, .i1⟩
  | 111 => ⟨S72x256, .f32⟩
  | 112 => ⟨S72x256, .i1⟩
  | 113 => ⟨S_, .f32⟩
  | 114 => ⟨S72x256, .f32⟩
  | 115 => ⟨S72x256, .f32⟩
  | 116 => ⟨S8x9x256, .f32⟩
  | 117 => ⟨S1024, .f32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S8x1024x256, .f32⟩

abbrev hbmTy0_2 (i : Nat) : BufTy := match i % 128 with
  | 0 => ⟨S1024, .i32⟩
  | 1 => ⟨S_, .i32⟩
  | 2 => ⟨S1024, .i32⟩
  | 3 => ⟨S1024, .i1⟩
  | 4 => ⟨S_, .i32⟩
  | 5 => ⟨S1024, .i32⟩
  | 6 => ⟨S1024, .i32⟩
  | 7 => ⟨S1024, .i32⟩
  | 8 => ⟨S1024x1, .i32⟩
  | 9 => ⟨S8x1024x256, .f32⟩
  | 10 => ⟨S8x1024x256, .f32⟩
  | 11 => ⟨S8x1024x256, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S16, .i32⟩
  | 24 => ⟨S_, .i32⟩
  | 25 => ⟨S16, .i32⟩
  | 26 => ⟨S16, .i1⟩
  | 27 => ⟨S_, .i32⟩
  | 28 => ⟨S16, .i32⟩
  | 29 => ⟨S16, .i32⟩
  | 30 => ⟨S16, .i32⟩
  | 31 => ⟨S16x1, .i32⟩
  | 32 => ⟨S8x16x256, .f32⟩
  | 33 => ⟨S8x16x256, .f32⟩
  | 34 => ⟨S_, .f32⟩
  | 35 => ⟨S8x16, .f32⟩
  | 36 => ⟨S8x16x1, .f32⟩
  | 37 => ⟨S_, .f32⟩
  | 38 => ⟨S8x16x1, .f32⟩
  | 39 => ⟨S8x16x1, .f32⟩
  | 40 => ⟨S8x16x256, .f32⟩
  | 41 => ⟨S8x16x256, .f32⟩
  | 42 => ⟨S128x256, .f32⟩
  | 43 => ⟨S256x8192, .f32⟩
  | 44 => ⟨S128x8192, .f32⟩
  | 45 => ⟨S128x8192, .i32⟩
  | 46 => ⟨S_, .f32⟩
  | 47 => ⟨S_, .i32⟩
  | 48 => ⟨S128, .f32⟩
  | 49 => ⟨S128, .i32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S1, .i32⟩
  | 59 => ⟨S_, .i32⟩
  | 60 => ⟨S128x1, .i32⟩
  | 61 => ⟨S128x1, .i1⟩
  | 62 => ⟨S1x1, .i32⟩
  | 63 => ⟨S128x1, .i32⟩
  | 64 => ⟨S128x1, .i1⟩
  | 65 => ⟨S128x1, .i1⟩
  | 66 => ⟨S_, .i1⟩
  | 67 => ⟨S128, .i1⟩
  | 68 => ⟨S128x256, .f32⟩
  | 69 => ⟨S128x256, .i1⟩
  | 70 => ⟨S_, .f32⟩
  | 71 => ⟨S128x256, .f32⟩
  | 72 => ⟨S128x256, .f32⟩
  | 73 => ⟨S8x16x256, .f32⟩
  | 74 => ⟨S1024, .f32⟩
  | 75 => ⟨S_, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S1024, .i32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S1024x1, .i32⟩
  | 94 => ⟨S8x1024x256, .f32⟩
  | 95 => ⟨S8x1024x256, .f32⟩
  | 96 => ⟨S8x1024x256, .f32⟩
  | 97 => ⟨S25, .f32⟩
  | 98 => ⟨S_, .f32⟩
  | 99 => ⟨S25, .f32⟩
  | 100 => ⟨S25, .f32⟩
  | 101 => ⟨S_, .f32⟩
  | 102 => ⟨S25, .f32⟩
  | 103 => ⟨S25, .f32⟩
  | 104 => ⟨S_, .f32⟩
  | 105 => ⟨S25, .f32⟩
  | 106 => ⟨S25, .f32⟩
  | 107 => ⟨S25, .f32⟩
  | 108 => ⟨S25, .i32⟩
  | 109 => ⟨S_, .i32⟩
  | 110 => ⟨S25, .i32⟩
  | 111 => ⟨S25, .i1⟩
  | 112 => ⟨S_, .i32⟩
  | 113 => ⟨S25, .i32⟩
  | 114 => ⟨S25, .i32⟩
  | 115 => ⟨S25, .i32⟩
  | 116 => ⟨S25x1, .i32⟩
  | 117 => ⟨S8x25x256, .f32⟩
  | 118 => ⟨S8x25x256, .f32⟩
  | 119 => ⟨S_, .f32⟩
  | 120 => ⟨S8x25, .f32⟩
  | 121 => ⟨S8x25x1, .f32⟩
  | 122 => ⟨S_, .f32⟩
  | 123 => ⟨S8x25x1, .f32⟩
  | 124 => ⟨S8x25x1, .f32⟩
  | 125 => ⟨S8x25x256, .f32⟩
  | 126 => ⟨S8x25x256, .f32⟩
  | 127 => ⟨S200x256, .f32⟩
  | _ => ⟨S8x1024x256, .f32⟩

abbrev hbmTy0_3 (i : Nat) : BufTy := match i % 128 with
  | 0 => ⟨S256x8192, .f32⟩
  | 1 => ⟨S200x8192, .f32⟩
  | 2 => ⟨S200x8192, .i32⟩
  | 3 => ⟨S_, .f32⟩
  | 4 => ⟨S_, .i32⟩
  | 5 => ⟨S200, .f32⟩
  | 6 => ⟨S200, .i32⟩
  | 7 => ⟨S_, .i32⟩
  | 8 => ⟨S200, .i32⟩
  | 9 => ⟨S200, .i1⟩
  | 10 => ⟨S_, .i32⟩
  | 11 => ⟨S200, .i32⟩
  | 12 => ⟨S200, .i32⟩
  | 13 => ⟨S200, .i32⟩
  | 14 => ⟨S200x1, .i32⟩
  | 15 => ⟨S1, .i32⟩
  | 16 => ⟨S_, .i32⟩
  | 17 => ⟨S200x1, .i32⟩
  | 18 => ⟨S200x1, .i1⟩
  | 19 => ⟨S1x1, .i32⟩
  | 20 => ⟨S200x1, .i32⟩
  | 21 => ⟨S200x1, .i1⟩
  | 22 => ⟨S200x1, .i1⟩
  | 23 => ⟨S_, .i1⟩
  | 24 => ⟨S200, .i1⟩
  | 25 => ⟨S200x256, .f32⟩
  | 26 => ⟨S200x256, .i1⟩
  | 27 => ⟨S_, .f32⟩
  | 28 => ⟨S200x256, .f32⟩
  | 29 => ⟨S200x256, .f32⟩
  | 30 => ⟨S8x25x256, .f32⟩
  | 31 => ⟨S1024, .f32⟩
  | 32 => ⟨S_, .f32⟩
  | 33 => ⟨S1024, .f32⟩
  | 34 => ⟨S1024, .f32⟩
  | 35 => ⟨S_, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S1024, .i32⟩
  | 43 => ⟨S_, .i32⟩
  | 44 => ⟨S1024, .i32⟩
  | 45 => ⟨S1024, .i1⟩
  | 46 => ⟨S_, .i32⟩
  | 47 => ⟨S1024, .i32⟩
  | 48 => ⟨S1024, .i32⟩
  | 49 => ⟨S1024, .i32⟩
  | 50 => ⟨S1024x1, .i32⟩
  | 51 => ⟨S8x1024x256, .f32⟩
  | 52 => ⟨S8x1024x256, .f32⟩
  | 53 => ⟨S8x1024x256, .f32⟩
  | 54 => ⟨S36, .f32⟩
  | 55 => ⟨S_, .f32⟩
  | 56 => ⟨S36, .f32⟩
  | 57 => ⟨S36, .f32⟩
  | 58 => ⟨S_, .f32⟩
  | 59 => ⟨S36, .f32⟩
  | 60 => ⟨S36, .f32⟩
  | 61 => ⟨S_, .f32⟩
  | 62 => ⟨S36, .f32⟩
  | 63 => ⟨S36, .f32⟩
  | 64 => ⟨S36, .f32⟩
  | 65 => ⟨S36, .i32⟩
  | 66 => ⟨S_, .i32⟩
  | 67 => ⟨S36, .i32⟩
  | 68 => ⟨S36, .i1⟩
  | 69 => ⟨S_, .i32⟩
  | 70 => ⟨S36, .i32⟩
  | 71 => ⟨S36, .i32⟩
  | 72 => ⟨S36, .i32⟩
  | 73 => ⟨S36x1, .i32⟩
  | 74 => ⟨S8x36x256, .f32⟩
  | 75 => ⟨S8x36x256, .f32⟩
  | 76 => ⟨S_, .f32⟩
  | 77 => ⟨S8x36, .f32⟩
  | 78 => ⟨S8x36x1, .f32⟩
  | 79 => ⟨S_, .f32⟩
  | 80 => ⟨S8x36x1, .f32⟩
  | 81 => ⟨S8x36x1, .f32⟩
  | 82 => ⟨S8x36x256, .f32⟩
  | 83 => ⟨S8x36x256, .f32⟩
  | 84 => ⟨S288x256, .f32⟩
  | 85 => ⟨S256x8192, .f32⟩
  | 86 => ⟨S288x8192, .f32⟩
  | 87 => ⟨S288x8192, .i32⟩
  | 88 => ⟨S_, .f32⟩
  | 89 => ⟨S_, .i32⟩
  | 90 => ⟨S288, .f32⟩
  | 91 => ⟨S288, .i32⟩
  | 92 => ⟨S_, .i32⟩
  | 93 => ⟨S288, .i32⟩
  | 94 => ⟨S288, .i1⟩
  | 95 => ⟨S_, .i32⟩
  | 96 => ⟨S288, .i32⟩
  | 97 => ⟨S288, .i32⟩
  | 98 => ⟨S288, .i32⟩
  | 99 => ⟨S288x1, .i32⟩
  | 100 => ⟨S1, .i32⟩
  | 101 => ⟨S_, .i32⟩
  | 102 => ⟨S288x1, .i32⟩
  | 103 => ⟨S288x1, .i1⟩
  | 104 => ⟨S1x1, .i32⟩
  | 105 => ⟨S288x1, .i32⟩
  | 106 => ⟨S288x1, .i1⟩
  | 107 => ⟨S288x1, .i1⟩
  | 108 => ⟨S_, .i1⟩
  | 109 => ⟨S288, .i1⟩
  | 110 => ⟨S288x256, .f32⟩
  | 111 => ⟨S288x256, .i1⟩
  | 112 => ⟨S_, .f32⟩
  | 113 => ⟨S288x256, .f32⟩
  | 114 => ⟨S288x256, .f32⟩
  | 115 => ⟨S8x36x256, .f32⟩
  | 116 => ⟨S1024, .f32⟩
  | 117 => ⟨S_, .f32⟩
  | 118 => ⟨S1024, .f32⟩
  | 119 => ⟨S1024, .f32⟩
  | 120 => ⟨S_, .f32⟩
  | 121 => ⟨S1024, .f32⟩
  | 122 => ⟨S1024, .f32⟩
  | 123 => ⟨S_, .f32⟩
  | 124 => ⟨S1024, .f32⟩
  | 125 => ⟨S1024, .f32⟩
  | 126 => ⟨S1024, .f32⟩
  | 127 => ⟨S1024, .i32⟩
  | _ => ⟨S8x1024x256, .f32⟩

abbrev hbmTy0_4 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S8x1024x256, .f32⟩
  | 9 => ⟨S8x1024x256, .f32⟩
  | 10 => ⟨S8x1024x256, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S64, .i32⟩
  | 23 => ⟨S_, .i32⟩
  | 24 => ⟨S64, .i32⟩
  | 25 => ⟨S64, .i1⟩
  | 26 => ⟨S_, .i32⟩
  | 27 => ⟨S64, .i32⟩
  | 28 => ⟨S64, .i32⟩
  | 29 => ⟨S64, .i32⟩
  | 30 => ⟨S64x1, .i32⟩
  | 31 => ⟨S8x64x256, .f32⟩
  | 32 => ⟨S8x64x256, .f32⟩
  | 33 => ⟨S_, .f32⟩
  | 34 => ⟨S8x64, .f32⟩
  | 35 => ⟨S8x64x1, .f32⟩
  | 36 => ⟨S_, .f32⟩
  | 37 => ⟨S8x64x1, .f32⟩
  | 38 => ⟨S8x64x1, .f32⟩
  | 39 => ⟨S8x64x256, .f32⟩
  | 40 => ⟨S8x64x256, .f32⟩
  | 41 => ⟨S512x256, .f32⟩
  | 42 => ⟨S256x8192, .f32⟩
  | 43 => ⟨S512x8192, .f32⟩
  | 44 => ⟨S512x8192, .i32⟩
  | 45 => ⟨S_, .f32⟩
  | 46 => ⟨S_, .i32⟩
  | 47 => ⟨S512, .f32⟩
  | 48 => ⟨S512, .i32⟩
  | 49 => ⟨S_, .i32⟩
  | 50 => ⟨S512, .i32⟩
  | 51 => ⟨S512, .i1⟩
  | 52 => ⟨S_, .i32⟩
  | 53 => ⟨S512, .i32⟩
  | 54 => ⟨S512, .i32⟩
  | 55 => ⟨S512, .i32⟩
  | 56 => ⟨S512x1, .i32⟩
  | 57 => ⟨S1, .i32⟩
  | 58 => ⟨S_, .i32⟩
  | 59 => ⟨S512x1, .i32⟩
  | 60 => ⟨S512x1, .i1⟩
  | 61 => ⟨S1x1, .i32⟩
  | 62 => ⟨S512x1, .i32⟩
  | 63 => ⟨S512x1, .i1⟩
  | 64 => ⟨S512x1, .i1⟩
  | 65 => ⟨S_, .i1⟩
  | 66 => ⟨S512, .i1⟩
  | 67 => ⟨S512x256, .f32⟩
  | 68 => ⟨S512x256, .i1⟩
  | 69 => ⟨S_, .f32⟩
  | 70 => ⟨S512x256, .f32⟩
  | 71 => ⟨S512x256, .f32⟩
  | 72 => ⟨S8x64x256, .f32⟩
  | 73 => ⟨S1024, .f32⟩
  | 74 => ⟨S_, .f32⟩
  | 75 => ⟨S1024, .f32⟩
  | 76 => ⟨S1024, .f32⟩
  | 77 => ⟨S_, .f32⟩
  | 78 => ⟨S1024, .f32⟩
  | 79 => ⟨S1024, .f32⟩
  | 80 => ⟨S_, .f32⟩
  | 81 => ⟨S1024, .f32⟩
  | 82 => ⟨S1024, .f32⟩
  | 83 => ⟨S1024, .f32⟩
  | 84 => ⟨S1024, .i32⟩
  | 85 => ⟨S_, .i32⟩
  | 86 => ⟨S1024, .i32⟩
  | 87 => ⟨S1024, .i1⟩
  | 88 => ⟨S_, .i32⟩
  | 89 => ⟨S1024, .i32⟩
  | 90 => ⟨S1024, .i32⟩
  | 91 => ⟨S1024, .i32⟩
  | 92 => ⟨S1024x1, .i32⟩
  | 93 => ⟨S8x1024x256, .f32⟩
  | 94 => ⟨S8x1024x256, .f32⟩
  | 95 => ⟨S8x1024x256, .f32⟩
  | 96 => ⟨S100, .f32⟩
  | 97 => ⟨S_, .f32⟩
  | 98 => ⟨S100, .f32⟩
  | 99 => ⟨S100, .f32⟩
  | 100 => ⟨S_, .f32⟩
  | 101 => ⟨S100, .f32⟩
  | 102 => ⟨S100, .f32⟩
  | 103 => ⟨S_, .f32⟩
  | 104 => ⟨S100, .f32⟩
  | 105 => ⟨S100, .f32⟩
  | 106 => ⟨S100, .f32⟩
  | 107 => ⟨S100, .i32⟩
  | 108 => ⟨S_, .i32⟩
  | 109 => ⟨S100, .i32⟩
  | 110 => ⟨S100, .i1⟩
  | 111 => ⟨S_, .i32⟩
  | 112 => ⟨S100, .i32⟩
  | 113 => ⟨S100, .i32⟩
  | 114 => ⟨S100, .i32⟩
  | 115 => ⟨S100x1, .i32⟩
  | 116 => ⟨S8x100x256, .f32⟩
  | 117 => ⟨S8x100x256, .f32⟩
  | 118 => ⟨S_, .f32⟩
  | 119 => ⟨S8x100, .f32⟩
  | 120 => ⟨S8x100x1, .f32⟩
  | 121 => ⟨S_, .f32⟩
  | 122 => ⟨S8x100x1, .f32⟩
  | 123 => ⟨S8x100x1, .f32⟩
  | 124 => ⟨S8x100x256, .f32⟩
  | 125 => ⟨S8x100x256, .f32⟩
  | 126 => ⟨S800x256, .f32⟩
  | 127 => ⟨S256x8192, .f32⟩
  | _ => ⟨S8x1024x256, .f32⟩

abbrev hbmTy0_5 (i : Nat) : BufTy := match i % 128 with
  | 0 => ⟨S800x8192, .f32⟩
  | 1 => ⟨S800x8192, .i32⟩
  | 2 => ⟨S_, .f32⟩
  | 3 => ⟨S_, .i32⟩
  | 4 => ⟨S800, .f32⟩
  | 5 => ⟨S800, .i32⟩
  | 6 => ⟨S_, .i32⟩
  | 7 => ⟨S800, .i32⟩
  | 8 => ⟨S800, .i1⟩
  | 9 => ⟨S_, .i32⟩
  | 10 => ⟨S800, .i32⟩
  | 11 => ⟨S800, .i32⟩
  | 12 => ⟨S800, .i32⟩
  | 13 => ⟨S800x1, .i32⟩
  | 14 => ⟨S1, .i32⟩
  | 15 => ⟨S_, .i32⟩
  | 16 => ⟨S800x1, .i32⟩
  | 17 => ⟨S800x1, .i1⟩
  | 18 => ⟨S1x1, .i32⟩
  | 19 => ⟨S800x1, .i32⟩
  | 20 => ⟨S800x1, .i1⟩
  | 21 => ⟨S800x1, .i1⟩
  | 22 => ⟨S_, .i1⟩
  | 23 => ⟨S800, .i1⟩
  | 24 => ⟨S800x256, .f32⟩
  | 25 => ⟨S800x256, .i1⟩
  | 26 => ⟨S_, .f32⟩
  | 27 => ⟨S800x256, .f32⟩
  | 28 => ⟨S800x256, .f32⟩
  | 29 => ⟨S8x100x256, .f32⟩
  | 30 => ⟨S1024, .f32⟩
  | 31 => ⟨S_, .f32⟩
  | 32 => ⟨S1024, .f32⟩
  | 33 => ⟨S1024, .f32⟩
  | 34 => ⟨S_, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S1024, .i32⟩
  | 42 => ⟨S_, .i32⟩
  | 43 => ⟨S1024, .i32⟩
  | 44 => ⟨S1024, .i1⟩
  | 45 => ⟨S_, .i32⟩
  | 46 => ⟨S1024, .i32⟩
  | 47 => ⟨S1024, .i32⟩
  | 48 => ⟨S1024, .i32⟩
  | 49 => ⟨S1024x1, .i32⟩
  | 50 => ⟨S8x1024x256, .f32⟩
  | 51 => ⟨S8x1024x256, .f32⟩
  | 52 => ⟨S8x1024x256, .f32⟩
  | 53 => ⟨S169, .f32⟩
  | 54 => ⟨S_, .f32⟩
  | 55 => ⟨S169, .f32⟩
  | 56 => ⟨S169, .f32⟩
  | 57 => ⟨S_, .f32⟩
  | 58 => ⟨S169, .f32⟩
  | 59 => ⟨S169, .f32⟩
  | 60 => ⟨S_, .f32⟩
  | 61 => ⟨S169, .f32⟩
  | 62 => ⟨S169, .f32⟩
  | 63 => ⟨S169, .f32⟩
  | 64 => ⟨S169, .i32⟩
  | 65 => ⟨S_, .i32⟩
  | 66 => ⟨S169, .i32⟩
  | 67 => ⟨S169, .i1⟩
  | 68 => ⟨S_, .i32⟩
  | 69 => ⟨S169, .i32⟩
  | 70 => ⟨S169, .i32⟩
  | 71 => ⟨S169, .i32⟩
  | 72 => ⟨S169x1, .i32⟩
  | 73 => ⟨S8x169x256, .f32⟩
  | 74 => ⟨S8x169x256, .f32⟩
  | 75 => ⟨S_, .f32⟩
  | 76 => ⟨S8x169, .f32⟩
  | 77 => ⟨S8x169x1, .f32⟩
  | 78 => ⟨S_, .f32⟩
  | 79 => ⟨S8x169x1, .f32⟩
  | 80 => ⟨S8x169x1, .f32⟩
  | 81 => ⟨S8x169x256, .f32⟩
  | 82 => ⟨S8x169x256, .f32⟩
  | 83 => ⟨S1352x256, .f32⟩
  | 84 => ⟨S256x8192, .f32⟩
  | 85 => ⟨S1352x8192, .f32⟩
  | 86 => ⟨S1352x8192, .i32⟩
  | 87 => ⟨S_, .f32⟩
  | 88 => ⟨S_, .i32⟩
  | 89 => ⟨S1352, .f32⟩
  | 90 => ⟨S1352, .i32⟩
  | 91 => ⟨S_, .i32⟩
  | 92 => ⟨S1352, .i32⟩
  | 93 => ⟨S1352, .i1⟩
  | 94 => ⟨S_, .i32⟩
  | 95 => ⟨S1352, .i32⟩
  | 96 => ⟨S1352, .i32⟩
  | 97 => ⟨S1352, .i32⟩
  | 98 => ⟨S1352x1, .i32⟩
  | 99 => ⟨S1, .i32⟩
  | 100 => ⟨S_, .i32⟩
  | 101 => ⟨S1352x1, .i32⟩
  | 102 => ⟨S1352x1, .i1⟩
  | 103 => ⟨S1x1, .i32⟩
  | 104 => ⟨S1352x1, .i32⟩
  | 105 => ⟨S1352x1, .i1⟩
  | 106 => ⟨S1352x1, .i1⟩
  | 107 => ⟨S_, .i1⟩
  | 108 => ⟨S1352, .i1⟩
  | 109 => ⟨S1352x256, .f32⟩
  | 110 => ⟨S1352x256, .i1⟩
  | 111 => ⟨S_, .f32⟩
  | 112 => ⟨S1352x256, .f32⟩
  | 113 => ⟨S1352x256, .f32⟩
  | 114 => ⟨S8x169x256, .f32⟩
  | 115 => ⟨S1024, .f32⟩
  | 116 => ⟨S_, .f32⟩
  | 117 => ⟨S1024, .f32⟩
  | 118 => ⟨S1024, .f32⟩
  | 119 => ⟨S_, .f32⟩
  | 120 => ⟨S1024, .f32⟩
  | 121 => ⟨S1024, .f32⟩
  | 122 => ⟨S_, .f32⟩
  | 123 => ⟨S1024, .f32⟩
  | 124 => ⟨S1024, .f32⟩
  | 125 => ⟨S1024, .f32⟩
  | 126 => ⟨S1024, .i32⟩
  | 127 => ⟨S_, .i32⟩
  | _ => ⟨S8x1024x256, .f32⟩

abbrev hbmTy0_6 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S8x1024x256, .f32⟩
  | 8 => ⟨S8x1024x256, .f32⟩
  | 9 => ⟨S8x1024x256, .f32⟩
  | 10 => ⟨S256, .f32⟩
  | 11 => ⟨S_, .f32⟩
  | 12 => ⟨S256, .f32⟩
  | 13 => ⟨S256, .f32⟩
  | 14 => ⟨S_, .f32⟩
  | 15 => ⟨S256, .f32⟩
  | 16 => ⟨S256, .f32⟩
  | 17 => ⟨S_, .f32⟩
  | 18 => ⟨S256, .f32⟩
  | 19 => ⟨S256, .f32⟩
  | 20 => ⟨S256, .f32⟩
  | 21 => ⟨S256, .i32⟩
  | 22 => ⟨S_, .i32⟩
  | 23 => ⟨S256, .i32⟩
  | 24 => ⟨S256, .i1⟩
  | 25 => ⟨S_, .i32⟩
  | 26 => ⟨S256, .i32⟩
  | 27 => ⟨S256, .i32⟩
  | 28 => ⟨S256, .i32⟩
  | 29 => ⟨S256x1, .i32⟩
  | 30 => ⟨S8x256x256, .f32⟩
  | 31 => ⟨S8x256x256, .f32⟩
  | 32 => ⟨S_, .f32⟩
  | 33 => ⟨S8x256, .f32⟩
  | 34 => ⟨S8x256x1, .f32⟩
  | 35 => ⟨S_, .f32⟩
  | 36 => ⟨S8x256x1, .f32⟩
  | 37 => ⟨S8x256x1, .f32⟩
  | 38 => ⟨S8x256x256, .f32⟩
  | 39 => ⟨S8x256x256, .f32⟩
  | 40 => ⟨S2048x256, .f32⟩
  | 41 => ⟨S256x8192, .f32⟩
  | 42 => ⟨S2048x8192, .f32⟩
  | 43 => ⟨S2048x8192, .i32⟩
  | 44 => ⟨S_, .f32⟩
  | 45 => ⟨S_, .i32⟩
  | 46 => ⟨S2048, .f32⟩
  | 47 => ⟨S2048, .i32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S1, .i32⟩
  | 57 => ⟨S_, .i32⟩
  | 58 => ⟨S2048x1, .i32⟩
  | 59 => ⟨S2048x1, .i1⟩
  | 60 => ⟨S1x1, .i32⟩
  | 61 => ⟨S2048x1, .i32⟩
  | 62 => ⟨S2048x1, .i1⟩
  | 63 => ⟨S2048x1, .i1⟩
  | 64 => ⟨S_, .i1⟩
  | 65 => ⟨S2048, .i1⟩
  | 66 => ⟨S2048x256, .f32⟩
  | 67 => ⟨S2048x256, .i1⟩
  | 68 => ⟨S_, .f32⟩
  | 69 => ⟨S2048x256, .f32⟩
  | 70 => ⟨S2048x256, .f32⟩
  | 71 => ⟨S8x256x256, .f32⟩
  | 72 => ⟨S1024, .f32⟩
  | 73 => ⟨S_, .f32⟩
  | 74 => ⟨S1024, .f32⟩
  | 75 => ⟨S1024, .f32⟩
  | 76 => ⟨S_, .f32⟩
  | 77 => ⟨S1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S1024, .i32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S8x1024x256, .f32⟩
  | 93 => ⟨S8x1024x256, .f32⟩
  | 94 => ⟨S8x1024x256, .f32⟩
  | 95 => ⟨S8x1024x256, .f32⟩
  | 96 => ⟨S_, .f32⟩
  | 97 => ⟨S8x1024, .f32⟩
  | 98 => ⟨S8x1024x1, .f32⟩
  | 99 => ⟨S_, .f32⟩
  | 100 => ⟨S8x1024x1, .f32⟩
  | 101 => ⟨S8x1024x1, .f32⟩
  | 102 => ⟨S8x1024x256, .f32⟩
  | 103 => ⟨S8x1024x256, .f32⟩
  | 104 => ⟨S8192x256, .f32⟩
  | 105 => ⟨S256x8192, .f32⟩
  | 106 => ⟨S8192x8192, .f32⟩
  | 107 => ⟨S8192x8192, .i32⟩
  | 108 => ⟨S_, .f32⟩
  | 109 => ⟨S_, .i32⟩
  | 110 => ⟨S8192, .f32⟩
  | 111 => ⟨S8192, .i32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S1, .i32⟩
  | 121 => ⟨S_, .i32⟩
  | 122 => ⟨S8192x1, .i32⟩
  | 123 => ⟨S8192x1, .i1⟩
  | 124 => ⟨S1x1, .i32⟩
  | 125 => ⟨S8192x1, .i32⟩
  | 126 => ⟨S8192x1, .i1⟩
  | 127 => ⟨S8192x1, .i1⟩
  | _ => ⟨S8x1024x256, .f32⟩

abbrev hbmTy0_7 (i : Nat) : BufTy := match i % 128 with
  | 0 => ⟨S_, .i1⟩
  | 1 => ⟨S8192, .i1⟩
  | 2 => ⟨S8192x256, .f32⟩
  | 3 => ⟨S8192x256, .i1⟩
  | 4 => ⟨S_, .f32⟩
  | 5 => ⟨S8192x256, .f32⟩
  | 6 => ⟨S8192x256, .f32⟩
  | 7 => ⟨S8x1024x256, .f32⟩
  | 8 => ⟨S8x1024x256, .f32⟩
  | 9 => ⟨S8x1024x256, .f32⟩
  | _ => ⟨S8x1024x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x1024x256, .f32⟩

abbrev bufTy : (tb : Table) → Fin (tcTables nBuf tb) → BufTy
  | .hbm, ⟨i, _⟩ => hbmTy i
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_call0_cst_0 : Ref sig .tc := ⟨.hbm, 17, rfl⟩
abbrev main_call0_v3 : Ref sig .tc := ⟨.hbm, 18, rfl⟩
abbrev main_call0_v4 : Ref sig .tc := ⟨.hbm, 19, rfl⟩
abbrev main_call0_cst_1 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_c_2 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call1_v0 : Ref sig .tc := ⟨.hbm, 46, rfl⟩
abbrev main_call1_cst : Ref sig .tc := ⟨.hbm, 47, rfl⟩
abbrev main_call1_c : Ref sig .tc := ⟨.hbm, 48, rfl⟩
abbrev main_call1_v1_0 : Ref sig .tc := ⟨.hbm, 49, rfl⟩
abbrev main_v19 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v20 : Ref sig .tc := ⟨.hbm, 73, rfl⟩
abbrev main_v21 : Ref sig .tc := ⟨.hbm, 74, rfl⟩
abbrev main_call3_v0 : Ref sig .tc := ⟨.hbm, 75, rfl⟩
abbrev main_call3_cst : Ref sig .tc := ⟨.hbm, 76, rfl⟩
abbrev main_call3_v1 : Ref sig .tc := ⟨.hbm, 77, rfl⟩
abbrev main_call3_v2 : Ref sig .tc := ⟨.hbm, 78, rfl⟩
abbrev main_call3_cst_0 : Ref sig .tc := ⟨.hbm, 79, rfl⟩
abbrev main_call3_v3 : Ref sig .tc := ⟨.hbm, 80, rfl⟩
abbrev main_call3_v4 : Ref sig .tc := ⟨.hbm, 81, rfl⟩
abbrev main_call3_cst_1 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_c_2 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_call4_v0 : Ref sig .tc := ⟨.hbm, 98, rfl⟩
abbrev main_call4_cst : Ref sig .tc := ⟨.hbm, 99, rfl⟩
abbrev main_call4_v1 : Ref sig .tc := ⟨.hbm, 100, rfl⟩
abbrev main_call4_v2 : Ref sig .tc := ⟨.hbm, 101, rfl⟩
abbrev main_call4_cst_0 : Ref sig .tc := ⟨.hbm, 102, rfl⟩
abbrev main_call4_v3 : Ref sig .tc := ⟨.hbm, 103, rfl⟩
abbrev main_call4_v4 : Ref sig .tc := ⟨.hbm, 104, rfl⟩
abbrev main_call4_cst_1 : Ref sig .tc := ⟨.hbm, 105, rfl⟩
abbrev main_call4_v5 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_c : Ref sig .tc := ⟨.hbm, 110, rfl⟩
abbrev main_call4_v9 : Ref sig .tc := ⟨.hbm, 111, rfl⟩
abbrev main_call4_v10 : Ref sig .tc := ⟨.hbm, 112, rfl⟩
abbrev main_call4_c_2 : Ref sig .tc := ⟨.hbm, 113, rfl⟩
abbrev main_call4_v11 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_v25 : Ref sig .tc := ⟨.hbm, 118, rfl⟩
abbrev main_v26 : Ref sig .tc := ⟨.hbm, 119, rfl⟩
abbrev main_cst_4 : Ref sig .tc := ⟨.hbm, 120, rfl⟩
abbrev main_v27 : Ref sig .tc := ⟨.hbm, 121, rfl⟩
abbrev main_v28 : Ref sig .tc := ⟨.hbm, 122, rfl⟩
abbrev main_cst_5 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_call5_v0 : Ref sig .tc := ⟨.hbm, 131, rfl⟩
abbrev main_call5_cst : Ref sig .tc := ⟨.hbm, 132, rfl⟩
abbrev main_call5_c : Ref sig .tc := ⟨.hbm, 133, rfl⟩
abbrev main_call5_v1_0 : Ref sig .tc := ⟨.hbm, 134, rfl⟩
abbrev main_v36 : Ref sig .tc := ⟨.hbm, 135, rfl⟩
abbrev main_call6_c : Ref sig .tc := ⟨.hbm, 136, rfl⟩
abbrev main_call6_v0 : Ref sig .tc := ⟨.hbm, 137, rfl⟩
abbrev main_call6_v1 : Ref sig .tc := ⟨.hbm, 138, rfl⟩
abbrev main_call6_c_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_call6_c_1 : Ref sig .tc := ⟨.hbm, 144, rfl⟩
abbrev main_call6_c_2 : Ref sig .tc := ⟨.hbm, 145, rfl⟩
abbrev main_call6_v6 : Ref sig .tc := ⟨.hbm, 146, rfl⟩
abbrev main_call6_v7 : Ref sig .tc := ⟨.hbm, 147, rfl⟩
abbrev main_call6_v8 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_c_3 : Ref sig .tc := ⟨.hbm, 152, rfl⟩
abbrev main_call6_v12 : Ref sig .tc := ⟨.hbm, 153, rfl⟩
abbrev main_call6_v13 : Ref sig .tc := ⟨.hbm, 154, rfl⟩
abbrev main_call6_v14 : Ref sig .tc := ⟨.hbm, 155, rfl⟩
abbrev main_call6_cst : Ref sig .tc := ⟨.hbm, 156, rfl⟩
abbrev main_call6_v15 : Ref sig .tc := ⟨.hbm, 157, rfl⟩
abbrev main_v37 : Ref sig .tc := ⟨.hbm, 158, rfl⟩
abbrev main_v38 : Ref sig .tc := ⟨.hbm, 159, rfl⟩
abbrev main_call7_v0 : Ref sig .tc := ⟨.hbm, 160, rfl⟩
abbrev main_call7_cst : Ref sig .tc := ⟨.hbm, 161, rfl⟩
abbrev main_call7_v1 : Ref sig .tc := ⟨.hbm, 162, rfl⟩
abbrev main_call7_v2 : Ref sig .tc := ⟨.hbm, 163, rfl⟩
abbrev main_call7_cst_0 : Ref sig .tc := ⟨.hbm, 164, rfl⟩
abbrev main_call7_v3 : Ref sig .tc := ⟨.hbm, 165, rfl⟩
abbrev main_call7_v4 : Ref sig .tc := ⟨.hbm, 166, rfl⟩
abbrev main_call7_cst_1 : Ref sig .tc := ⟨.hbm, 167, rfl⟩
abbrev main_call7_v5 : Ref sig .tc := ⟨.hbm, 168, rfl⟩
abbrev main_call7_v6 : Ref sig .tc := ⟨.hbm, 169, rfl⟩
abbrev main_call7_v7 : Ref sig .tc := ⟨.hbm, 170, rfl⟩
abbrev main_call7_v8 : Ref sig .tc := ⟨.hbm, 171, rfl⟩
abbrev main_call7_c : Ref sig .tc := ⟨.hbm, 172, rfl⟩
abbrev main_call7_v9 : Ref sig .tc := ⟨.hbm, 173, rfl⟩
abbrev main_call7_v10 : Ref sig .tc := ⟨.hbm, 174, rfl⟩
abbrev main_call7_c_2 : Ref sig .tc := ⟨.hbm, 175, rfl⟩
abbrev main_call7_v11 : Ref sig .tc := ⟨.hbm, 176, rfl⟩
abbrev main_call7_v12 : Ref sig .tc := ⟨.hbm, 177, rfl⟩
abbrev main_call7_v13 : Ref sig .tc := ⟨.hbm, 178, rfl⟩
abbrev main_call7_v14 : Ref sig .tc := ⟨.hbm, 179, rfl⟩
abbrev main_v39 : Ref sig .tc := ⟨.hbm, 180, rfl⟩
abbrev main_v40 : Ref sig .tc := ⟨.hbm, 181, rfl⟩
abbrev main_v41 : Ref sig .tc := ⟨.hbm, 182, rfl⟩
abbrev main_call8_v0 : Ref sig .tc := ⟨.hbm, 183, rfl⟩
abbrev main_call8_cst : Ref sig .tc := ⟨.hbm, 184, rfl⟩
abbrev main_call8_v1 : Ref sig .tc := ⟨.hbm, 185, rfl⟩
abbrev main_call8_v2 : Ref sig .tc := ⟨.hbm, 186, rfl⟩
abbrev main_call8_cst_0 : Ref sig .tc := ⟨.hbm, 187, rfl⟩
abbrev main_call8_v3 : Ref sig .tc := ⟨.hbm, 188, rfl⟩
abbrev main_call8_v4 : Ref sig .tc := ⟨.hbm, 189, rfl⟩
abbrev main_call8_cst_1 : Ref sig .tc := ⟨.hbm, 190, rfl⟩
abbrev main_call8_v5 : Ref sig .tc := ⟨.hbm, 191, rfl⟩
abbrev main_call8_v6 : Ref sig .tc := ⟨.hbm, 192, rfl⟩
abbrev main_call8_v7 : Ref sig .tc := ⟨.hbm, 193, rfl⟩
abbrev main_call8_v8 : Ref sig .tc := ⟨.hbm, 194, rfl⟩
abbrev main_call8_c : Ref sig .tc := ⟨.hbm, 195, rfl⟩
abbrev main_call8_v9 : Ref sig .tc := ⟨.hbm, 196, rfl⟩
abbrev main_call8_v10 : Ref sig .tc := ⟨.hbm, 197, rfl⟩
abbrev main_call8_c_2 : Ref sig .tc := ⟨.hbm, 198, rfl⟩
abbrev main_call8_v11 : Ref sig .tc := ⟨.hbm, 199, rfl⟩
abbrev main_call8_v12 : Ref sig .tc := ⟨.hbm, 200, rfl⟩
abbrev main_call8_v13 : Ref sig .tc := ⟨.hbm, 201, rfl⟩
abbrev main_call8_v14 : Ref sig .tc := ⟨.hbm, 202, rfl⟩
abbrev main_v42 : Ref sig .tc := ⟨.hbm, 203, rfl⟩
abbrev main_v43 : Ref sig .tc := ⟨.hbm, 204, rfl⟩
abbrev main_cst_6 : Ref sig .tc := ⟨.hbm, 205, rfl⟩
abbrev main_v44 : Ref sig .tc := ⟨.hbm, 206, rfl⟩
abbrev main_v45 : Ref sig .tc := ⟨.hbm, 207, rfl⟩
abbrev main_cst_7 : Ref sig .tc := ⟨.hbm, 208, rfl⟩
abbrev main_v46 : Ref sig .tc := ⟨.hbm, 209, rfl⟩
abbrev main_v47 : Ref sig .tc := ⟨.hbm, 210, rfl⟩
abbrev main_v48 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_v52 : Ref sig .tc := ⟨.hbm, 215, rfl⟩
abbrev main_call9_v0 : Ref sig .tc := ⟨.hbm, 216, rfl⟩
abbrev main_call9_cst : Ref sig .tc := ⟨.hbm, 217, rfl⟩
abbrev main_call9_c : Ref sig .tc := ⟨.hbm, 218, rfl⟩
abbrev main_call9_v1_0 : Ref sig .tc := ⟨.hbm, 219, rfl⟩
abbrev main_v53 : Ref sig .tc := ⟨.hbm, 220, rfl⟩
abbrev main_call10_c : Ref sig .tc := ⟨.hbm, 221, rfl⟩
abbrev main_call10_v0 : Ref sig .tc := ⟨.hbm, 222, rfl⟩
abbrev main_call10_v1 : Ref sig .tc := ⟨.hbm, 223, rfl⟩
abbrev main_call10_c_0 : Ref sig .tc := ⟨.hbm, 224, rfl⟩
abbrev main_call10_v2 : Ref sig .tc := ⟨.hbm, 225, rfl⟩
abbrev main_call10_v3 : Ref sig .tc := ⟨.hbm, 226, rfl⟩
abbrev main_call10_v4 : Ref sig .tc := ⟨.hbm, 227, rfl⟩
abbrev main_call10_v5 : Ref sig .tc := ⟨.hbm, 228, rfl⟩
abbrev main_call10_c_1 : Ref sig .tc := ⟨.hbm, 229, rfl⟩
abbrev main_call10_c_2 : Ref sig .tc := ⟨.hbm, 230, rfl⟩
abbrev main_call10_v6 : Ref sig .tc := ⟨.hbm, 231, rfl⟩
abbrev main_call10_v7 : Ref sig .tc := ⟨.hbm, 232, rfl⟩
abbrev main_call10_v8 : Ref sig .tc := ⟨.hbm, 233, rfl⟩
abbrev main_call10_v9 : Ref sig .tc := ⟨.hbm, 234, rfl⟩
abbrev main_call10_v10 : Ref sig .tc := ⟨.hbm, 235, rfl⟩
abbrev main_call10_v11 : Ref sig .tc := ⟨.hbm, 236, rfl⟩
abbrev main_call10_c_3 : Ref sig .tc := ⟨.hbm, 237, rfl⟩
abbrev main_call10_v12 : Ref sig .tc := ⟨.hbm, 238, rfl⟩
abbrev main_call10_v13 : Ref sig .tc := ⟨.hbm, 239, rfl⟩
abbrev main_call10_v14 : Ref sig .tc := ⟨.hbm, 240, rfl⟩
abbrev main_call10_cst : Ref sig .tc := ⟨.hbm, 241, rfl⟩
abbrev main_call10_v15 : Ref sig .tc := ⟨.hbm, 242, rfl⟩
abbrev main_v54 : Ref sig .tc := ⟨.hbm, 243, rfl⟩
abbrev main_v55 : Ref sig .tc := ⟨.hbm, 244, rfl⟩
abbrev main_call11_v0 : Ref sig .tc := ⟨.hbm, 245, rfl⟩
abbrev main_call11_cst : Ref sig .tc := ⟨.hbm, 246, rfl⟩
abbrev main_call11_v1 : Ref sig .tc := ⟨.hbm, 247, rfl⟩
abbrev main_call11_v2 : Ref sig .tc := ⟨.hbm, 248, rfl⟩
abbrev main_call11_cst_0 : Ref sig .tc := ⟨.hbm, 249, rfl⟩
abbrev main_call11_v3 : Ref sig .tc := ⟨.hbm, 250, rfl⟩
abbrev main_call11_v4 : Ref sig .tc := ⟨.hbm, 251, rfl⟩
abbrev main_call11_cst_1 : Ref sig .tc := ⟨.hbm, 252, rfl⟩
abbrev main_call11_v5 : Ref sig .tc := ⟨.hbm, 253, rfl⟩
abbrev main_call11_v6 : Ref sig .tc := ⟨.hbm, 254, rfl⟩
abbrev main_call11_v7 : Ref sig .tc := ⟨.hbm, 255, rfl⟩
abbrev main_call11_v8 : Ref sig .tc := ⟨.hbm, 256, rfl⟩
abbrev main_call11_c : Ref sig .tc := ⟨.hbm, 257, rfl⟩
abbrev main_call11_v9 : Ref sig .tc := ⟨.hbm, 258, rfl⟩
abbrev main_call11_v10 : Ref sig .tc := ⟨.hbm, 259, rfl⟩
abbrev main_call11_c_2 : Ref sig .tc := ⟨.hbm, 260, rfl⟩
abbrev main_call11_v11 : Ref sig .tc := ⟨.hbm, 261, rfl⟩
abbrev main_call11_v12 : Ref sig .tc := ⟨.hbm, 262, rfl⟩
abbrev main_call11_v13 : Ref sig .tc := ⟨.hbm, 263, rfl⟩
abbrev main_call11_v14 : Ref sig .tc := ⟨.hbm, 264, rfl⟩
abbrev main_v56 : Ref sig .tc := ⟨.hbm, 265, rfl⟩
abbrev main_v57 : Ref sig .tc := ⟨.hbm, 266, rfl⟩
abbrev main_v58 : Ref sig .tc := ⟨.hbm, 267, rfl⟩
abbrev main_call12_v0 : Ref sig .tc := ⟨.hbm, 268, rfl⟩
abbrev main_call12_cst : Ref sig .tc := ⟨.hbm, 269, rfl⟩
abbrev main_call12_v1 : Ref sig .tc := ⟨.hbm, 270, rfl⟩
abbrev main_call12_v2 : Ref sig .tc := ⟨.hbm, 271, rfl⟩
abbrev main_call12_cst_0 : Ref sig .tc := ⟨.hbm, 272, rfl⟩
abbrev main_call12_v3 : Ref sig .tc := ⟨.hbm, 273, rfl⟩
abbrev main_call12_v4 : Ref sig .tc := ⟨.hbm, 274, rfl⟩
abbrev main_call12_cst_1 : Ref sig .tc := ⟨.hbm, 275, rfl⟩
abbrev main_call12_v5 : Ref sig .tc := ⟨.hbm, 276, rfl⟩
abbrev main_call12_v6 : Ref sig .tc := ⟨.hbm, 277, rfl⟩
abbrev main_call12_v7 : Ref sig .tc := ⟨.hbm, 278, rfl⟩
abbrev main_call12_v8 : Ref sig .tc := ⟨.hbm, 279, rfl⟩
abbrev main_call12_c : Ref sig .tc := ⟨.hbm, 280, rfl⟩
abbrev main_call12_v9 : Ref sig .tc := ⟨.hbm, 281, rfl⟩
abbrev main_call12_v10 : Ref sig .tc := ⟨.hbm, 282, rfl⟩
abbrev main_call12_c_2 : Ref sig .tc := ⟨.hbm, 283, rfl⟩
abbrev main_call12_v11 : Ref sig .tc := ⟨.hbm, 284, rfl⟩
abbrev main_call12_v12 : Ref sig .tc := ⟨.hbm, 285, rfl⟩
abbrev main_call12_v13 : Ref sig .tc := ⟨.hbm, 286, rfl⟩
abbrev main_call12_v14 : Ref sig .tc := ⟨.hbm, 287, rfl⟩
abbrev main_v59 : Ref sig .tc := ⟨.hbm, 288, rfl⟩
abbrev main_v60 : Ref sig .tc := ⟨.hbm, 289, rfl⟩
abbrev main_cst_8 : Ref sig .tc := ⟨.hbm, 290, rfl⟩
abbrev main_v61 : Ref sig .tc := ⟨.hbm, 291, rfl⟩
abbrev main_v62 : Ref sig .tc := ⟨.hbm, 292, rfl⟩
abbrev main_cst_9 : Ref sig .tc := ⟨.hbm, 293, rfl⟩
abbrev main_v63 : Ref sig .tc := ⟨.hbm, 294, rfl⟩
abbrev main_v64 : Ref sig .tc := ⟨.hbm, 295, rfl⟩
abbrev main_v65 : Ref sig .tc := ⟨.hbm, 296, rfl⟩
abbrev main_v66 : Ref sig .tc := ⟨.hbm, 297, rfl⟩
abbrev main_v67 : Ref sig .tc := ⟨.hbm, 298, rfl⟩
abbrev main_v68 : Ref sig .tc := ⟨.hbm, 299, rfl⟩
abbrev main_v69 : Ref sig .tc := ⟨.hbm, 300, rfl⟩
abbrev main_call13_v0 : Ref sig .tc := ⟨.hbm, 301, rfl⟩
abbrev main_call13_cst : Ref sig .tc := ⟨.hbm, 302, rfl⟩
abbrev main_call13_c : Ref sig .tc := ⟨.hbm, 303, rfl⟩
abbrev main_call13_v1_0 : Ref sig .tc := ⟨.hbm, 304, rfl⟩
abbrev main_v70 : Ref sig .tc := ⟨.hbm, 305, rfl⟩
abbrev main_call14_c : Ref sig .tc := ⟨.hbm, 306, rfl⟩
abbrev main_call14_v0 : Ref sig .tc := ⟨.hbm, 307, rfl⟩
abbrev main_call14_v1 : Ref sig .tc := ⟨.hbm, 308, rfl⟩
abbrev main_call14_c_0 : Ref sig .tc := ⟨.hbm, 309, rfl⟩
abbrev main_call14_v2 : Ref sig .tc := ⟨.hbm, 310, rfl⟩
abbrev main_call14_v3 : Ref sig .tc := ⟨.hbm, 311, rfl⟩
abbrev main_call14_v4 : Ref sig .tc := ⟨.hbm, 312, rfl⟩
abbrev main_call14_v5 : Ref sig .tc := ⟨.hbm, 313, rfl⟩
abbrev main_call14_c_1 : Ref sig .tc := ⟨.hbm, 314, rfl⟩
abbrev main_call14_c_2 : Ref sig .tc := ⟨.hbm, 315, rfl⟩
abbrev main_call14_v6 : Ref sig .tc := ⟨.hbm, 316, rfl⟩
abbrev main_call14_v7 : Ref sig .tc := ⟨.hbm, 317, rfl⟩
abbrev main_call14_v8 : Ref sig .tc := ⟨.hbm, 318, rfl⟩
abbrev main_call14_v9 : Ref sig .tc := ⟨.hbm, 319, rfl⟩
abbrev main_call14_v10 : Ref sig .tc := ⟨.hbm, 320, rfl⟩
abbrev main_call14_v11 : Ref sig .tc := ⟨.hbm, 321, rfl⟩
abbrev main_call14_c_3 : Ref sig .tc := ⟨.hbm, 322, rfl⟩
abbrev main_call14_v12 : Ref sig .tc := ⟨.hbm, 323, rfl⟩
abbrev main_call14_v13 : Ref sig .tc := ⟨.hbm, 324, rfl⟩
abbrev main_call14_v14 : Ref sig .tc := ⟨.hbm, 325, rfl⟩
abbrev main_call14_cst : Ref sig .tc := ⟨.hbm, 326, rfl⟩
abbrev main_call14_v15 : Ref sig .tc := ⟨.hbm, 327, rfl⟩
abbrev main_v71 : Ref sig .tc := ⟨.hbm, 328, rfl⟩
abbrev main_v72 : Ref sig .tc := ⟨.hbm, 329, rfl⟩
abbrev main_call15_v0 : Ref sig .tc := ⟨.hbm, 330, rfl⟩
abbrev main_call15_cst : Ref sig .tc := ⟨.hbm, 331, rfl⟩
abbrev main_call15_v1 : Ref sig .tc := ⟨.hbm, 332, rfl⟩
abbrev main_call15_v2 : Ref sig .tc := ⟨.hbm, 333, rfl⟩
abbrev main_call15_cst_0 : Ref sig .tc := ⟨.hbm, 334, rfl⟩
abbrev main_call15_v3 : Ref sig .tc := ⟨.hbm, 335, rfl⟩
abbrev main_call15_v4 : Ref sig .tc := ⟨.hbm, 336, rfl⟩
abbrev main_call15_cst_1 : Ref sig .tc := ⟨.hbm, 337, rfl⟩
abbrev main_call15_v5 : Ref sig .tc := ⟨.hbm, 338, rfl⟩
abbrev main_call15_v6 : Ref sig .tc := ⟨.hbm, 339, rfl⟩
abbrev main_call15_v7 : Ref sig .tc := ⟨.hbm, 340, rfl⟩
abbrev main_call15_v8 : Ref sig .tc := ⟨.hbm, 341, rfl⟩
abbrev main_call15_c : Ref sig .tc := ⟨.hbm, 342, rfl⟩
abbrev main_call15_v9 : Ref sig .tc := ⟨.hbm, 343, rfl⟩
abbrev main_call15_v10 : Ref sig .tc := ⟨.hbm, 344, rfl⟩
abbrev main_call15_c_2 : Ref sig .tc := ⟨.hbm, 345, rfl⟩
abbrev main_call15_v11 : Ref sig .tc := ⟨.hbm, 346, rfl⟩
abbrev main_call15_v12 : Ref sig .tc := ⟨.hbm, 347, rfl⟩
abbrev main_call15_v13 : Ref sig .tc := ⟨.hbm, 348, rfl⟩
abbrev main_call15_v14 : Ref sig .tc := ⟨.hbm, 349, rfl⟩
abbrev main_v73 : Ref sig .tc := ⟨.hbm, 350, rfl⟩
abbrev main_v74 : Ref sig .tc := ⟨.hbm, 351, rfl⟩
abbrev main_v75 : Ref sig .tc := ⟨.hbm, 352, rfl⟩
abbrev main_call16_v0 : Ref sig .tc := ⟨.hbm, 353, rfl⟩
abbrev main_call16_cst : Ref sig .tc := ⟨.hbm, 354, rfl⟩
abbrev main_call16_v1 : Ref sig .tc := ⟨.hbm, 355, rfl⟩
abbrev main_call16_v2 : Ref sig .tc := ⟨.hbm, 356, rfl⟩
abbrev main_call16_cst_0 : Ref sig .tc := ⟨.hbm, 357, rfl⟩
abbrev main_call16_v3 : Ref sig .tc := ⟨.hbm, 358, rfl⟩
abbrev main_call16_v4 : Ref sig .tc := ⟨.hbm, 359, rfl⟩
abbrev main_call16_cst_1 : Ref sig .tc := ⟨.hbm, 360, rfl⟩
abbrev main_call16_v5 : Ref sig .tc := ⟨.hbm, 361, rfl⟩
abbrev main_call16_v6 : Ref sig .tc := ⟨.hbm, 362, rfl⟩
abbrev main_call16_v7 : Ref sig .tc := ⟨.hbm, 363, rfl⟩
abbrev main_call16_v8 : Ref sig .tc := ⟨.hbm, 364, rfl⟩
abbrev main_call16_c : Ref sig .tc := ⟨.hbm, 365, rfl⟩
abbrev main_call16_v9 : Ref sig .tc := ⟨.hbm, 366, rfl⟩
abbrev main_call16_v10 : Ref sig .tc := ⟨.hbm, 367, rfl⟩
abbrev main_call16_c_2 : Ref sig .tc := ⟨.hbm, 368, rfl⟩
abbrev main_call16_v11 : Ref sig .tc := ⟨.hbm, 369, rfl⟩
abbrev main_call16_v12 : Ref sig .tc := ⟨.hbm, 370, rfl⟩
abbrev main_call16_v13 : Ref sig .tc := ⟨.hbm, 371, rfl⟩
abbrev main_call16_v14 : Ref sig .tc := ⟨.hbm, 372, rfl⟩
abbrev main_v76 : Ref sig .tc := ⟨.hbm, 373, rfl⟩
abbrev main_v77 : Ref sig .tc := ⟨.hbm, 374, rfl⟩
abbrev main_cst_10 : Ref sig .tc := ⟨.hbm, 375, rfl⟩
abbrev main_v78 : Ref sig .tc := ⟨.hbm, 376, rfl⟩
abbrev main_v79 : Ref sig .tc := ⟨.hbm, 377, rfl⟩
abbrev main_cst_11 : Ref sig .tc := ⟨.hbm, 378, rfl⟩
abbrev main_v80 : Ref sig .tc := ⟨.hbm, 379, rfl⟩
abbrev main_v81 : Ref sig .tc := ⟨.hbm, 380, rfl⟩
abbrev main_v82 : Ref sig .tc := ⟨.hbm, 381, rfl⟩
abbrev main_v83 : Ref sig .tc := ⟨.hbm, 382, rfl⟩
abbrev main_v84 : Ref sig .tc := ⟨.hbm, 383, rfl⟩
abbrev main_v85 : Ref sig .tc := ⟨.hbm, 384, rfl⟩
abbrev main_v86 : Ref sig .tc := ⟨.hbm, 385, rfl⟩
abbrev main_call17_v0 : Ref sig .tc := ⟨.hbm, 386, rfl⟩
abbrev main_call17_cst : Ref sig .tc := ⟨.hbm, 387, rfl⟩
abbrev main_call17_c : Ref sig .tc := ⟨.hbm, 388, rfl⟩
abbrev main_call17_v1_0 : Ref sig .tc := ⟨.hbm, 389, rfl⟩
abbrev main_v87 : Ref sig .tc := ⟨.hbm, 390, rfl⟩
abbrev main_call18_c : Ref sig .tc := ⟨.hbm, 391, rfl⟩
abbrev main_call18_v0 : Ref sig .tc := ⟨.hbm, 392, rfl⟩
abbrev main_call18_v1 : Ref sig .tc := ⟨.hbm, 393, rfl⟩
abbrev main_call18_c_0 : Ref sig .tc := ⟨.hbm, 394, rfl⟩
abbrev main_call18_v2 : Ref sig .tc := ⟨.hbm, 395, rfl⟩
abbrev main_call18_v3 : Ref sig .tc := ⟨.hbm, 396, rfl⟩
abbrev main_call18_v4 : Ref sig .tc := ⟨.hbm, 397, rfl⟩
abbrev main_call18_v5 : Ref sig .tc := ⟨.hbm, 398, rfl⟩
abbrev main_call18_c_1 : Ref sig .tc := ⟨.hbm, 399, rfl⟩
abbrev main_call18_c_2 : Ref sig .tc := ⟨.hbm, 400, rfl⟩
abbrev main_call18_v6 : Ref sig .tc := ⟨.hbm, 401, rfl⟩
abbrev main_call18_v7 : Ref sig .tc := ⟨.hbm, 402, rfl⟩
abbrev main_call18_v8 : Ref sig .tc := ⟨.hbm, 403, rfl⟩
abbrev main_call18_v9 : Ref sig .tc := ⟨.hbm, 404, rfl⟩
abbrev main_call18_v10 : Ref sig .tc := ⟨.hbm, 405, rfl⟩
abbrev main_call18_v11 : Ref sig .tc := ⟨.hbm, 406, rfl⟩
abbrev main_call18_c_3 : Ref sig .tc := ⟨.hbm, 407, rfl⟩
abbrev main_call18_v12 : Ref sig .tc := ⟨.hbm, 408, rfl⟩
abbrev main_call18_v13 : Ref sig .tc := ⟨.hbm, 409, rfl⟩
abbrev main_call18_v14 : Ref sig .tc := ⟨.hbm, 410, rfl⟩
abbrev main_call18_cst : Ref sig .tc := ⟨.hbm, 411, rfl⟩
abbrev main_call18_v15 : Ref sig .tc := ⟨.hbm, 412, rfl⟩
abbrev main_v88 : Ref sig .tc := ⟨.hbm, 413, rfl⟩
abbrev main_v89 : Ref sig .tc := ⟨.hbm, 414, rfl⟩
abbrev main_call19_v0 : Ref sig .tc := ⟨.hbm, 415, rfl⟩
abbrev main_call19_cst : Ref sig .tc := ⟨.hbm, 416, rfl⟩
abbrev main_call19_v1 : Ref sig .tc := ⟨.hbm, 417, rfl⟩
abbrev main_call19_v2 : Ref sig .tc := ⟨.hbm, 418, rfl⟩
abbrev main_call19_cst_0 : Ref sig .tc := ⟨.hbm, 419, rfl⟩
abbrev main_call19_v3 : Ref sig .tc := ⟨.hbm, 420, rfl⟩
abbrev main_call19_v4 : Ref sig .tc := ⟨.hbm, 421, rfl⟩
abbrev main_call19_cst_1 : Ref sig .tc := ⟨.hbm, 422, rfl⟩
abbrev main_call19_v5 : Ref sig .tc := ⟨.hbm, 423, rfl⟩
abbrev main_call19_v6 : Ref sig .tc := ⟨.hbm, 424, rfl⟩
abbrev main_call19_v7 : Ref sig .tc := ⟨.hbm, 425, rfl⟩
abbrev main_call19_v8 : Ref sig .tc := ⟨.hbm, 426, rfl⟩
abbrev main_call19_c : Ref sig .tc := ⟨.hbm, 427, rfl⟩
abbrev main_call19_v9 : Ref sig .tc := ⟨.hbm, 428, rfl⟩
abbrev main_call19_v10 : Ref sig .tc := ⟨.hbm, 429, rfl⟩
abbrev main_call19_c_2 : Ref sig .tc := ⟨.hbm, 430, rfl⟩
abbrev main_call19_v11 : Ref sig .tc := ⟨.hbm, 431, rfl⟩
abbrev main_call19_v12 : Ref sig .tc := ⟨.hbm, 432, rfl⟩
abbrev main_call19_v13 : Ref sig .tc := ⟨.hbm, 433, rfl⟩
abbrev main_call19_v14 : Ref sig .tc := ⟨.hbm, 434, rfl⟩
abbrev main_v90 : Ref sig .tc := ⟨.hbm, 435, rfl⟩
abbrev main_v91 : Ref sig .tc := ⟨.hbm, 436, rfl⟩
abbrev main_v92 : Ref sig .tc := ⟨.hbm, 437, rfl⟩
abbrev main_call20_v0 : Ref sig .tc := ⟨.hbm, 438, rfl⟩
abbrev main_call20_cst : Ref sig .tc := ⟨.hbm, 439, rfl⟩
abbrev main_call20_v1 : Ref sig .tc := ⟨.hbm, 440, rfl⟩
abbrev main_call20_v2 : Ref sig .tc := ⟨.hbm, 441, rfl⟩
abbrev main_call20_cst_0 : Ref sig .tc := ⟨.hbm, 442, rfl⟩
abbrev main_call20_v3 : Ref sig .tc := ⟨.hbm, 443, rfl⟩
abbrev main_call20_v4 : Ref sig .tc := ⟨.hbm, 444, rfl⟩
abbrev main_call20_cst_1 : Ref sig .tc := ⟨.hbm, 445, rfl⟩
abbrev main_call20_v5 : Ref sig .tc := ⟨.hbm, 446, rfl⟩
abbrev main_call20_v6 : Ref sig .tc := ⟨.hbm, 447, rfl⟩
abbrev main_call20_v7 : Ref sig .tc := ⟨.hbm, 448, rfl⟩
abbrev main_call20_v8 : Ref sig .tc := ⟨.hbm, 449, rfl⟩
abbrev main_call20_c : Ref sig .tc := ⟨.hbm, 450, rfl⟩
abbrev main_call20_v9 : Ref sig .tc := ⟨.hbm, 451, rfl⟩
abbrev main_call20_v10 : Ref sig .tc := ⟨.hbm, 452, rfl⟩
abbrev main_call20_c_2 : Ref sig .tc := ⟨.hbm, 453, rfl⟩
abbrev main_call20_v11 : Ref sig .tc := ⟨.hbm, 454, rfl⟩
abbrev main_call20_v12 : Ref sig .tc := ⟨.hbm, 455, rfl⟩
abbrev main_call20_v13 : Ref sig .tc := ⟨.hbm, 456, rfl⟩
abbrev main_call20_v14 : Ref sig .tc := ⟨.hbm, 457, rfl⟩
abbrev main_v93 : Ref sig .tc := ⟨.hbm, 458, rfl⟩
abbrev main_v94 : Ref sig .tc := ⟨.hbm, 459, rfl⟩
abbrev main_cst_12 : Ref sig .tc := ⟨.hbm, 460, rfl⟩
abbrev main_v95 : Ref sig .tc := ⟨.hbm, 461, rfl⟩
abbrev main_v96 : Ref sig .tc := ⟨.hbm, 462, rfl⟩
abbrev main_cst_13 : Ref sig .tc := ⟨.hbm, 463, rfl⟩
abbrev main_v97 : Ref sig .tc := ⟨.hbm, 464, rfl⟩
abbrev main_v98 : Ref sig .tc := ⟨.hbm, 465, rfl⟩
abbrev main_v99 : Ref sig .tc := ⟨.hbm, 466, rfl⟩
abbrev main_v100 : Ref sig .tc := ⟨.hbm, 467, rfl⟩
abbrev main_v101 : Ref sig .tc := ⟨.hbm, 468, rfl⟩
abbrev main_v102 : Ref sig .tc := ⟨.hbm, 469, rfl⟩
abbrev main_v103 : Ref sig .tc := ⟨.hbm, 470, rfl⟩
abbrev main_call21_v0 : Ref sig .tc := ⟨.hbm, 471, rfl⟩
abbrev main_call21_cst : Ref sig .tc := ⟨.hbm, 472, rfl⟩
abbrev main_call21_c : Ref sig .tc := ⟨.hbm, 473, rfl⟩
abbrev main_call21_v1_0 : Ref sig .tc := ⟨.hbm, 474, rfl⟩
abbrev main_v104 : Ref sig .tc := ⟨.hbm, 475, rfl⟩
abbrev main_call22_c : Ref sig .tc := ⟨.hbm, 476, rfl⟩
abbrev main_call22_v0 : Ref sig .tc := ⟨.hbm, 477, rfl⟩
abbrev main_call22_v1 : Ref sig .tc := ⟨.hbm, 478, rfl⟩
abbrev main_call22_c_0 : Ref sig .tc := ⟨.hbm, 479, rfl⟩
abbrev main_call22_v2 : Ref sig .tc := ⟨.hbm, 480, rfl⟩
abbrev main_call22_v3 : Ref sig .tc := ⟨.hbm, 481, rfl⟩
abbrev main_call22_v4 : Ref sig .tc := ⟨.hbm, 482, rfl⟩
abbrev main_call22_v5 : Ref sig .tc := ⟨.hbm, 483, rfl⟩
abbrev main_call22_c_1 : Ref sig .tc := ⟨.hbm, 484, rfl⟩
abbrev main_call22_c_2 : Ref sig .tc := ⟨.hbm, 485, rfl⟩
abbrev main_call22_v6 : Ref sig .tc := ⟨.hbm, 486, rfl⟩
abbrev main_call22_v7 : Ref sig .tc := ⟨.hbm, 487, rfl⟩
abbrev main_call22_v8 : Ref sig .tc := ⟨.hbm, 488, rfl⟩
abbrev main_call22_v9 : Ref sig .tc := ⟨.hbm, 489, rfl⟩
abbrev main_call22_v10 : Ref sig .tc := ⟨.hbm, 490, rfl⟩
abbrev main_call22_v11 : Ref sig .tc := ⟨.hbm, 491, rfl⟩
abbrev main_call22_c_3 : Ref sig .tc := ⟨.hbm, 492, rfl⟩
abbrev main_call22_v12 : Ref sig .tc := ⟨.hbm, 493, rfl⟩
abbrev main_call22_v13 : Ref sig .tc := ⟨.hbm, 494, rfl⟩
abbrev main_call22_v14 : Ref sig .tc := ⟨.hbm, 495, rfl⟩
abbrev main_call22_cst : Ref sig .tc := ⟨.hbm, 496, rfl⟩
abbrev main_call22_v15 : Ref sig .tc := ⟨.hbm, 497, rfl⟩
abbrev main_v105 : Ref sig .tc := ⟨.hbm, 498, rfl⟩
abbrev main_v106 : Ref sig .tc := ⟨.hbm, 499, rfl⟩
abbrev main_call23_v0 : Ref sig .tc := ⟨.hbm, 500, rfl⟩
abbrev main_call23_cst : Ref sig .tc := ⟨.hbm, 501, rfl⟩
abbrev main_call23_v1 : Ref sig .tc := ⟨.hbm, 502, rfl⟩
abbrev main_call23_v2 : Ref sig .tc := ⟨.hbm, 503, rfl⟩
abbrev main_call23_cst_0 : Ref sig .tc := ⟨.hbm, 504, rfl⟩
abbrev main_call23_v3 : Ref sig .tc := ⟨.hbm, 505, rfl⟩
abbrev main_call23_v4 : Ref sig .tc := ⟨.hbm, 506, rfl⟩
abbrev main_call23_cst_1 : Ref sig .tc := ⟨.hbm, 507, rfl⟩
abbrev main_call23_v5 : Ref sig .tc := ⟨.hbm, 508, rfl⟩
abbrev main_call23_v6 : Ref sig .tc := ⟨.hbm, 509, rfl⟩
abbrev main_call23_v7 : Ref sig .tc := ⟨.hbm, 510, rfl⟩
abbrev main_call23_v8 : Ref sig .tc := ⟨.hbm, 511, rfl⟩
abbrev main_call23_c : Ref sig .tc := ⟨.hbm, 512, rfl⟩
abbrev main_call23_v9 : Ref sig .tc := ⟨.hbm, 513, rfl⟩
abbrev main_call23_v10 : Ref sig .tc := ⟨.hbm, 514, rfl⟩
abbrev main_call23_c_2 : Ref sig .tc := ⟨.hbm, 515, rfl⟩
abbrev main_call23_v11 : Ref sig .tc := ⟨.hbm, 516, rfl⟩
abbrev main_call23_v12 : Ref sig .tc := ⟨.hbm, 517, rfl⟩
abbrev main_call23_v13 : Ref sig .tc := ⟨.hbm, 518, rfl⟩
abbrev main_call23_v14 : Ref sig .tc := ⟨.hbm, 519, rfl⟩
abbrev main_v107 : Ref sig .tc := ⟨.hbm, 520, rfl⟩
abbrev main_v108 : Ref sig .tc := ⟨.hbm, 521, rfl⟩
abbrev main_v109 : Ref sig .tc := ⟨.hbm, 522, rfl⟩
abbrev main_call24_v0 : Ref sig .tc := ⟨.hbm, 523, rfl⟩
abbrev main_call24_cst : Ref sig .tc := ⟨.hbm, 524, rfl⟩
abbrev main_call24_v1 : Ref sig .tc := ⟨.hbm, 525, rfl⟩
abbrev main_call24_v2 : Ref sig .tc := ⟨.hbm, 526, rfl⟩
abbrev main_call24_cst_0 : Ref sig .tc := ⟨.hbm, 527, rfl⟩
abbrev main_call24_v3 : Ref sig .tc := ⟨.hbm, 528, rfl⟩
abbrev main_call24_v4 : Ref sig .tc := ⟨.hbm, 529, rfl⟩
abbrev main_call24_cst_1 : Ref sig .tc := ⟨.hbm, 530, rfl⟩
abbrev main_call24_v5 : Ref sig .tc := ⟨.hbm, 531, rfl⟩
abbrev main_call24_v6 : Ref sig .tc := ⟨.hbm, 532, rfl⟩
abbrev main_call24_v7 : Ref sig .tc := ⟨.hbm, 533, rfl⟩
abbrev main_call24_v8 : Ref sig .tc := ⟨.hbm, 534, rfl⟩
abbrev main_call24_c : Ref sig .tc := ⟨.hbm, 535, rfl⟩
abbrev main_call24_v9 : Ref sig .tc := ⟨.hbm, 536, rfl⟩
abbrev main_call24_v10 : Ref sig .tc := ⟨.hbm, 537, rfl⟩
abbrev main_call24_c_2 : Ref sig .tc := ⟨.hbm, 538, rfl⟩
abbrev main_call24_v11 : Ref sig .tc := ⟨.hbm, 539, rfl⟩
abbrev main_call24_v12 : Ref sig .tc := ⟨.hbm, 540, rfl⟩
abbrev main_call24_v13 : Ref sig .tc := ⟨.hbm, 541, rfl⟩
abbrev main_call24_v14 : Ref sig .tc := ⟨.hbm, 542, rfl⟩
abbrev main_v110 : Ref sig .tc := ⟨.hbm, 543, rfl⟩
abbrev main_v111 : Ref sig .tc := ⟨.hbm, 544, rfl⟩
abbrev main_cst_14 : Ref sig .tc := ⟨.hbm, 545, rfl⟩
abbrev main_v112 : Ref sig .tc := ⟨.hbm, 546, rfl⟩
abbrev main_v113 : Ref sig .tc := ⟨.hbm, 547, rfl⟩
abbrev main_cst_15 : Ref sig .tc := ⟨.hbm, 548, rfl⟩
abbrev main_v114 : Ref sig .tc := ⟨.hbm, 549, rfl⟩
abbrev main_v115 : Ref sig .tc := ⟨.hbm, 550, rfl⟩
abbrev main_v116 : Ref sig .tc := ⟨.hbm, 551, rfl⟩
abbrev main_v117 : Ref sig .tc := ⟨.hbm, 552, rfl⟩
abbrev main_v118 : Ref sig .tc := ⟨.hbm, 553, rfl⟩
abbrev main_v119 : Ref sig .tc := ⟨.hbm, 554, rfl⟩
abbrev main_v120 : Ref sig .tc := ⟨.hbm, 555, rfl⟩
abbrev main_call25_v0 : Ref sig .tc := ⟨.hbm, 556, rfl⟩
abbrev main_call25_cst : Ref sig .tc := ⟨.hbm, 557, rfl⟩
abbrev main_call25_c : Ref sig .tc := ⟨.hbm, 558, rfl⟩
abbrev main_call25_v1_0 : Ref sig .tc := ⟨.hbm, 559, rfl⟩
abbrev main_v121 : Ref sig .tc := ⟨.hbm, 560, rfl⟩
abbrev main_call26_c : Ref sig .tc := ⟨.hbm, 561, rfl⟩
abbrev main_call26_v0 : Ref sig .tc := ⟨.hbm, 562, rfl⟩
abbrev main_call26_v1 : Ref sig .tc := ⟨.hbm, 563, rfl⟩
abbrev main_call26_c_0 : Ref sig .tc := ⟨.hbm, 564, rfl⟩
abbrev main_call26_v2 : Ref sig .tc := ⟨.hbm, 565, rfl⟩
abbrev main_call26_v3 : Ref sig .tc := ⟨.hbm, 566, rfl⟩
abbrev main_call26_v4 : Ref sig .tc := ⟨.hbm, 567, rfl⟩
abbrev main_call26_v5 : Ref sig .tc := ⟨.hbm, 568, rfl⟩
abbrev main_call26_c_1 : Ref sig .tc := ⟨.hbm, 569, rfl⟩
abbrev main_call26_c_2 : Ref sig .tc := ⟨.hbm, 570, rfl⟩
abbrev main_call26_v6 : Ref sig .tc := ⟨.hbm, 571, rfl⟩
abbrev main_call26_v7 : Ref sig .tc := ⟨.hbm, 572, rfl⟩
abbrev main_call26_v8 : Ref sig .tc := ⟨.hbm, 573, rfl⟩
abbrev main_call26_v9 : Ref sig .tc := ⟨.hbm, 574, rfl⟩
abbrev main_call26_v10 : Ref sig .tc := ⟨.hbm, 575, rfl⟩
abbrev main_call26_v11 : Ref sig .tc := ⟨.hbm, 576, rfl⟩
abbrev main_call26_c_3 : Ref sig .tc := ⟨.hbm, 577, rfl⟩
abbrev main_call26_v12 : Ref sig .tc := ⟨.hbm, 578, rfl⟩
abbrev main_call26_v13 : Ref sig .tc := ⟨.hbm, 579, rfl⟩
abbrev main_call26_v14 : Ref sig .tc := ⟨.hbm, 580, rfl⟩
abbrev main_call26_cst : Ref sig .tc := ⟨.hbm, 581, rfl⟩
abbrev main_call26_v15 : Ref sig .tc := ⟨.hbm, 582, rfl⟩
abbrev main_v122 : Ref sig .tc := ⟨.hbm, 583, rfl⟩
abbrev main_v123 : Ref sig .tc := ⟨.hbm, 584, rfl⟩
abbrev main_call27_v0 : Ref sig .tc := ⟨.hbm, 585, rfl⟩
abbrev main_call27_cst : Ref sig .tc := ⟨.hbm, 586, rfl⟩
abbrev main_call27_v1 : Ref sig .tc := ⟨.hbm, 587, rfl⟩
abbrev main_call27_v2 : Ref sig .tc := ⟨.hbm, 588, rfl⟩
abbrev main_call27_cst_0 : Ref sig .tc := ⟨.hbm, 589, rfl⟩
abbrev main_call27_v3 : Ref sig .tc := ⟨.hbm, 590, rfl⟩
abbrev main_call27_v4 : Ref sig .tc := ⟨.hbm, 591, rfl⟩
abbrev main_call27_cst_1 : Ref sig .tc := ⟨.hbm, 592, rfl⟩
abbrev main_call27_v5 : Ref sig .tc := ⟨.hbm, 593, rfl⟩
abbrev main_call27_v6 : Ref sig .tc := ⟨.hbm, 594, rfl⟩
abbrev main_call27_v7 : Ref sig .tc := ⟨.hbm, 595, rfl⟩
abbrev main_call27_v8 : Ref sig .tc := ⟨.hbm, 596, rfl⟩
abbrev main_call27_c : Ref sig .tc := ⟨.hbm, 597, rfl⟩
abbrev main_call27_v9 : Ref sig .tc := ⟨.hbm, 598, rfl⟩
abbrev main_call27_v10 : Ref sig .tc := ⟨.hbm, 599, rfl⟩
abbrev main_call27_c_2 : Ref sig .tc := ⟨.hbm, 600, rfl⟩
abbrev main_call27_v11 : Ref sig .tc := ⟨.hbm, 601, rfl⟩
abbrev main_call27_v12 : Ref sig .tc := ⟨.hbm, 602, rfl⟩
abbrev main_call27_v13 : Ref sig .tc := ⟨.hbm, 603, rfl⟩
abbrev main_call27_v14 : Ref sig .tc := ⟨.hbm, 604, rfl⟩
abbrev main_v124 : Ref sig .tc := ⟨.hbm, 605, rfl⟩
abbrev main_v125 : Ref sig .tc := ⟨.hbm, 606, rfl⟩
abbrev main_v126 : Ref sig .tc := ⟨.hbm, 607, rfl⟩
abbrev main_call28_v0 : Ref sig .tc := ⟨.hbm, 608, rfl⟩
abbrev main_call28_cst : Ref sig .tc := ⟨.hbm, 609, rfl⟩
abbrev main_call28_v1 : Ref sig .tc := ⟨.hbm, 610, rfl⟩
abbrev main_call28_v2 : Ref sig .tc := ⟨.hbm, 611, rfl⟩
abbrev main_call28_cst_0 : Ref sig .tc := ⟨.hbm, 612, rfl⟩
abbrev main_call28_v3 : Ref sig .tc := ⟨.hbm, 613, rfl⟩
abbrev main_call28_v4 : Ref sig .tc := ⟨.hbm, 614, rfl⟩
abbrev main_call28_cst_1 : Ref sig .tc := ⟨.hbm, 615, rfl⟩
abbrev main_call28_v5 : Ref sig .tc := ⟨.hbm, 616, rfl⟩
abbrev main_call28_v6 : Ref sig .tc := ⟨.hbm, 617, rfl⟩
abbrev main_call28_v7 : Ref sig .tc := ⟨.hbm, 618, rfl⟩
abbrev main_call28_v8 : Ref sig .tc := ⟨.hbm, 619, rfl⟩
abbrev main_call28_c : Ref sig .tc := ⟨.hbm, 620, rfl⟩
abbrev main_call28_v9 : Ref sig .tc := ⟨.hbm, 621, rfl⟩
abbrev main_call28_v10 : Ref sig .tc := ⟨.hbm, 622, rfl⟩
abbrev main_call28_c_2 : Ref sig .tc := ⟨.hbm, 623, rfl⟩
abbrev main_call28_v11 : Ref sig .tc := ⟨.hbm, 624, rfl⟩
abbrev main_call28_v12 : Ref sig .tc := ⟨.hbm, 625, rfl⟩
abbrev main_call28_v13 : Ref sig .tc := ⟨.hbm, 626, rfl⟩
abbrev main_call28_v14 : Ref sig .tc := ⟨.hbm, 627, rfl⟩
abbrev main_v127 : Ref sig .tc := ⟨.hbm, 628, rfl⟩
abbrev main_v128 : Ref sig .tc := ⟨.hbm, 629, rfl⟩
abbrev main_cst_16 : Ref sig .tc := ⟨.hbm, 630, rfl⟩
abbrev main_v129 : Ref sig .tc := ⟨.hbm, 631, rfl⟩
abbrev main_v130 : Ref sig .tc := ⟨.hbm, 632, rfl⟩
abbrev main_cst_17 : Ref sig .tc := ⟨.hbm, 633, rfl⟩
abbrev main_v131 : Ref sig .tc := ⟨.hbm, 634, rfl⟩
abbrev main_v132 : Ref sig .tc := ⟨.hbm, 635, rfl⟩
abbrev main_v133 : Ref sig .tc := ⟨.hbm, 636, rfl⟩
abbrev main_v134 : Ref sig .tc := ⟨.hbm, 637, rfl⟩
abbrev main_v135 : Ref sig .tc := ⟨.hbm, 638, rfl⟩
abbrev main_v136 : Ref sig .tc := ⟨.hbm, 639, rfl⟩
abbrev main_v137 : Ref sig .tc := ⟨.hbm, 640, rfl⟩
abbrev main_call29_v0 : Ref sig .tc := ⟨.hbm, 641, rfl⟩
abbrev main_call29_cst : Ref sig .tc := ⟨.hbm, 642, rfl⟩
abbrev main_call29_c : Ref sig .tc := ⟨.hbm, 643, rfl⟩
abbrev main_call29_v1_0 : Ref sig .tc := ⟨.hbm, 644, rfl⟩
abbrev main_v138 : Ref sig .tc := ⟨.hbm, 645, rfl⟩
abbrev main_call30_c : Ref sig .tc := ⟨.hbm, 646, rfl⟩
abbrev main_call30_v0 : Ref sig .tc := ⟨.hbm, 647, rfl⟩
abbrev main_call30_v1 : Ref sig .tc := ⟨.hbm, 648, rfl⟩
abbrev main_call30_c_0 : Ref sig .tc := ⟨.hbm, 649, rfl⟩
abbrev main_call30_v2 : Ref sig .tc := ⟨.hbm, 650, rfl⟩
abbrev main_call30_v3 : Ref sig .tc := ⟨.hbm, 651, rfl⟩
abbrev main_call30_v4 : Ref sig .tc := ⟨.hbm, 652, rfl⟩
abbrev main_call30_v5 : Ref sig .tc := ⟨.hbm, 653, rfl⟩
abbrev main_call30_c_1 : Ref sig .tc := ⟨.hbm, 654, rfl⟩
abbrev main_call30_c_2 : Ref sig .tc := ⟨.hbm, 655, rfl⟩
abbrev main_call30_v6 : Ref sig .tc := ⟨.hbm, 656, rfl⟩
abbrev main_call30_v7 : Ref sig .tc := ⟨.hbm, 657, rfl⟩
abbrev main_call30_v8 : Ref sig .tc := ⟨.hbm, 658, rfl⟩
abbrev main_call30_v9 : Ref sig .tc := ⟨.hbm, 659, rfl⟩
abbrev main_call30_v10 : Ref sig .tc := ⟨.hbm, 660, rfl⟩
abbrev main_call30_v11 : Ref sig .tc := ⟨.hbm, 661, rfl⟩
abbrev main_call30_c_3 : Ref sig .tc := ⟨.hbm, 662, rfl⟩
abbrev main_call30_v12 : Ref sig .tc := ⟨.hbm, 663, rfl⟩
abbrev main_call30_v13 : Ref sig .tc := ⟨.hbm, 664, rfl⟩
abbrev main_call30_v14 : Ref sig .tc := ⟨.hbm, 665, rfl⟩
abbrev main_call30_cst : Ref sig .tc := ⟨.hbm, 666, rfl⟩
abbrev main_call30_v15 : Ref sig .tc := ⟨.hbm, 667, rfl⟩
abbrev main_v139 : Ref sig .tc := ⟨.hbm, 668, rfl⟩
abbrev main_v140 : Ref sig .tc := ⟨.hbm, 669, rfl⟩
abbrev main_call31_v0 : Ref sig .tc := ⟨.hbm, 670, rfl⟩
abbrev main_call31_cst : Ref sig .tc := ⟨.hbm, 671, rfl⟩
abbrev main_call31_v1 : Ref sig .tc := ⟨.hbm, 672, rfl⟩
abbrev main_call31_v2 : Ref sig .tc := ⟨.hbm, 673, rfl⟩
abbrev main_call31_cst_0 : Ref sig .tc := ⟨.hbm, 674, rfl⟩
abbrev main_call31_v3 : Ref sig .tc := ⟨.hbm, 675, rfl⟩
abbrev main_call31_v4 : Ref sig .tc := ⟨.hbm, 676, rfl⟩
abbrev main_call31_cst_1 : Ref sig .tc := ⟨.hbm, 677, rfl⟩
abbrev main_call31_v5 : Ref sig .tc := ⟨.hbm, 678, rfl⟩
abbrev main_call31_v6 : Ref sig .tc := ⟨.hbm, 679, rfl⟩
abbrev main_call31_v7 : Ref sig .tc := ⟨.hbm, 680, rfl⟩
abbrev main_call31_v8 : Ref sig .tc := ⟨.hbm, 681, rfl⟩
abbrev main_call31_c : Ref sig .tc := ⟨.hbm, 682, rfl⟩
abbrev main_call31_v9 : Ref sig .tc := ⟨.hbm, 683, rfl⟩
abbrev main_call31_v10 : Ref sig .tc := ⟨.hbm, 684, rfl⟩
abbrev main_call31_c_2 : Ref sig .tc := ⟨.hbm, 685, rfl⟩
abbrev main_call31_v11 : Ref sig .tc := ⟨.hbm, 686, rfl⟩
abbrev main_call31_v12 : Ref sig .tc := ⟨.hbm, 687, rfl⟩
abbrev main_call31_v13 : Ref sig .tc := ⟨.hbm, 688, rfl⟩
abbrev main_call31_v14 : Ref sig .tc := ⟨.hbm, 689, rfl⟩
abbrev main_v141 : Ref sig .tc := ⟨.hbm, 690, rfl⟩
abbrev main_v142 : Ref sig .tc := ⟨.hbm, 691, rfl⟩
abbrev main_v143 : Ref sig .tc := ⟨.hbm, 692, rfl⟩
abbrev main_call32_v0 : Ref sig .tc := ⟨.hbm, 693, rfl⟩
abbrev main_call32_cst : Ref sig .tc := ⟨.hbm, 694, rfl⟩
abbrev main_call32_v1 : Ref sig .tc := ⟨.hbm, 695, rfl⟩
abbrev main_call32_v2 : Ref sig .tc := ⟨.hbm, 696, rfl⟩
abbrev main_call32_cst_0 : Ref sig .tc := ⟨.hbm, 697, rfl⟩
abbrev main_call32_v3 : Ref sig .tc := ⟨.hbm, 698, rfl⟩
abbrev main_call32_v4 : Ref sig .tc := ⟨.hbm, 699, rfl⟩
abbrev main_call32_cst_1 : Ref sig .tc := ⟨.hbm, 700, rfl⟩
abbrev main_call32_v5 : Ref sig .tc := ⟨.hbm, 701, rfl⟩
abbrev main_call32_v6 : Ref sig .tc := ⟨.hbm, 702, rfl⟩
abbrev main_call32_v7 : Ref sig .tc := ⟨.hbm, 703, rfl⟩
abbrev main_call32_v8 : Ref sig .tc := ⟨.hbm, 704, rfl⟩
abbrev main_call32_c : Ref sig .tc := ⟨.hbm, 705, rfl⟩
abbrev main_call32_v9 : Ref sig .tc := ⟨.hbm, 706, rfl⟩
abbrev main_call32_v10 : Ref sig .tc := ⟨.hbm, 707, rfl⟩
abbrev main_call32_c_2 : Ref sig .tc := ⟨.hbm, 708, rfl⟩
abbrev main_call32_v11 : Ref sig .tc := ⟨.hbm, 709, rfl⟩
abbrev main_call32_v12 : Ref sig .tc := ⟨.hbm, 710, rfl⟩
abbrev main_call32_v13 : Ref sig .tc := ⟨.hbm, 711, rfl⟩
abbrev main_call32_v14 : Ref sig .tc := ⟨.hbm, 712, rfl⟩
abbrev main_v144 : Ref sig .tc := ⟨.hbm, 713, rfl⟩
abbrev main_v145 : Ref sig .tc := ⟨.hbm, 714, rfl⟩
abbrev main_cst_18 : Ref sig .tc := ⟨.hbm, 715, rfl⟩
abbrev main_v146 : Ref sig .tc := ⟨.hbm, 716, rfl⟩
abbrev main_v147 : Ref sig .tc := ⟨.hbm, 717, rfl⟩
abbrev main_cst_19 : Ref sig .tc := ⟨.hbm, 718, rfl⟩
abbrev main_v148 : Ref sig .tc := ⟨.hbm, 719, rfl⟩
abbrev main_v149 : Ref sig .tc := ⟨.hbm, 720, rfl⟩
abbrev main_v150 : Ref sig .tc := ⟨.hbm, 721, rfl⟩
abbrev main_v151 : Ref sig .tc := ⟨.hbm, 722, rfl⟩
abbrev main_v152 : Ref sig .tc := ⟨.hbm, 723, rfl⟩
abbrev main_v153 : Ref sig .tc := ⟨.hbm, 724, rfl⟩
abbrev main_v154 : Ref sig .tc := ⟨.hbm, 725, rfl⟩
abbrev main_call33_v0 : Ref sig .tc := ⟨.hbm, 726, rfl⟩
abbrev main_call33_cst : Ref sig .tc := ⟨.hbm, 727, rfl⟩
abbrev main_call33_c : Ref sig .tc := ⟨.hbm, 728, rfl⟩
abbrev main_call33_v1_0 : Ref sig .tc := ⟨.hbm, 729, rfl⟩
abbrev main_v155 : Ref sig .tc := ⟨.hbm, 730, rfl⟩
abbrev main_call34_c : Ref sig .tc := ⟨.hbm, 731, rfl⟩
abbrev main_call34_v0 : Ref sig .tc := ⟨.hbm, 732, rfl⟩
abbrev main_call34_v1 : Ref sig .tc := ⟨.hbm, 733, rfl⟩
abbrev main_call34_c_0 : Ref sig .tc := ⟨.hbm, 734, rfl⟩
abbrev main_call34_v2 : Ref sig .tc := ⟨.hbm, 735, rfl⟩
abbrev main_call34_v3 : Ref sig .tc := ⟨.hbm, 736, rfl⟩
abbrev main_call34_v4 : Ref sig .tc := ⟨.hbm, 737, rfl⟩
abbrev main_call34_v5 : Ref sig .tc := ⟨.hbm, 738, rfl⟩
abbrev main_call34_c_1 : Ref sig .tc := ⟨.hbm, 739, rfl⟩
abbrev main_call34_c_2 : Ref sig .tc := ⟨.hbm, 740, rfl⟩
abbrev main_call34_v6 : Ref sig .tc := ⟨.hbm, 741, rfl⟩
abbrev main_call34_v7 : Ref sig .tc := ⟨.hbm, 742, rfl⟩
abbrev main_call34_v8 : Ref sig .tc := ⟨.hbm, 743, rfl⟩
abbrev main_call34_v9 : Ref sig .tc := ⟨.hbm, 744, rfl⟩
abbrev main_call34_v10 : Ref sig .tc := ⟨.hbm, 745, rfl⟩
abbrev main_call34_v11 : Ref sig .tc := ⟨.hbm, 746, rfl⟩
abbrev main_call34_c_3 : Ref sig .tc := ⟨.hbm, 747, rfl⟩
abbrev main_call34_v12 : Ref sig .tc := ⟨.hbm, 748, rfl⟩
abbrev main_call34_v13 : Ref sig .tc := ⟨.hbm, 749, rfl⟩
abbrev main_call34_v14 : Ref sig .tc := ⟨.hbm, 750, rfl⟩
abbrev main_call34_cst : Ref sig .tc := ⟨.hbm, 751, rfl⟩
abbrev main_call34_v15 : Ref sig .tc := ⟨.hbm, 752, rfl⟩
abbrev main_v156 : Ref sig .tc := ⟨.hbm, 753, rfl⟩
abbrev main_v157 : Ref sig .tc := ⟨.hbm, 754, rfl⟩
abbrev main_call35_v0 : Ref sig .tc := ⟨.hbm, 755, rfl⟩
abbrev main_call35_cst : Ref sig .tc := ⟨.hbm, 756, rfl⟩
abbrev main_call35_v1 : Ref sig .tc := ⟨.hbm, 757, rfl⟩
abbrev main_call35_v2 : Ref sig .tc := ⟨.hbm, 758, rfl⟩
abbrev main_call35_cst_0 : Ref sig .tc := ⟨.hbm, 759, rfl⟩
abbrev main_call35_v3 : Ref sig .tc := ⟨.hbm, 760, rfl⟩
abbrev main_call35_v4 : Ref sig .tc := ⟨.hbm, 761, rfl⟩
abbrev main_call35_cst_1 : Ref sig .tc := ⟨.hbm, 762, rfl⟩
abbrev main_call35_v5 : Ref sig .tc := ⟨.hbm, 763, rfl⟩
abbrev main_call35_v6 : Ref sig .tc := ⟨.hbm, 764, rfl⟩
abbrev main_call35_v7 : Ref sig .tc := ⟨.hbm, 765, rfl⟩
abbrev main_call35_v8 : Ref sig .tc := ⟨.hbm, 766, rfl⟩
abbrev main_call35_c : Ref sig .tc := ⟨.hbm, 767, rfl⟩
abbrev main_call35_v9 : Ref sig .tc := ⟨.hbm, 768, rfl⟩
abbrev main_call35_v10 : Ref sig .tc := ⟨.hbm, 769, rfl⟩
abbrev main_call35_c_2 : Ref sig .tc := ⟨.hbm, 770, rfl⟩
abbrev main_call35_v11 : Ref sig .tc := ⟨.hbm, 771, rfl⟩
abbrev main_call35_v12 : Ref sig .tc := ⟨.hbm, 772, rfl⟩
abbrev main_call35_v13 : Ref sig .tc := ⟨.hbm, 773, rfl⟩
abbrev main_call35_v14 : Ref sig .tc := ⟨.hbm, 774, rfl⟩
abbrev main_v158 : Ref sig .tc := ⟨.hbm, 775, rfl⟩
abbrev main_v159 : Ref sig .tc := ⟨.hbm, 776, rfl⟩
abbrev main_v160 : Ref sig .tc := ⟨.hbm, 777, rfl⟩
abbrev main_call36_v0 : Ref sig .tc := ⟨.hbm, 778, rfl⟩
abbrev main_call36_cst : Ref sig .tc := ⟨.hbm, 779, rfl⟩
abbrev main_call36_v1 : Ref sig .tc := ⟨.hbm, 780, rfl⟩
abbrev main_call36_v2 : Ref sig .tc := ⟨.hbm, 781, rfl⟩
abbrev main_call36_cst_0 : Ref sig .tc := ⟨.hbm, 782, rfl⟩
abbrev main_call36_v3 : Ref sig .tc := ⟨.hbm, 783, rfl⟩
abbrev main_call36_v4 : Ref sig .tc := ⟨.hbm, 784, rfl⟩
abbrev main_call36_cst_1 : Ref sig .tc := ⟨.hbm, 785, rfl⟩
abbrev main_call36_v5 : Ref sig .tc := ⟨.hbm, 786, rfl⟩
abbrev main_call36_v6 : Ref sig .tc := ⟨.hbm, 787, rfl⟩
abbrev main_call36_v7 : Ref sig .tc := ⟨.hbm, 788, rfl⟩
abbrev main_call36_v8 : Ref sig .tc := ⟨.hbm, 789, rfl⟩
abbrev main_call36_c : Ref sig .tc := ⟨.hbm, 790, rfl⟩
abbrev main_call36_v9 : Ref sig .tc := ⟨.hbm, 791, rfl⟩
abbrev main_call36_v10 : Ref sig .tc := ⟨.hbm, 792, rfl⟩
abbrev main_call36_c_2 : Ref sig .tc := ⟨.hbm, 793, rfl⟩
abbrev main_call36_v11 : Ref sig .tc := ⟨.hbm, 794, rfl⟩
abbrev main_call36_v12 : Ref sig .tc := ⟨.hbm, 795, rfl⟩
abbrev main_call36_v13 : Ref sig .tc := ⟨.hbm, 796, rfl⟩
abbrev main_call36_v14 : Ref sig .tc := ⟨.hbm, 797, rfl⟩
abbrev main_v161 : Ref sig .tc := ⟨.hbm, 798, rfl⟩
abbrev main_v162 : Ref sig .tc := ⟨.hbm, 799, rfl⟩
abbrev main_cst_20 : Ref sig .tc := ⟨.hbm, 800, rfl⟩
abbrev main_v163 : Ref sig .tc := ⟨.hbm, 801, rfl⟩
abbrev main_v164 : Ref sig .tc := ⟨.hbm, 802, rfl⟩
abbrev main_cst_21 : Ref sig .tc := ⟨.hbm, 803, rfl⟩
abbrev main_v165 : Ref sig .tc := ⟨.hbm, 804, rfl⟩
abbrev main_v166 : Ref sig .tc := ⟨.hbm, 805, rfl⟩
abbrev main_v167 : Ref sig .tc := ⟨.hbm, 806, rfl⟩
abbrev main_v168 : Ref sig .tc := ⟨.hbm, 807, rfl⟩
abbrev main_v169 : Ref sig .tc := ⟨.hbm, 808, rfl⟩
abbrev main_v170 : Ref sig .tc := ⟨.hbm, 809, rfl⟩
abbrev main_v171 : Ref sig .tc := ⟨.hbm, 810, rfl⟩
abbrev main_call37_v0 : Ref sig .tc := ⟨.hbm, 811, rfl⟩
abbrev main_call37_cst : Ref sig .tc := ⟨.hbm, 812, rfl⟩
abbrev main_call37_c : Ref sig .tc := ⟨.hbm, 813, rfl⟩
abbrev main_call37_v1_0 : Ref sig .tc := ⟨.hbm, 814, rfl⟩
abbrev main_v172 : Ref sig .tc := ⟨.hbm, 815, rfl⟩
abbrev main_call38_c : Ref sig .tc := ⟨.hbm, 816, rfl⟩
abbrev main_call38_v0 : Ref sig .tc := ⟨.hbm, 817, rfl⟩
abbrev main_call38_v1 : Ref sig .tc := ⟨.hbm, 818, rfl⟩
abbrev main_call38_c_0 : Ref sig .tc := ⟨.hbm, 819, rfl⟩
abbrev main_call38_v2 : Ref sig .tc := ⟨.hbm, 820, rfl⟩
abbrev main_call38_v3 : Ref sig .tc := ⟨.hbm, 821, rfl⟩
abbrev main_call38_v4 : Ref sig .tc := ⟨.hbm, 822, rfl⟩
abbrev main_call38_v5 : Ref sig .tc := ⟨.hbm, 823, rfl⟩
abbrev main_call38_c_1 : Ref sig .tc := ⟨.hbm, 824, rfl⟩
abbrev main_call38_c_2 : Ref sig .tc := ⟨.hbm, 825, rfl⟩
abbrev main_call38_v6 : Ref sig .tc := ⟨.hbm, 826, rfl⟩
abbrev main_call38_v7 : Ref sig .tc := ⟨.hbm, 827, rfl⟩
abbrev main_call38_v8 : Ref sig .tc := ⟨.hbm, 828, rfl⟩
abbrev main_call38_v9 : Ref sig .tc := ⟨.hbm, 829, rfl⟩
abbrev main_call38_v10 : Ref sig .tc := ⟨.hbm, 830, rfl⟩
abbrev main_call38_v11 : Ref sig .tc := ⟨.hbm, 831, rfl⟩
abbrev main_call38_c_3 : Ref sig .tc := ⟨.hbm, 832, rfl⟩
abbrev main_call38_v12 : Ref sig .tc := ⟨.hbm, 833, rfl⟩
abbrev main_call38_v13 : Ref sig .tc := ⟨.hbm, 834, rfl⟩
abbrev main_call38_v14 : Ref sig .tc := ⟨.hbm, 835, rfl⟩
abbrev main_call38_cst : Ref sig .tc := ⟨.hbm, 836, rfl⟩
abbrev main_call38_v15 : Ref sig .tc := ⟨.hbm, 837, rfl⟩
abbrev main_v173 : Ref sig .tc := ⟨.hbm, 838, rfl⟩
abbrev main_v174 : Ref sig .tc := ⟨.hbm, 839, rfl⟩
abbrev main_call39_v0 : Ref sig .tc := ⟨.hbm, 840, rfl⟩
abbrev main_call39_cst : Ref sig .tc := ⟨.hbm, 841, rfl⟩
abbrev main_call39_v1 : Ref sig .tc := ⟨.hbm, 842, rfl⟩
abbrev main_call39_v2 : Ref sig .tc := ⟨.hbm, 843, rfl⟩
abbrev main_call39_cst_0 : Ref sig .tc := ⟨.hbm, 844, rfl⟩
abbrev main_call39_v3 : Ref sig .tc := ⟨.hbm, 845, rfl⟩
abbrev main_call39_v4 : Ref sig .tc := ⟨.hbm, 846, rfl⟩
abbrev main_call39_cst_1 : Ref sig .tc := ⟨.hbm, 847, rfl⟩
abbrev main_call39_v5 : Ref sig .tc := ⟨.hbm, 848, rfl⟩
abbrev main_call39_v6 : Ref sig .tc := ⟨.hbm, 849, rfl⟩
abbrev main_call39_v7 : Ref sig .tc := ⟨.hbm, 850, rfl⟩
abbrev main_call39_v8 : Ref sig .tc := ⟨.hbm, 851, rfl⟩
abbrev main_call39_c : Ref sig .tc := ⟨.hbm, 852, rfl⟩
abbrev main_call39_v9 : Ref sig .tc := ⟨.hbm, 853, rfl⟩
abbrev main_call39_v10 : Ref sig .tc := ⟨.hbm, 854, rfl⟩
abbrev main_call39_c_2 : Ref sig .tc := ⟨.hbm, 855, rfl⟩
abbrev main_call39_v11 : Ref sig .tc := ⟨.hbm, 856, rfl⟩
abbrev main_call39_v12 : Ref sig .tc := ⟨.hbm, 857, rfl⟩
abbrev main_call39_v13 : Ref sig .tc := ⟨.hbm, 858, rfl⟩
abbrev main_call39_v14 : Ref sig .tc := ⟨.hbm, 859, rfl⟩
abbrev main_v175 : Ref sig .tc := ⟨.hbm, 860, rfl⟩
abbrev main_v176 : Ref sig .tc := ⟨.hbm, 861, rfl⟩
abbrev main_v177 : Ref sig .tc := ⟨.hbm, 862, rfl⟩
abbrev main_v179 : Ref sig .tc := ⟨.hbm, 863, rfl⟩
abbrev main_cst_22 : Ref sig .tc := ⟨.hbm, 864, rfl⟩
abbrev main_v180 : Ref sig .tc := ⟨.hbm, 865, rfl⟩
abbrev main_v181 : Ref sig .tc := ⟨.hbm, 866, rfl⟩
abbrev main_cst_23 : Ref sig .tc := ⟨.hbm, 867, rfl⟩
abbrev main_v182 : Ref sig .tc := ⟨.hbm, 868, rfl⟩
abbrev main_v183 : Ref sig .tc := ⟨.hbm, 869, rfl⟩
abbrev main_v184 : Ref sig .tc := ⟨.hbm, 870, rfl⟩
abbrev main_v185 : Ref sig .tc := ⟨.hbm, 871, rfl⟩
abbrev main_v186 : Ref sig .tc := ⟨.hbm, 872, rfl⟩
abbrev main_v187 : Ref sig .tc := ⟨.hbm, 873, rfl⟩
abbrev main_v188 : Ref sig .tc := ⟨.hbm, 874, rfl⟩
abbrev main_call41_v0 : Ref sig .tc := ⟨.hbm, 875, rfl⟩
abbrev main_call41_cst : Ref sig .tc := ⟨.hbm, 876, rfl⟩
abbrev main_call41_c : Ref sig .tc := ⟨.hbm, 877, rfl⟩
abbrev main_call41_v1_0 : Ref sig .tc := ⟨.hbm, 878, rfl⟩
abbrev main_v189 : Ref sig .tc := ⟨.hbm, 879, rfl⟩
abbrev main_call42_c : Ref sig .tc := ⟨.hbm, 880, rfl⟩
abbrev main_call42_v0 : Ref sig .tc := ⟨.hbm, 881, rfl⟩
abbrev main_call42_v1 : Ref sig .tc := ⟨.hbm, 882, rfl⟩
abbrev main_call42_c_0 : Ref sig .tc := ⟨.hbm, 883, rfl⟩
abbrev main_call42_v2 : Ref sig .tc := ⟨.hbm, 884, rfl⟩
abbrev main_call42_v3 : Ref sig .tc := ⟨.hbm, 885, rfl⟩
abbrev main_call42_v4 : Ref sig .tc := ⟨.hbm, 886, rfl⟩
abbrev main_call42_v5 : Ref sig .tc := ⟨.hbm, 887, rfl⟩
abbrev main_call42_c_1 : Ref sig .tc := ⟨.hbm, 888, rfl⟩
abbrev main_call42_c_2 : Ref sig .tc := ⟨.hbm, 889, rfl⟩
abbrev main_call42_v6 : Ref sig .tc := ⟨.hbm, 890, rfl⟩
abbrev main_call42_v7 : Ref sig .tc := ⟨.hbm, 891, rfl⟩
abbrev main_call42_v8 : Ref sig .tc := ⟨.hbm, 892, rfl⟩
abbrev main_call42_v9 : Ref sig .tc := ⟨.hbm, 893, rfl⟩
abbrev main_call42_v10 : Ref sig .tc := ⟨.hbm, 894, rfl⟩
abbrev main_call42_v11 : Ref sig .tc := ⟨.hbm, 895, rfl⟩
abbrev main_call42_c_3 : Ref sig .tc := ⟨.hbm, 896, rfl⟩
abbrev main_call42_v12 : Ref sig .tc := ⟨.hbm, 897, rfl⟩
abbrev main_call42_v13 : Ref sig .tc := ⟨.hbm, 898, rfl⟩
abbrev main_call42_v14 : Ref sig .tc := ⟨.hbm, 899, rfl⟩
abbrev main_call42_cst : Ref sig .tc := ⟨.hbm, 900, rfl⟩
abbrev main_call42_v15 : Ref sig .tc := ⟨.hbm, 901, rfl⟩
abbrev main_v190 : Ref sig .tc := ⟨.hbm, 902, rfl⟩
abbrev main_v191 : Ref sig .tc := ⟨.hbm, 903, rfl⟩
abbrev main_v193 : Ref sig .tc := ⟨.hbm, 904, rfl⟩
abbrev main_v194 : Ref sig .tc := ⟨.hbm, 905, rfl⟩

abbrev nD : Nat := 1
abbrev τ : Topo := Topo.v7x

variable {F : FTy → Type} [FloatOps F]
-- ==== Proof.Spec.lean ====
module

public import Idealize.ShloMosaic.Lib.IdealHost
public import Idealize.ShloMosaic.Lib.ValueIdx

@[expose] public section

noncomputable section

/-! The mathematics of multi-scale residual quantisation over the extended reals, with rows counted by naturals. -/

namespace Cert.VQ

open Idealize.ShloMosaic Idealize.ShloMosaic.ValueIdx

/-- A row of 256 extended reals. -/
abbrev Row := Fin 256 → EReal

/-- The small constant that both programs add to a row's sum of squares. -/
def eps : EReal := Ideal.ofBits .f32 0x358637BD#32

/-- A row over its sum of squares (plus `eps`). -/
def unit (x : Row) : Row := fun c => Ideal.div (x c) ((∑ j, x j * x j) + eps)

/-- The inner product of two rows. -/
def dot (x y : Row) : EReal := ∑ c, x c * y c

/-- `b` is the largest of the first `n` entries of `v` and `i` the first place that attains it; `(⊥, 0)` if all are `⊥`. -/
def IsBest (v : ℕ → EReal) (n : ℕ) (b : EReal) (i : ℕ) : Prop :=
  (∀ k < n, v k ≤ b) ∧ ((b = ⊥ ∧ i = 0) ∨ (i < n ∧ v i = b ∧ ∀ k < i, v k < b))

/-- Of no entries, the best is the least value at place 0. -/
theorem isBest_zero (v : ℕ → EReal) : IsBest v 0 ⊥ 0 :=
  ⟨fun _ h => absurd h (Nat.not_lt_zero _), .inl ⟨rfl, rfl⟩⟩

/-- A further chunk of `C` entries with largest entry `m`, first attained at its place `l`. -/
theorem IsBest.chunk {v : ℕ → EReal} {n C : ℕ} {b m : EReal} {i l : ℕ} (h : IsBest v n b i)
    (hm : ∀ k < C, v (n + k) ≤ m) (hl : l < C) (hv : v (n + l) = m) (hf : ∀ k < l, v (n + k) ≠ m) :
    IsBest v (n + C) (max b m) (if b < m then n + l else i) := by
  have hle : ∀ k < n + C, v k ≤ max b m := by
    intro k hk
    by_cases hkn : k < n
    · exact (h.1 k hkn).trans (le_max_left _ _)
    · obtain ⟨j, rfl⟩ := Nat.exists_eq_add_of_le (not_lt.mp hkn)
      exact (hm j (by omega)).trans (le_max_right _ _)
  refine ⟨hle, ?_⟩
  split_ifs with hb
  · rw [max_eq_right hb.le]
    refine .inr ⟨by omega, hv, fun k hk => ?_⟩
    by_cases hkn : k < n
    · exact (h.1 k hkn).trans_lt hb
    · obtain ⟨j, rfl⟩ := Nat.exists_eq_add_of_le (not_lt.mp hkn)
      exact lt_of_le_of_ne (hm j (by omega)) (hf j (by omega))
  · rw [max_eq_left (not_lt.mp hb)]
    rcases h.2 with ⟨h1, h2⟩ | ⟨h1, h2, h3⟩
    · exact .inl ⟨h1, h2⟩
    · exact .inr ⟨by omega, h2, h3⟩

/-- There is only one best place. -/
theorem IsBest.unique {v : ℕ → EReal} {n : ℕ} {b b' : EReal} {i i' : ℕ} (h : IsBest v n b i) (h' : IsBest v n b' i') :
    i = i' := by
  have key : ∀ {b b' : EReal} {i i' : ℕ}, IsBest v n b i → IsBest v n b' i' → i ≤ i' := by
    intro b b' i i' h h'
    rcases h.2 with ⟨h1, h2⟩ | ⟨h1, h2, h3⟩
    · omega
    · by_contra hlt
      have hlt : i' < i := not_le.mp hlt
      have h4 := h3 i' hlt
      have h5 : v i ≤ b' := h'.1 i h1
      rcases h'.2 with ⟨g1, g2⟩ | ⟨g1, g2, g3⟩
      · rw [h2, g1] at h5; exact absurd (h4.trans_le h5) (not_lt_bot)
      · rw [g2] at h4; rw [h2] at h5; exact absurd (h4.trans_le h5) (lt_irrefl _)
  exact le_antisymm (key h h') (key h' h)

/-- The running largest entry and its first place. -/
def best (v : ℕ → EReal) : ℕ → EReal × ℕ
  | 0 => (⊥, 0)
  | n + 1 => (max (best v n).1 (v n), if (best v n).1 < v n then n else (best v n).2)

/-- The running maximum computes the best value and place. -/
theorem best_isBest (v : ℕ → EReal) : ∀ n, IsBest v n (best v n).1 (best v n).2
  | 0 => isBest_zero v
  | n + 1 => by
    have h := (best_isBest v n).chunk (C := 1) (m := v n) (l := 0) (fun k hk => by obtain rfl : k = 0 := by omega
                                                                                   exact le_rfl)
      Nat.one_pos rfl (fun k hk => absurd hk (Nat.not_lt_zero _))
    exact h

/-- The first place of the largest of the first `n` entries. -/
def arg (v : ℕ → EReal) (n : ℕ) : ℕ := (best v n).2

/-- The place of a best entry is the one the running maximum finds. -/
theorem IsBest.arg_eq {v : ℕ → EReal} {n : ℕ} {b : EReal} {i : ℕ} (h : IsBest v n b i) : arg v n = i :=
  (best_isBest v n).unique h

/-- The best place lies within the range searched. -/
theorem arg_lt (v : ℕ → EReal) {n : ℕ} (hn : 0 < n) : arg v n < n := by
  rcases (best_isBest v n).2 with ⟨_, h⟩ | ⟨h, _⟩
  · exact lt_of_eq_of_lt h hn
  · exact h

/-- The scores of a row against the normalised codebook. -/
def scores (cb : ℕ → Row) (x : Row) : ℕ → EReal := fun k => dot (unit x) (unit (cb k))

/-- The place of the codebook row nearest to `x`. -/
def near (cb : ℕ → Row) (x : Row) : ℕ := arg (scores cb x) 8192

/-- The codebook row nearest to `x`. -/
def code (cb : ℕ → Row) (x : Row) : Row := cb (near cb x)

/-- The nearest code is one of the 8192 codes. -/
theorem near_lt (cb : ℕ → Row) (x : Row) : near cb x < 8192 := arg_lt _ (by decide)

/-- The place, among `n`, that nearest resizing to `m` places reads for place `i`. -/
def pick (n m i : ℕ) : ℕ := (2 * i + 1) * n / (2 * m)

/-- A picked place lies within the row. -/
theorem pick_lt {n m i : ℕ} (hi : i < m) (hn : 0 < n) : pick n m i < n := by
  refine Nat.div_lt_of_lt_mul ?_
  rw [Nat.mul_assoc 2 m n, ← Nat.mul_assoc 2 m n]
  exact Nat.mul_lt_mul_of_pos_right (by omega) hn

/-- What one scale of `p` places adds: at place `n` the code of the row that its place among the `p` reads. -/
def up (cb : ℕ → Row) (p : ℕ) (rest : ℕ → Row) : ℕ → Row :=
  fun n => code cb (rest (pick 1024 p (pick p 1024 n)))

/-- The remainder after one scale. -/
def less (cb : ℕ → Row) (p : ℕ) (rest : ℕ → Row) : ℕ → Row := fun n c => rest n c - up cb p rest n c

/-- The sum after one scale. -/
def more (cb : ℕ → Row) (p : ℕ) (rest hat : ℕ → Row) : ℕ → Row := fun n c => hat n c + up cb p rest n c

/-- The scales below 1024, in order. -/
def scales : List ℕ := [1, 4, 9, 16, 25, 36, 64, 100, 169, 256]

/-- Remainder and sum after the first `s` scales. -/
def run (cb : ℕ → Row) (x : ℕ → Row) : ℕ → (ℕ → Row) × (ℕ → Row)
  | 0 => (x, fun _ _ => 0)
  | s + 1 => (less cb (scales.getD s 1) (run cb x s).1, more cb (scales.getD s 1) (run cb x s).1 (run cb x s).2)

/-- The whole: the sum after the small scales and the last one, where each place is coded by itself. -/
def whole (cb : ℕ → Row) (x : ℕ → Row) : ℕ → Row := fun n c => (run cb x 10).2 n c + code cb ((run cb x 10).1 n) c

/-- A matrix's rows, counted by naturals; `0` past the end. -/
def rows {K : ℕ} (X : (⟨2, ![K, 256]⟩ : Shape).Idx → EReal) : ℕ → Row :=
  fun k c => if h : k < K then X (ix2 ⟨k, h⟩ c) else 0

/-- Within range, `rows` reads the matrix. -/
theorem rows_of_lt {K : ℕ} (X : (⟨2, ![K, 256]⟩ : Shape).Idx → EReal) {k : ℕ} (h : k < K) :
    rows X k = fun c => X (ix2 ⟨k, h⟩ c) := by
  funext c; exact dif_pos h

/-- Batch `b` of a stack of matrices, its rows counted by naturals; `0` past the end. -/
def slab {B K : ℕ} (X : (⟨3, ![B, K, 256]⟩ : Shape).Idx → EReal) (b : ℕ) : ℕ → Row :=
  fun k c => if h : b < B ∧ k < K then X (ix3 ⟨b, h.1⟩ ⟨k, h.2⟩ c) else 0

/-- Within range, `slab` reads the stack. -/
theorem slab_apply {B K : ℕ} (X : (⟨3, ![B, K, 256]⟩ : Shape).Idx → EReal) (b : Fin B) (k : Fin K) (c : Fin 256) :
    slab X b.val k.val c = X (ix3 b k c) := dif_pos ⟨b.isLt, k.isLt⟩

end Cert.VQ

end
-- ==== Proof.Ker.lean ====
module

public import proofs.«01_k».proof.Proof.Spec
public import Idealize.ShloMosaic.Lib.MatmulPlain
public import Idealize.ShloMosaic.Lib.ValueLayout
public import Idealize.ShloMosaic.Lib.ValueLayoutCasts
public import Idealize.ShloMosaic.Lib.Pipeline.Value
public import Idealize.ShloMosaic.Lib.IdealHost
public import Idealize.ShloMosaic.Lib.WholeRead
public import Idealize.ShloMosaic.PureOps.Ideal.Laws

@[expose] public section

noncomputable section

/-! What the kernel's repeated blocks compute over the extended reals, for any number of rows and any chunk. -/

namespace Cert.VQ

open Idealize.ShloMosaic Idealize.ShloMosaic.ValueIdx

/-- A matrix shape. -/
abbrev Mat (R C : ℕ) : Shape := ⟨2, ![R, C]⟩
/-- A vector shape. -/
abbrev Vct (R : ℕ) : Shape := ⟨1, ![R]⟩

variable {R C : ℕ}

/-- The index that a row reduction reads is the row with the reduced column put back. -/
theorem lift_row (h : (Mat R C).Reduces [1] (Vct R)) (r : Fin R) (k : Fin C) : h.lift (ix1 r) k = ix2 r k := by
  funext c; apply Fin.ext; fin_cases c <;> rfl

/-- The word `0xFF800000` is the least extended real. -/
theorem negInf : Ideal.ofBits .f32 0xFF800000#32 = (⊥ : EReal) := by simp [Ideal.ofBits, Ideal.ieee]

/-- A column broadcast over the columns has the column's entry in every place of a row. -/
theorem spread_apply {α : Type} (x : (Mat R 1).Idx → α) (h : (Mat R 1).Broadcasts (Mat R C)) (r : Fin R) (c : Fin C) :
    broadcastTo (Mat R C) x h (ix2 r c) = x (ix2 r 0) := by
  refine broadcastTo_apply x h _ _ fun a => ?_
  fin_cases a
  · show r.val = if R = 1 then 0 else r.val
    split_ifs with h1
    · have := r.isLt; omega
    · rfl
  · rfl

/-! ### Rows over their sum of squares -/

/-- The kernel's normalisation of every row of a matrix. -/
def gUnit (x : FVec Ideal (Mat R 256) .f32) (h1 : (Mat R 256).Reduces [1] (Vct R)) (h2 : (Vct R).ShapeCasts (Mat R 1))
    (h3 : (Mat R 1).Broadcasts (Mat R 256)) : FVec Ideal (Mat R 256) .bf16 :=
  truncf .bf16 (divf x (broadcastTo (Mat R 256)
    (addf (shapeCast (Mat R 1) (multiReduction .add [1] (Vct R) (mulf x x) 0x00000000#32 h1 (.inl rfl) rfl) h2)
      (broadcast (Mat R 1) (Scalar.ofBits .f32 0x358637BD#32 : Ideal .f32))) h3)) (by decide)

/-- The kernel's normalised rows are the normalised rows of the specification. -/
theorem gUnit_apply (x : FVec Ideal (Mat R 256) .f32) (h1 h2 h3) (r : Fin R) (c : Fin 256) :
    gUnit x h1 h2 h3 (ix2 r c) = unit (fun c => x (ix2 r c)) c := by
  show Ideal.div (x (ix2 r c)) (broadcastTo (Mat R 256) _ h3 (ix2 r c)) = _
  rw [spread_apply]
  show Ideal.div (x (ix2 r c)) (shapeCast (Mat R 1) _ h2 (ix2 r 0) + eps) = _
  rw [shapeCast_a_a1_apply]
  refine congrArg (fun z => Ideal.div (x (ix2 r c)) (z + eps)) ?_
  refine (Ideal.multiReduction_add_single ..).trans ?_
  refine Finset.sum_congr rfl fun (k : Fin 256) _ => ?_
  exact congrArg (fun j => x j * x j) (lift_row h1 r k)

/-! ### The scores of a chunk, their largest and its first place -/

/-- The scores of every row against a chunk of `C` codebook rows. -/
def gScore (u : FVec Ideal (Mat R 256) .bf16) (w : FVec Ideal (Mat C 256) .bf16)
    (h : (Mat C 256).ShapeCasts (Mat C 256)) : FVec Ideal (Mat R C) .f32 :=
  matmul (DotDims.transposedRhs R 256 C) none u (shapeCast (Mat C 256) w h) (constant (Mat R C) .f32 0x00000000#32)

/-- Recasting to the same shape changes nothing. -/
theorem recast_apply {α : Type} {K : ℕ} (w : (Mat C K).Idx → α) (h : (Mat C K).ShapeCasts (Mat C K)) (i) :
    shapeCast (Mat C K) w h i = w i := shapeCast_apply w h _ _ rfl

/-- An entry of the kernel's score matrix is the inner product of a row with a code. -/
theorem gScore_apply (u : FVec Ideal (Mat R 256) .bf16) (w : FVec Ideal (Mat C 256) .bf16) (h) (r : Fin R) (l : Fin C) :
    gScore u w h (ix2 r l) = dot (fun c => u (ix2 r c)) (fun c => w (ix2 l c)) := by
  unfold gScore
  refine (Ideal.matmul_transposedRhs_apply ..).trans ?_
  simp only [recast_apply]
  show Ideal.ofBits .f32 0x00000000#32 + _ = _
  rw [Ideal.ofBits_zero_f32, zero_add]
  rfl

/-- The largest score of every row. -/
def gTop (s : FVec Ideal (Mat R C) .f32) (h1 : (Mat R C).Reduces [1] (Vct R)) (h2 : (Vct R).ShapeCasts (Mat R 1)) :
    FVec Ideal (Mat R 1) .f32 :=
  shapeCast (Mat R 1) (multiReduction .maximumf [1] (Vct R) s 0xFF800000#32 h1 (.inl rfl) rfl) h2

/-- The kernel's row maximum bounds every score of the row and is one of them. -/
theorem gTop_spec (s : FVec Ideal (Mat R C) .f32) (h1 h2) (hC : 0 < C) (r : Fin R) :
    (∀ l : Fin C, s (ix2 r l) ≤ gTop s h1 h2 (ix2 r 0)) ∧ ∃ l : Fin C, s (ix2 r l) = gTop s h1 h2 (ix2 r 0) := by
  have e : gTop s h1 h2 (ix2 r 0) = (Finset.univ : Finset (Fin C)).fold max (⊥ : EReal) (fun l => s (ix2 r l)) := by
    unfold gTop
    rw [shapeCast_a_a1_apply]
    refine (Ideal.multiReduction_maximumf_single ..).trans ?_
    show Finset.fold max (Ideal.ofBits .f32 0xFF800000#32) (fun l : Fin C => s (h1.lift (ix1 r) l)) Finset.univ = _
    rw [negInf]
    refine congrArg (fun f => Finset.fold max (⊥ : EReal) f Finset.univ) ?_
    funext l
    exact congrArg s (lift_row h1 r l)
  rw [e]
  have hle : ∀ l : Fin C, s (ix2 r l) ≤ (Finset.univ : Finset (Fin C)).fold max (⊥ : EReal) (fun l => s (ix2 r l)) :=
    fun l => (Finset.le_fold_max _).2 (.inr ⟨l, Finset.mem_univ l, le_rfl⟩)
  refine ⟨hle, ?_⟩
  rcases (Finset.le_fold_max (s := (Finset.univ : Finset (Fin C))) (b := (⊥ : EReal)) (f := fun l => s (ix2 r l)) _).1 le_rfl with h | ⟨l, _, h⟩
  · exact ⟨⟨0, hC⟩, le_antisymm (hle _) (h.trans bot_le)⟩
  · exact ⟨l, le_antisymm (hle l) h⟩

/-- The signed minimum of two small words is the smaller as numbers. -/
theorem minsi_of_small {x y : BitVec 32} (hx : x.toNat < 2 ^ 31) (hy : y.toNat < 2 ^ 31) :
    IntOp.minsi x y = if x.toNat < y.toNat then x else y := by
  unfold IntOp.minsi
  have e : x.slt y = decide (x.toNat < y.toNat) := by
    rw [BitVec.slt, BitVec.toInt_eq_toNat_of_lt (by omega), BitVec.toInt_eq_toNat_of_lt (by omega)]
    simp
  rw [e]; simp

/-- The least of finitely many small words. -/
theorem fold_minsi {ι : Type} [DecidableEq ι] (S : Finset ι) (g : ι → BitVec 32) (hg : ∀ l, (g l).toNat < 2 ^ 31) :
    let m := S.fold (IKind.op .minsi) (2147483647#32) g
    m.toNat < 2 ^ 31 ∧ (∀ l ∈ S, m.toNat ≤ (g l).toNat) ∧ (m = 2147483647#32 ∨ ∃ l ∈ S, m = g l) := by
  induction S using Finset.induction_on with
  | empty => exact ⟨by rw [Finset.fold_empty]; decide, by simp, .inl rfl⟩
  | insert a S ha ih =>
    rw [Finset.fold_insert ha]
    obtain ⟨i1, i2, i3⟩ := ih
    have e : IKind.op .minsi (g a) (S.fold (IKind.op .minsi) (2147483647#32) g)
        = if (g a).toNat < (S.fold (IKind.op .minsi) (2147483647#32) g).toNat then g a
          else S.fold (IKind.op .minsi) (2147483647#32) g := minsi_of_small (hg a) i1
    rw [e]
    split_ifs with h
    · refine ⟨hg a, fun l hl => ?_, .inr ⟨a, Finset.mem_insert_self _ _, rfl⟩⟩
      rcases Finset.mem_insert.1 hl with rfl | hl
      · exact le_rfl
      · exact h.le.trans (i2 l hl)
    · refine ⟨i1, fun l hl => ?_, ?_⟩
      · rcases Finset.mem_insert.1 hl with rfl | hl
        · exact not_lt.1 h
        · exact i2 l hl
      · rcases i3 with h3 | ⟨l, hl, h3⟩
        · exact .inl h3
        · exact .inr ⟨l, Finset.mem_insert_of_mem hl, h3⟩

/-- The first place, in every row, of the value in the column `m`. -/
def gPlace (s : FVec Ideal (Mat R C) .f32) (m : FVec Ideal (Mat R 1) .f32) (n : BitVec 32)
    (h0 : (Mat R 1).Broadcasts (Mat R C)) (hi : (Mat R C).Iotas .tc 32 [1])
    (h1 : (Mat R C).Reduces [1] (Vct R)) (h2 : (Vct R).ShapeCasts (Mat R 1)) : IVec (Mat R 1) 32 :=
  shapeCast (Mat R 1) (multiReductionI .minsi [1] (Vct R)
    (select (cmpf .oeq s (broadcastTo (Mat R C) m h0)) (iota .tc (Mat R C) 32 [1] hi) (broadcast (Mat R C) n))
    2147483647#32 h1 rfl) h2

/-- The iota along the columns holds the column number. -/
theorem iota_col (hi : (Mat R C).Iotas .tc 32 [1]) (r : Fin R) (l : Fin C) :
    iota .tc (Mat R C) 32 [1] hi (ix2 r l) = BitVec.ofNat 32 l.val := iota_single_apply ..

/-- The kernel's place is the first column at which the row attains its maximum. -/
theorem gPlace_spec (s : FVec Ideal (Mat R C) .f32) (m : FVec Ideal (Mat R 1) .f32) (h0 hi h1 h2) (r : Fin R)
    (hC : C < 2 ^ 31) (hm : ∃ l : Fin C, s (ix2 r l) = m (ix2 r 0)) :
    ∃ l : Fin C, (gPlace s m (BitVec.ofNat 32 C) h0 hi h1 h2 (ix2 r 0)).toNat = l.val ∧ s (ix2 r l) = m (ix2 r 0)
      ∧ ∀ k : Fin C, k.val < l.val → s (ix2 r k) ≠ m (ix2 r 0) := by
  let g : Fin C → BitVec 32 := fun l => if s (ix2 r l) = m (ix2 r 0) then BitVec.ofNat 32 l.val else BitVec.ofNat 32 C
  have gl : ∀ l : Fin C, (BitVec.ofNat 32 l.val).toNat = l.val := fun l => by
    have := l.isLt; rw [BitVec.toNat_ofNat]; exact Nat.mod_eq_of_lt (by omega)
  have gC : (BitVec.ofNat 32 C).toNat = C := by rw [BitVec.toNat_ofNat]; exact Nat.mod_eq_of_lt (by omega)
  have hg : ∀ l, (g l).toNat < 2 ^ 31 := fun l => by
    have := l.isLt
    simp only [g]; split_ifs
    · rw [gl]; omega
    · rw [gC]; omega
  have e : gPlace s m (BitVec.ofNat 32 C) h0 hi h1 h2 (ix2 r 0)
      = (Finset.univ : Finset (Fin C)).fold (IKind.op .minsi) (2147483647#32) g := by
    unfold gPlace
    rw [shapeCast_a_a1_apply]
    refine (multiReductionI_eq_fold ..).trans ?_
    refine (h1.fold_filter_drop_single _ _ _ (ix1 r)).trans ?_
    refine congrArg (fun f => Finset.fold (IKind.op .minsi) (2147483647#32) f Finset.univ) ?_
    funext (l : Fin C)
    refine (congrArg (select (cmpf .oeq s (broadcastTo (Mat R C) m h0)) (iota .tc (Mat R C) 32 [1] hi)
      (broadcast (Mat R C) (BitVec.ofNat 32 C))) (lift_row h1 r l)).trans ?_
    show (if Ideal.cmp .oeq (s (ix2 r l)) (broadcastTo (Mat R C) m h0 (ix2 r l)) = 1#1 then iota .tc (Mat R C) 32 [1] hi (ix2 r l) else BitVec.ofNat 32 C) = _
    rw [spread_apply, iota_col]
    simp only [Ideal.cmp, g]
    by_cases h : s (ix2 r l) = m (ix2 r 0) <;> simp [h]
  rw [e]
  obtain ⟨-, f2, f3⟩ := fold_minsi (Finset.univ : Finset (Fin C)) g hg
  obtain ⟨l0, hl0⟩ := hm
  have hlt : ((Finset.univ : Finset (Fin C)).fold (IKind.op .minsi) (2147483647#32) g).toNat < C := by
    refine (f2 l0 (Finset.mem_univ _)).trans_lt ?_
    simp only [g, hl0, if_true, gl]; exact l0.isLt
  rcases f3 with f3 | ⟨l, -, f3⟩
  · rw [f3] at hlt; exact absurd hlt (by show ¬ (2147483647 < C); omega)
  · have hsl : s (ix2 r l) = m (ix2 r 0) := by
      by_contra hne
      rw [f3] at hlt
      simp only [g, if_neg hne, gC] at hlt
      omega
    have el : (g l).toNat = l.val := by simp only [g, hsl, if_true, gl]
    refine ⟨l, by rw [f3, el], hsl, fun k hk hne => ?_⟩
    have := f2 k (Finset.mem_univ _)
    rw [f3, el] at this
    simp only [g, hne, if_true, gl] at this
    omega

/-- One step of the match loop: the running largest score and its place, after one more chunk. -/
def gMatch (u : FVec Ideal (Mat R 256) .bf16) (w : FVec Ideal (Mat C 256) .bf16) (off : BitVec 32)
    (b : FVec Ideal (Mat R 1) .f32) (i : IVec (Mat R 1) 32) (hw : (Mat C 256).ShapeCasts (Mat C 256))
    (h0 : (Mat R 1).Broadcasts (Mat R C)) (hi : (Mat R C).Iotas .tc 32 [1])
    (h1 : (Mat R C).Reduces [1] (Vct R)) (h2 : (Vct R).ShapeCasts (Mat R 1)) :
    FVec Ideal (Mat R 1) .f32 × IVec (Mat R 1) 32 :=
  (maximumf b (gTop (gScore u w hw) h1 h2),
    select (cmpf .ogt (gTop (gScore u w hw) h1 h2) b)
      (addi (gPlace (gScore u w hw) (gTop (gScore u w hw) h1 h2) (BitVec.ofNat 32 C) h0 hi h1 h2) (broadcast (Mat R 1) off)) i)

/-- One step of the matching loop extends the best match by one block of codes. -/
theorem gMatch_isBest (u : FVec Ideal (Mat R 256) .bf16) (w : FVec Ideal (Mat C 256) .bf16) (off : BitVec 32)
    (b : FVec Ideal (Mat R 1) .f32) (i : IVec (Mat R 1) 32) (hw h0 hi h1 h2) (r : Fin R) (v : ℕ → EReal) (n : ℕ)
    (hC : 0 < C) (hoff : off.toNat = n) (hn : n + C < 2 ^ 31)
    (hv : ∀ l : Fin C, dot (fun c => u (ix2 r c)) (fun c => w (ix2 l c)) = v (n + l.val))
    (hb : IsBest v n (b (ix2 r 0)) (i (ix2 r 0)).toNat) :
    IsBest v (n + C) ((gMatch u w off b i hw h0 hi h1 h2).1 (ix2 r 0)) ((gMatch u w off b i hw h0 hi h1 h2).2 (ix2 r 0)).toNat := by
  have hs : ∀ l : Fin C, gScore u w hw (ix2 r l) = v (n + l.val) := fun l => (gScore_apply ..).trans (hv l)
  obtain ⟨t1, t2⟩ := gTop_spec (gScore u w hw) h1 h2 hC r
  obtain ⟨l, p1, p2, p3⟩ := gPlace_spec (gScore u w hw) (gTop (gScore u w hw) h1 h2) h0 hi h1 h2 r (by omega) t2
  have key := hb.chunk (C := C) (m := gTop (gScore u w hw) h1 h2 (ix2 r 0)) (l := l.val)
    (fun k hk => (hs ⟨k, hk⟩) ▸ t1 ⟨k, hk⟩) l.isLt ((hs l).symm.trans p2)
    (fun k hk => (hs ⟨k, hk.trans l.isLt⟩) ▸ p3 ⟨k, hk.trans l.isLt⟩ hk)
  have e2 : ((gMatch u w off b i hw h0 hi h1 h2).2 (ix2 r 0)).toNat
      = if b (ix2 r 0) < gTop (gScore u w hw) h1 h2 (ix2 r 0) then n + l.val else (i (ix2 r 0)).toNat := by
    show (if Ideal.cmp .ogt (gTop (gScore u w hw) h1 h2 (ix2 r 0)) (b (ix2 r 0)) = 1#1 then
      gPlace (gScore u w hw) (gTop (gScore u w hw) h1 h2) (BitVec.ofNat 32 C) h0 hi h1 h2 (ix2 r 0) + off
      else i (ix2 r 0)).toNat = _
    simp only [Ideal.cmp]
    by_cases h : b (ix2 r 0) < gTop (gScore u w hw) h1 h2 (ix2 r 0)
    · have := l.isLt
      simp only [h, decide_true, BitVec.ofBool_true, if_true]
      rw [if_pos (show (1 : BitVec 1) = 1#1 from rfl), BitVec.toNat_add, p1, hoff, Nat.mod_eq_of_lt (by omega)]; omega
    · simp [h]
  rw [e2]
  exact key

/-- The whole match loop: after all chunks every row's place is the nearest codebook row's. -/
theorem match_loop {T : ℕ} (st : ℕ → FVec Ideal (Mat R 1) .f32 × IVec (Mat R 1) 32) (u : FVec Ideal (Mat R 256) .bf16)
    (w : Fin T → FVec Ideal (Mat C 256) .bf16) (off : Fin T → BitVec 32) (hw h0 hi h1 h2)
    (s0 : st 0 = (broadcast (Mat R 1) (Scalar.ofBits .f32 0xFF800000#32 : Ideal .f32), broadcast (Mat R 1) 0#32))
    (s1 : ∀ k : Fin T, st (k.val + 1) = gMatch u (w k) (off k) (st k.val).1 (st k.val).2 hw h0 hi h1 h2)
    (cb : ℕ → Row) (hC : 0 < C) (hT : T * C = 8192) (hoff : ∀ k : Fin T, (off k).toNat = k.val * C)
    (hcb : ∀ (k : Fin T) (l : Fin C) (c : Fin 256), w k (ix2 l c) = unit (cb (k.val * C + l.val)) c)
    (r : Fin R) (x : Row) (hu : ∀ c, u (ix2 r c) = unit x c) :
    ((st T).2 (ix2 r 0)).toNat = near cb x := by
  have key : ∀ k ≤ T, IsBest (scores cb x) (k * C) ((st k).1 (ix2 r 0)) ((st k).2 (ix2 r 0)).toNat := by
    intro k
    induction k with
    | zero =>
      intro _
      rw [s0, Nat.zero_mul]
      show IsBest _ 0 (Ideal.ofBits .f32 0xFF800000#32) 0
      rw [negInf]; exact isBest_zero _
    | succ k ih =>
      intro hk
      have hk' : k < T := hk
      have hle : (k + 1) * C ≤ 8192 := hT ▸ Nat.mul_le_mul_right C hk
      rw [Nat.add_mul, Nat.one_mul] at hle ⊢
      rw [s1 ⟨k, hk'⟩]
      refine gMatch_isBest _ _ _ _ _ _ _ _ _ _ r _ _ hC (hoff ⟨k, hk'⟩) (by omega) (fun l => ?_) (ih (by omega))
      have e1 : (fun c => u (ix2 r c)) = unit x := funext hu
      have e2 : (fun c => w ⟨k, hk'⟩ (ix2 l c)) = unit (cb (k * C + l.val)) := funext (hcb ⟨k, hk'⟩ l)
      rw [e1, e2]; rfl
  have := key T le_rfl
  rw [hT] at this
  exact this.arg_eq.symm

/-! ### Matrices with one `1` in every row -/

/-- A truth value turned into a float is 1 or 0. -/
theorem word_of_bit (p : Prop) [Decidable p] :
    (FloatOps.sitofp (F := Ideal) .f32 ((BitVec.ofBool (decide p)).setWidth 32) : EReal) = if p then 1 else 0 := by
  by_cases h : p
  · simp only [h, decide_true, if_true]
    show (((1 : ℤ) : ℝ) : EReal) = 1
    norm_num
  · simp only [h, decide_false, if_false]
    show (((0 : ℤ) : ℝ) : EReal) = 0
    norm_num

/-- A sum weighted by a one-hot vector is the selected term. -/
theorem sum_one_hot {ι : Type} [Fintype ι] [DecidableEq ι] (j : ι) (f : ι → EReal) :
    ∑ k, (if k = j then (1 : EReal) else 0) * f k = f j := by
  rw [Finset.sum_eq_single j]
  · rw [if_pos rfl, one_mul]
  · intro k _ hk; rw [if_neg hk, zero_mul]
  · intro h; exact absurd (Finset.mem_univ j) h

/-- The product of a matrix whose row `r` has its one `1` at `j` picks row `j`. -/
theorem pick_row {M K N : ℕ} (prec : Option ContractPrecision) (o : FVec Ideal (Mat M K) .f32) (y : FVec Ideal (Mat K N) .f32)
    (r : Fin M) (c : Fin N) (j : Fin K) (ho : ∀ k, o (ix2 r k) = if k = j then (1 : EReal) else 0) :
    matmul (DotDims.plain M K N) prec o y (constant (Mat M N) .f32 0x00000000#32) (ix2 r c) = y (ix2 j c) := by
  refine (Ideal.matmul_plain_apply ..).trans ?_
  show Ideal.ofBits .f32 0x00000000#32 + _ = _
  rw [Ideal.ofBits_zero_f32, zero_add]
  simp only [ho]
  exact sum_one_hot j _

/-- One step of the lookup loop: the codes found in one more chunk of the codebook are added. -/
def gLook (idx : IVec (Mat R 1) 32) (w : FVec Ideal (Mat C 256) .f32) (off : BitVec 32) (acc : FVec Ideal (Mat R 256) .f32)
    (h0 : (Mat R 1).Broadcasts (Mat R C)) (hi : (Mat R C).Iotas .tc 32 [1]) : FVec Ideal (Mat R 256) .f32 :=
  addf acc (matmul (DotDims.plain R C 256) (some .fp32)
    (sitofp .f32 (extui 32 (cmpi .eq (addi (iota .tc (Mat R C) 32 [1] hi) (broadcast (Mat R C) off))
      (broadcastTo (Mat R C) idx h0)) (by decide))) w (constant (Mat R 256) .f32 0x00000000#32))

/-- One step of the look-up loop adds the row's code when its index lies in the block read. -/
theorem gLook_apply (idx : IVec (Mat R 1) 32) (w : FVec Ideal (Mat C 256) .f32) (off : BitVec 32)
    (acc : FVec Ideal (Mat R 256) .f32) (h0 hi) (r : Fin R) (c : Fin 256) (n : ℕ) (hoff : off.toNat = n) (hn : n + C < 2 ^ 31) :
    gLook idx w off acc h0 hi (ix2 r c) = acc (ix2 r c)
      + if h : n ≤ (idx (ix2 r 0)).toNat ∧ (idx (ix2 r 0)).toNat < n + C then w (ix2 ⟨(idx (ix2 r 0)).toNat - n, by omega⟩ c) else 0 := by
  show acc (ix2 r c) + matmul (DotDims.plain R C 256) _ _ w _ (ix2 r c) = _
  congr 1
  have ho : ∀ l : Fin C, (sitofp .f32 (extui 32 (cmpi .eq (addi (iota .tc (Mat R C) 32 [1] hi) (broadcast (Mat R C) off))
      (broadcastTo (Mat R C) idx h0)) (by decide)) : FVec Ideal (Mat R C) .f32) (ix2 r l)
      = if n + l.val = (idx (ix2 r 0)).toNat then (1 : EReal) else 0 := by
    intro l
    show FloatOps.sitofp (F := Ideal) .f32 ((BitVec.ofBool (decide (iota .tc (Mat R C) 32 [1] hi (ix2 r l) + off
      = broadcastTo (Mat R C) idx h0 (ix2 r l)))).setWidth 32) = _
    rw [word_of_bit, spread_apply, iota_col]
    refine if_congr ?_ rfl rfl
    have := l.isLt
    rw [← BitVec.toNat_inj, BitVec.toNat_add, BitVec.toNat_ofNat, hoff, Nat.mod_eq_of_lt (a := l.val) (by omega), Nat.mod_eq_of_lt (by omega), Nat.add_comm]
  split_ifs with h
  · refine pick_row _ _ w r c ⟨(idx (ix2 r 0)).toNat - n, by omega⟩ fun l => ?_
    rw [ho]
    refine if_congr ?_ rfl rfl
    rw [Fin.ext_iff]; show _ ↔ l.val = (idx (ix2 r 0)).toNat - n
    omega
  · refine (Ideal.matmul_plain_apply ..).trans ?_
    show Ideal.ofBits .f32 0x00000000#32 + _ = _
    rw [Ideal.ofBits_zero_f32, zero_add]
    refine Finset.sum_eq_zero fun l _ => ?_
    have := l.isLt
    rw [ho, if_neg (by omega), zero_mul]

/-- The whole lookup loop: after all chunks every row is the codebook row of its place. -/
theorem look_loop {T : ℕ} (st : ℕ → FVec Ideal (Mat R 256) .f32) (idx : IVec (Mat R 1) 32)
    (w : Fin T → FVec Ideal (Mat C 256) .f32) (off : Fin T → BitVec 32) (h0 hi)
    (s0 : st 0 = broadcast (Mat R 256) (Scalar.ofBits .f32 0x00000000#32 : Ideal .f32))
    (s1 : ∀ k : Fin T, st (k.val + 1) = gLook idx (w k) (off k) (st k.val) h0 hi)
    (cb : ℕ → Row) (hT : T * C = 8192) (hoff : ∀ k : Fin T, (off k).toNat = k.val * C)
    (hcb : ∀ (k : Fin T) (l : Fin C) (c : Fin 256), w k (ix2 l c) = cb (k.val * C + l.val) c)
    (r : Fin R) (n : ℕ) (hn : n < 8192) (hidx : (idx (ix2 r 0)).toNat = n) (c : Fin 256) :
    st T (ix2 r c) = cb n c := by
  have key : ∀ k ≤ T, st k (ix2 r c) = if n < k * C then cb n c else 0 := by
    intro k
    induction k with
    | zero =>
      intro _
      rw [s0, Nat.zero_mul, if_neg (Nat.not_lt_zero _)]
      exact Ideal.ofBits_zero_f32
    | succ k ih =>
      intro hk
      have hk' : k < T := hk
      have hle : (k + 1) * C ≤ 8192 := hT ▸ Nat.mul_le_mul_right C hk
      rw [Nat.add_mul, Nat.one_mul] at hle ⊢
      rw [s1 ⟨k, hk'⟩, gLook_apply _ _ _ _ _ _ r c (k * C) (hoff ⟨k, hk'⟩) (by omega), ih (by omega)]
      by_cases h1 : n < k * C
      · rw [if_pos h1, if_pos (by omega), dif_neg (by rw [hidx]; omega), add_zero]
      · rw [if_neg h1, zero_add]
        by_cases h2 : n < k * C + C
        · rw [if_pos h2, dif_pos (by rw [hidx]; omega), hcb]
          have e : k * C + ((idx (ix2 r 0)).toNat - k * C) = n := by rw [hidx]; omega
          show cb (k * C + ((idx (ix2 r 0)).toNat - k * C)) c = _
          rw [e]
        · rw [if_neg h2, dif_neg (by rw [hidx]; omega)]
  rw [key T le_rfl, hT, if_pos hn]

/-- A match loop and then a lookup loop: every row of `y` is the code of the same row of `x`. -/
theorem code_loops {T T' : ℕ} {stM : ℕ → FVec Ideal (Mat R 1) .f32 × IVec (Mat R 1) 32} {stL : ℕ → FVec Ideal (Mat R 256) .f32}
    {x : FVec Ideal (Mat R 256) .f32} {g1 g2 g3} {wM : Fin T → FVec Ideal (Mat C 256) .bf16} {offM : Fin T → BitVec 32} {hw h0 hi h1 h2}
    {wL : Fin T' → FVec Ideal (Mat C 256) .f32} {offL : Fin T' → BitVec 32} {k0 ki}
    (s0 : stM 0 = (broadcast (Mat R 1) (Scalar.ofBits .f32 0xFF800000#32 : Ideal .f32), broadcast (Mat R 1) 0#32))
    (s1 : ∀ k : Fin T, stM (k.val + 1) = gMatch (gUnit x g1 g2 g3) (wM k) (offM k) (stM k.val).1 (stM k.val).2 hw h0 hi h1 h2)
    (l0 : stL 0 = broadcast (Mat R 256) (Scalar.ofBits .f32 0x00000000#32 : Ideal .f32))
    (l1 : ∀ k : Fin T', stL (k.val + 1) = gLook (stM T).2 (wL k) (offL k) (stL k.val) k0 ki)
    (cb : ℕ → Row) (hC : 0 < C) (hT : T * C = 8192) (hT' : T' * C = 8192) (hoffM : ∀ k : Fin T, (offM k).toNat = k.val * C)
    (hoffL : ∀ k : Fin T', (offL k).toNat = k.val * C)
    (hcbn : ∀ (k : Fin T) (l : Fin C) (c : Fin 256), wM k (ix2 l c) = unit (cb (k.val * C + l.val)) c)
    (hcb : ∀ (k : Fin T') (l : Fin C) (c : Fin 256), wL k (ix2 l c) = cb (k.val * C + l.val) c)
    (r : Fin R) (c : Fin 256) : stL T' (ix2 r c) = code cb (fun c => x (ix2 r c)) c :=
  look_loop stL (stM T).2 wL offL k0 ki l0 l1 cb hT' hoffL hcb r _ (near_lt _ _)
    (match_loop stM _ wM offM hw h0 hi h1 h2 s0 s1 cb hC hT hoffM hcbn r _ (gUnit_apply x g1 g2 g3 r)) c

/-- A chunk of `C` rows read from row `n` on. -/
theorem idx_rows {K : ℕ} {off : Fin 2 → ℕ} {n : ℕ} (inb : ∀ a, off a + (Mat C 256).size a ≤ (Mat K 256).size a) (e0 : off 0 = n) (e1 : off 1 = 0)
    (l : Fin C) (c : Fin 256) (hl : n + l.val < K) :
    (Rect.unit (s := Mat K 256) off (Mat C 256).size inb).toLoadRect.idx (ix2 l c) = ix2 ⟨n + l.val, hl⟩ c := by
  funext a
  apply Fin.ext
  fin_cases a
  · show off 0 + 1 * l.val = n + l.val; rw [e0]; omega
  · show off 1 + 1 * c.val = c.val; rw [e1]; omega

/-- The word that the kernel multiplies a trip's number to: where its chunk starts. -/
def start (C : ℕ) (k : ℕ) : BitVec 32 := Scalar.muli (Scf.iv 0#32 1#32 k) (BitVec.ofNat 32 C)

/-- The two loops as the kernel runs them, on chunks read of the normalised codebook and of the codebook. -/
theorem code_run {sig : RefSig} {κ κ' : Kind} {sp sp' : Space} (C : ℕ) {T T' : ℕ} (m : Memref sig κ sp (Mat 8192 256) .bf16) (hm : m.IsWhole)
    (m' : Memref sig κ' sp' (Mat 8192 256) .f32) (hm' : m'.IsWhole) (y : (Mat 8192 256).Idx → EReal) (cb : (Mat 8192 256).Idx → EReal)
    (hy : ∀ (k : Fin 8192) (c : Fin 256), y (ix2 k c) = unit (rows cb k.val) c)
    (o : Fin T → Fin 2 → ℕ) (io : ∀ k a, o k a + (Mat C 256).size a ≤ (Mat 8192 256).size a)
    (o' : Fin T' → Fin 2 → ℕ) (io' : ∀ k a, o' k a + (Mat C 256).size a ≤ (Mat 8192 256).size a)
    (eo : ∀ k, (start C k.val).toNat = k.val * C ∧ o k 0 = k.val * C ∧ o k 1 = 0)
    (eo' : ∀ k, (start C k.val).toNat = k.val * C ∧ o' k 0 = k.val * C ∧ o' k 1 = 0)
    (hC : 0 < C) (hT : T * C = 8192) (hT' : T' * C = 8192)
    {stM : ℕ → FVec Ideal (Mat R 1) .f32 × IVec (Mat R 1) 32} {stL : ℕ → FVec Ideal (Mat R 256) .f32}
    (x : FVec Ideal (Mat R 256) .f32) {g1 g2 g3 hw h0 hi h1 h2 k0 ki}
    (s0 : stM 0 = (broadcast (Mat R 1) (Scalar.ofBits .f32 0xFF800000#32 : Ideal .f32), broadcast (Mat R 1) 0#32))
    (s1 : ∀ k : Fin T, stM (k.val + 1) = gMatch (gUnit x g1 g2 g3)
      (m.view.readAt (Elt Ideal) (Rect.unit (s := Mat 8192 256) (o k) (Mat C 256).size (io k)).toLoadRect (hm.unread y) : (Mat C 256).Idx → EReal)
      (start C k.val) (stM k.val).1 (stM k.val).2 hw h0 hi h1 h2)
    (l0 : stL 0 = broadcast (Mat R 256) (Scalar.ofBits .f32 0x00000000#32 : Ideal .f32))
    (l1 : ∀ k : Fin T', stL (k.val + 1) = gLook (stM T).2
      (m'.view.readAt (Elt Ideal) (Rect.unit (s := Mat 8192 256) (o' k) (Mat C 256).size (io' k)).toLoadRect (hm'.unread cb) : (Mat C 256).Idx → EReal)
      (start C k.val) (stL k.val) k0 ki)
    (r : Fin R) (c : Fin 256) : stL T' (ix2 r c) = code (rows cb) (fun c => x (ix2 r c)) c := by
  have hlt : ∀ {T : ℕ} (k : Fin T) (l : Fin C), T * C = 8192 → k.val * C + l.val < 8192 := fun {T} k l h => by
    have : (k.val + 1) * C ≤ T * C := Nat.mul_le_mul_right C k.isLt
    rw [Nat.add_mul] at this
    have := l.isLt
    omega
  refine code_loops s0 s1 l0 l1 (rows cb) hC hT hT' (fun k => (eo k).1) (fun k => (eo' k).1) (fun k l c => ?_) (fun k l c => ?_) r c
  · have e := idx_rows (io k) (eo k).2.1 (eo k).2.2 l c (hlt k l hT)
    refine (hm.readAt_unread (Val := Elt Ideal) y _ _).trans ?_
    refine (congrArg y e).trans ?_
    exact hy _ c
  · have e := idx_rows (io' k) (eo' k).2.1 (eo' k).2.2 l c (hlt k l hT')
    refine (hm'.readAt_unread (Val := Elt Ideal) cb _ _).trans ?_
    refine (congrArg cb e).trans ?_
    rw [rows_of_lt cb (hlt k l hT')]

end Cert.VQ

end
-- ==== Proof.Hot.lean ====
module

public import proofs.«01_k».proof.Proof.Ker

@[expose] public section

noncomputable section

/-! Resizing by products with matrices that have one `1` in every row, and the update of one batch. -/

namespace Cert.VQ

open Idealize.ShloMosaic Idealize.ShloMosaic.ValueIdx

variable {M K : ℕ}

/-- The matrix that picks, for row `r < p`, the column `⌊(r + 1/2) · a / d⌋`, and column `0` for the other rows. -/
def gHot (a d : BitVec 32) (p : BitVec 32) (h0 : (Mat M K).Iotas .tc 32 [0]) (h1 : (Mat M K).Iotas .tc 32 [1]) :
    FVec Ideal (Mat M K) .f32 :=
  sitofp .f32 (extui 32 (cmpf .oeq (sitofp .f32 (iota .tc (Mat M K) 32 [1] h1))
    (select (cmpi .slt (iota .tc (Mat M K) 32 [0] h0) (broadcast (Mat M K) p))
      (floor (divf (mulf (addf (sitofp .f32 (iota .tc (Mat M K) 32 [0] h0))
        (broadcast (Mat M K) (Scalar.ofBits .f32 0x3F000000#32 : Ideal .f32)))
        (broadcast (Mat M K) (Scalar.ofBits .f32 a : Ideal .f32)))
        (broadcast (Mat M K) (Scalar.ofBits .f32 d : Ideal .f32))))
      (broadcast (Mat M K) (Scalar.ofBits .f32 0x00000000#32 : Ideal .f32)))) (by decide))

/-- The word `0x3F000000` is one half. -/
theorem half : Ideal.ofBits .f32 0x3F000000#32 = (((1 / 2 : ℝ)) : EReal) := by
  have h : ((8388608 : ℝ) : EReal) * (((2 ^ 24)⁻¹ : ℝ) : EReal) = ((2⁻¹ : ℝ) : EReal) := by
    rw [← EReal.coe_mul]; norm_num
  simpa [Ideal.ofBits, Ideal.ieee] using h

/-- The place read by `(i + 1/2) · n / m`, rounded down. -/
theorem floor_place (i n m : ℕ) (hm : 0 < m) :
    Ideal.liftRound Int.floor (Ideal.div ((((i : ℝ) : EReal) + ((1 / 2 : ℝ) : EReal)) * ((n : ℝ) : EReal)) ((m : ℝ) : EReal))
      = ((pick n m i : ℝ) : EReal) := by
  have hm' : (m : ℝ) ≠ 0 := by positivity
  have e : Ideal.div ((((i : ℝ) : EReal) + ((1 / 2 : ℝ) : EReal)) * ((n : ℝ) : EReal)) ((m : ℝ) : EReal)
      = ((((2 * i + 1) * n : ℕ) : ℝ) / ((2 * m : ℕ) : ℝ) : ℝ) := by
    rw [Ideal.div_coe hm', ← EReal.coe_add, ← EReal.coe_mul, ← EReal.coe_mul]
    congr 1
    push_cast
    field_simp
  rw [e, Ideal.liftRound_coe]
  congr 1
  have : ⌊(((2 * i + 1) * n : ℕ) : ℝ) / ((2 * m : ℕ) : ℝ)⌋ = ((pick n m i : ℕ) : ℤ) := by
    have hb : (0 : ℝ) < ((2 * m : ℕ) : ℝ) := by positivity
    rw [Int.floor_eq_iff, le_div_iff₀ hb, div_lt_iff₀ hb]
    have h1 := Nat.div_mul_le_self ((2 * i + 1) * n) (2 * m)
    have h2 := Nat.lt_div_mul_add (a := (2 * i + 1) * n) (b := 2 * m) (by omega)
    rw [← Nat.succ_mul] at h2
    exact ⟨by exact_mod_cast h1, by exact_mod_cast h2⟩
  rw [this]; push_cast; rfl

/-- A number below `2 ^ 31` reads back unchanged from its signed 32-bit word. -/
theorem toInt_small {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- An entry of the kernel's resizing matrix is 1 where the column is the place that the row picks, and 0 elsewhere; rows past the last place pick place 0. -/
theorem gHot_apply {a d : BitVec 32} {A D P : ℕ} (h0 h1) (ha : Ideal.ofBits .f32 a = ((A : ℝ) : EReal))
    (hd : Ideal.ofBits .f32 d = ((D : ℝ) : EReal)) (hD : 0 < D) (hM : M < 2 ^ 31) (hK : K < 2 ^ 31) (hP : P < 2 ^ 31)
    (r : Fin M) (n : Fin K) :
    gHot a d (BitVec.ofNat 32 P) h0 h1 (ix2 r n)
      = if n.val = (if r.val < P then pick A D r.val else 0) then (1 : EReal) else 0 := by
  have hr := r.isLt
  have hn := n.isLt
  have e0 : iota .tc (Mat M K) 32 [0] h0 (ix2 r n) = BitVec.ofNat 32 r.val := iota_single_apply ..
  have e1 : iota .tc (Mat M K) 32 [1] h1 (ix2 r n) = BitVec.ofNat 32 n.val := iota_single_apply ..
  show FloatOps.sitofp (F := Ideal) .f32 ((BitVec.ofBool (decide (
      ((((iota .tc (Mat M K) 32 [1] h1 (ix2 r n)).toInt : ℝ) : EReal) =
      (if BitVec.ofBool ((iota .tc (Mat M K) 32 [0] h0 (ix2 r n)).slt (BitVec.ofNat 32 P)) = 1#1 then
        Ideal.liftRound Int.floor (Ideal.div (((((iota .tc (Mat M K) 32 [0] h0 (ix2 r n)).toInt : ℝ) : EReal)
          + Ideal.ofBits .f32 0x3F000000#32) * Ideal.ofBits .f32 a) (Ideal.ofBits .f32 d))
        else Ideal.ofBits .f32 0x00000000#32))))).setWidth 32) = _
  rw [word_of_bit, e0, e1, ha, hd, half, Ideal.ofBits_zero_f32, toInt_small (by omega), toInt_small (by omega)]
  refine if_congr ?_ rfl rfl
  have es : (BitVec.ofNat 32 r.val).slt (BitVec.ofNat 32 P) = decide (r.val < P) := by
    rw [BitVec.slt, toInt_small (by omega), toInt_small (by omega)]; simp
  rw [es]
  by_cases h : r.val < P
  · simp only [h, decide_true, BitVec.ofBool_true, if_true]
    rw [if_pos (show (1 : BitVec 1) = 1#1 from rfl)]
    have := floor_place r.val A D hD
    push_cast at this ⊢
    rw [this]
    norm_cast
  · simp only [h, decide_false, BitVec.ofBool_false, if_false]
    rw [if_neg (show ¬ (0 : BitVec 1) = 1#1 by decide)]
    norm_cast

/-- A product of two reals is the same product in the extended reals. -/
theorem coe_mul_eq {a b c : ℝ} (h : a * b = c) : (a : EReal) * (b : EReal) = (c : EReal) := by rw [← EReal.coe_mul, h]

/-! The words that the kernel writes for the extents are those naturals. -/

/-- The float word of 1. -/
theorem word_1 : Ideal.ofBits .f32 0x3F800000#32 = (((1 : ℕ) : ℝ) : EReal) := by
  simp [Ideal.ofBits, Ideal.ieee]; exact (coe_mul_eq (c := 1) (by norm_num)).trans EReal.coe_one

/-- The float word of 4. -/
theorem word_4 : Ideal.ofBits .f32 0x40800000#32 = (((4 : ℕ) : ℝ) : EReal) := by
  simp [Ideal.ofBits, Ideal.ieee]; exact coe_mul_eq (by norm_num)

/-- The float word of 9. -/
theorem word_9 : Ideal.ofBits .f32 0x41100000#32 = (((9 : ℕ) : ℝ) : EReal) := by
  simp [Ideal.ofBits, Ideal.ieee]; exact coe_mul_eq (by norm_num)

/-- The float word of 16. -/
theorem word_16 : Ideal.ofBits .f32 0x41800000#32 = (((16 : ℕ) : ℝ) : EReal) := by
  simp [Ideal.ofBits, Ideal.ieee]; exact coe_mul_eq (by norm_num)

/-- The float word of 25. -/
theorem word_25 : Ideal.ofBits .f32 0x41C80000#32 = (((25 : ℕ) : ℝ) : EReal) := by
  simp [Ideal.ofBits, Ideal.ieee]; exact coe_mul_eq (by norm_num)

/-- The float word of 36. -/
theorem word_36 : Ideal.ofBits .f32 0x42100000#32 = (((36 : ℕ) : ℝ) : EReal) := by
  simp [Ideal.ofBits, Ideal.ieee]; exact coe_mul_eq (by norm_num)

/-- The float word of 64. -/
theorem word_64 : Ideal.ofBits .f32 0x42800000#32 = (((64 : ℕ) : ℝ) : EReal) := by
  simp [Ideal.ofBits, Ideal.ieee]; exact coe_mul_eq (by norm_num)

/-- The float word of 100. -/
theorem word_100 : Ideal.ofBits .f32 0x42C80000#32 = (((100 : ℕ) : ℝ) : EReal) := by
  simp [Ideal.ofBits, Ideal.ieee]; exact coe_mul_eq (by norm_num)

/-- The float word of 169. -/
theorem word_169 : Ideal.ofBits .f32 0x43290000#32 = (((169 : ℕ) : ℝ) : EReal) := by
  simp [Ideal.ofBits, Ideal.ieee]; exact coe_mul_eq (by norm_num)

/-- The float word of 256. -/
theorem word_256 : Ideal.ofBits .f32 0x43800000#32 = (((256 : ℕ) : ℝ) : EReal) := by
  simp [Ideal.ofBits, Ideal.ieee]; exact coe_mul_eq (by norm_num)

/-- The float word of 1024. -/
theorem word_1024 : Ideal.ofBits .f32 0x44800000#32 = (((1024 : ℕ) : ℝ) : EReal) := by
  simp [Ideal.ofBits, Ideal.ieee]; exact coe_mul_eq (by norm_num)

end Cert.VQ

end
-- ==== Proof.Step.lean ====
module

public import proofs.«01_k».proof.Proof.Hot
public import Idealize.ShloMosaic.Lib.Pipeline.FrameBody
public import Idealize.ShloMosaic.Lib.WholeRead

@[expose] public section

noncomputable section

/-! The update of one batch in the buffers of remainders and of sums, as lists of stores. -/

namespace Cert.VQ

open Idealize.ShloMosaic Idealize.ShloMosaic.ValueIdx

/-- The shape of the remainders and sums of all batches. -/
abbrev Big : Shape := ⟨3, ![8, 1024, 256]⟩
/-- The shape of one batch. -/
abbrev One : Shape := ⟨3, ![1, 1024, 256]⟩
/-- A list of stores, the last one first. -/
abbrev Stores := List (View.Piece (Elt Ideal) Big .f32)

/-- The stores `L` leave row `R b n` at row `n` of batch `b`. -/
def Inv (L : Stores) (R : ℕ → ℕ → Row) : Prop :=
  ∀ (b : Fin 8) (n : Fin 1024) (c : Fin 256), View.canon L (ix3 b n c) = R b.val n.val c

/-- The first `k` batches from `R'`, the others from `R`. -/
def mix (R R' : ℕ → ℕ → Row) (k : ℕ) : ℕ → ℕ → Row := fun b => if b < k then R' b else R b

/-- Before the first of a scale's stores. -/
theorem Inv.start {L : Stores} {R : ℕ → ℕ → Row} (h : Inv L R) (R' : ℕ → ℕ → Row) : Inv L (mix R R' 0) := h

/-- After the last of a scale's stores. -/
theorem Inv.done {L : Stores} {R R' : ℕ → ℕ → Row} (h : Inv L (mix R R' 8)) : Inv L R' := fun b n c => by
  rw [h b n c, mix, if_pos b.isLt]

/-- The entries of batch `o` of the buffer. -/
theorem idx_block (o : ℕ) (ho : o < 8) (inb) (n : Fin 1024) (c : Fin 256) :
    (Rect.unit (s := Big) ![o, 0, 0] ![1, 1024, 256] inb).toLoadRect.idx (ix3 (0 : Fin 1) n c) = ix3 ⟨o, ho⟩ n c := by
  funext a
  apply Fin.ext
  fin_cases a
  · show o + 1 * 0 = o; omega
  · show 0 + 1 * n.val = n.val; omega
  · show 0 + 1 * c.val = c.val; omega

/-- The entries of the whole buffer. -/
theorem idx_all (b : Fin 8) (n : Fin 1024) (c : Fin 256) :
    (Rect.unit (s := Big) ![0, 0, 0] Big.size (by decide)).toLoadRect.idx (ix3 b n c) = ix3 b n c := by
  funext a
  apply Fin.ext
  fin_cases a
  · show 0 + 1 * b.val = b.val; omega
  · show 0 + 1 * n.val = n.val; omega
  · show 0 + 1 * c.val = c.val; omega

/-- Batch `o`, read of the buffer that the stores leave. -/
theorem Inv.read {sig : RefSig} {κ : Kind} {sp : Space} {L : Stores} {R : ℕ → ℕ → Row} (h : Inv L R) (v : View sig κ sp Big .f32) (o : ℕ)
    (ho : o < 8) (inb) (n : Fin 1024) (c : Fin 256) :
    v.readCov L (Rect.unit (s := Big) ![o, 0, 0] ![1, 1024, 256] inb).toLoadRect (ix3 (0 : Fin 1) n c) = R o n.val c := by
  rw [View.readCov_eq_canon']
  show View.canon L ((Rect.unit (s := Big) ![o, 0, 0] ![1, 1024, 256] inb).toLoadRect.idx (ix3 (0 : Fin 1) n c)) = _
  rw [idx_block o ho]
  exact h ⟨o, ho⟩ n c

/-- A store of batch `o` moves that batch from `R` to `R'`. -/
theorem Inv.put {L : Stores} {R R' : ℕ → ℕ → Row} {o : ℕ} (h : Inv L (mix R R' o)) (ho : o < 8) (inb)
    (w : One.Idx → EReal) (hw : ∀ (n : Fin 1024) (c : Fin 256), w (ix3 (0 : Fin 1) n c) = R' o n.val c) :
    Inv ((⟨Rect.unit (s := Big) ![o, 0, 0] ![1, 1024, 256] inb, w⟩ : View.Piece (Elt Ideal) Big .f32) :: L) (mix R R' (o + 1)) := by
  intro b n c
  by_cases hb : b.val = o
  · have e : ix3 b n c = (Rect.unit (s := Big) ![o, 0, 0] ![1, 1024, 256] inb).emb (ix3 (0 : Fin 1) n c) := by
      have := idx_block o ho inb n c
      obtain rfl : b = ⟨o, ho⟩ := Fin.ext hb
      exact this.symm
    rw [e, View.canon_cons_emb, hw, mix, hb, if_pos (Nat.lt_succ_self o)]
  · rw [View.canon_cons_of_not_mem, h b n c]
    · have : (b.val < o + 1) ↔ (b.val < o) := by omega
      simp only [mix, this]
    · rw [Rect.mem_set_unit]
      intro hm
      have := hm 0
      change o ≤ b.val ∧ b.val < o + 1 at this
      omega

/-- A batch less a matrix. -/
def gSub (u : FVec Ideal (Mat 1024 256) .f32) (v : FVec Ideal One .f32) (h1 : One.ShapeCasts (Mat 1024 256))
    (h2 : (Mat 1024 256).ShapeCasts One) : FVec Ideal One .f32 :=
  shapeCast One (subf (shapeCast (Mat 1024 256) v h1) u) h2

/-- A batch plus a matrix. -/
def gAdd (u : FVec Ideal (Mat 1024 256) .f32) (v : FVec Ideal One .f32) (h1 : One.ShapeCasts (Mat 1024 256))
    (h2 : (Mat 1024 256).ShapeCasts One) : FVec Ideal One .f32 :=
  shapeCast One (addf (shapeCast (Mat 1024 256) v h1) u) h2

/-- An entry of a batch less a matrix. -/
theorem gSub_apply (u v h1 h2) (n : Fin 1024) (c : Fin 256) :
    gSub u v h1 h2 (ix3 (0 : Fin 1) n c) = v (ix3 (0 : Fin 1) n c) - u (ix2 n c) := by
  unfold gSub
  rw [shapeCast_ab_1ab_apply]
  show shapeCast (Mat 1024 256) v h1 (ix2 n c) - _ = _
  rw [shapeCast_1ab_ab_apply]

/-- An entry of a batch plus a matrix. -/
theorem gAdd_apply (u v h1 h2) (n : Fin 1024) (c : Fin 256) :
    gAdd u v h1 h2 (ix3 (0 : Fin 1) n c) = v (ix3 (0 : Fin 1) n c) + u (ix2 n c) := by
  unfold gAdd
  rw [shapeCast_ab_1ab_apply]
  show shapeCast (Mat 1024 256) v h1 (ix2 n c) + _ = _
  rw [shapeCast_1ab_ab_apply]

variable {sig : RefSig} {κ : Kind} {sp : Space}

/-- Batch `o` of the buffer that the stores `L` leave. -/
def gRead (v : View sig κ sp Big .f32) (L : Stores) (o : ℕ) (inb : ∀ a, ![o, 0, 0] a + ![1, 1024, 256] a ≤ Big.size a) : FVec Ideal One .f32 :=
  v.readCov L (Rect.unit (s := Big) ![o, 0, 0] ![1, 1024, 256] inb).toLoadRect

/-- The store of batch `o` of the remainders, whatever computes what is taken away. -/
theorem Inv.sub {cb : ℕ → Row} {p : ℕ} {R : ℕ → ℕ → Row} {L : Stores} (o : ℕ) (ho : o < 8) {v : View sig κ sp Big .f32}
    {u : FVec Ideal (Mat 1024 256) .f32} {i1 i2 g1 g2} (h : Inv L (mix R (fun b => less cb p (R b)) o))
    (hu : ∀ (n : Fin 1024) (c : Fin 256), u (ix2 n c) = up cb p (R o) n.val c) :
    Inv ((⟨Rect.unit (s := Big) ![o, 0, 0] ![1, 1024, 256] i1, gSub u (gRead v L o i2) g1 g2⟩ : View.Piece (Elt Ideal) Big .f32) :: L)
      (mix R (fun b => less cb p (R b)) (o + 1)) := by
  refine h.put ho _ _ fun n c => ?_
  rw [gSub_apply, gRead, h.read v o ho, hu, mix, if_neg (Nat.lt_irrefl o)]; rfl

/-- The store of batch `o` of the sums, whatever computes what is added. -/
theorem Inv.add {cb : ℕ → Row} {p : ℕ} {R A : ℕ → ℕ → Row} {L : Stores} (o : ℕ) (ho : o < 8) {v : View sig κ sp Big .f32}
    {u : FVec Ideal (Mat 1024 256) .f32} {i1 i2 g1 g2} (h : Inv L (mix A (fun b => more cb p (R b) (A b)) o))
    (hu : ∀ (n : Fin 1024) (c : Fin 256), u (ix2 n c) = up cb p (R o) n.val c) :
    Inv ((⟨Rect.unit (s := Big) ![o, 0, 0] ![1, 1024, 256] i1, gAdd u (gRead v L o i2) g1 g2⟩ : View.Piece (Elt Ideal) Big .f32) :: L)
      (mix A (fun b => more cb p (R b) (A b)) (o + 1)) := by
  refine h.put ho _ _ fun n c => ?_
  rw [gAdd_apply, gRead, h.read v o ho, hu, mix, if_neg (Nat.lt_irrefl o)]; rfl

/-! ### Resizing -/

/-- Row `r` of the matrix has its one `1` at the place that nearest resizing from `A` to `D` places reads for `r`; the rows from `P` on have it at `0`. -/
def IsHot {M K : ℕ} (o : FVec Ideal (Mat M K) .f32) (A D P : ℕ) : Prop :=
  ∀ (r : Fin M) (n : Fin K), o (ix2 r n) = if n.val = (if r.val < P then pick A D r.val else 0) then (1 : EReal) else 0

/-- Rows of a batch picked by a matrix. -/
def gDown {P : ℕ} (D : FVec Ideal (Mat P 1024) .f32) (v : FVec Ideal One .f32) (h1 : One.ShapeCasts (Mat 1024 256)) :
    FVec Ideal (Mat P 256) .f32 :=
  matmul (DotDims.plain P 1024 256) (some .fp32) D (shapeCast (Mat 1024 256) v h1) (constant (Mat P 256) .f32 0x00000000#32)

/-- A matrix with one `1` in each row picks rows of the batch. -/
theorem gDown_apply {P p : ℕ} {D : FVec Ideal (Mat P 1024) .f32} (hD : IsHot D 1024 p p) (v : FVec Ideal One .f32) (h1)
    (r : Fin P) (hr : r.val < p) (c : Fin 256) :
    gDown D v h1 (ix2 r c) = v (ix3 (0 : Fin 1) ⟨pick 1024 p r.val, pick_lt hr (by decide)⟩ c) := by
  unfold gDown
  rw [pick_row _ D _ r c ⟨pick 1024 p r.val, pick_lt hr (by decide)⟩ (fun k => by rw [hD r k]; simp only [hr, if_true, Fin.ext_iff])]
  exact shapeCast_1ab_ab_apply ..

/-- Rows `q`, `q + 1`, … of the codes, picked by a matrix. -/
def gUp {P p : ℕ} (U : FVec Ideal (Mat 1024 p) .f32) (y : FVec Ideal (Mat P 256) .f32) (q : ℕ)
    (hs : (Mat P 256).Slices ![q, 0] (Mat p 256)) : FVec Ideal (Mat 1024 256) .f32 :=
  matmul (DotDims.plain 1024 p 256) (some .fp32) U (extractStridedSlice (Mat p 256) ![q, 0] y hs)
    (constant (Mat 1024 256) .f32 0x00000000#32)

/-- Codes of the rows that a scale reads, picked for all 1024 places, are what the scale adds. -/
theorem gUp_apply {P p : ℕ} {U : FVec Ideal (Mat 1024 p) .f32} (hU : IsHot U p 1024 1024) (hp : 0 < p) (y : FVec Ideal (Mat P 256) .f32)
    (q : ℕ) (hs) (cb : ℕ → Row) (rest : ℕ → Row) (hq : q + p ≤ P)
    (hy : ∀ (r : Fin P) (k : ℕ), k < p → r.val = q + k → ∀ c, y (ix2 r c) = code cb (rest (pick 1024 p k)) c) (n : Fin 1024) (c : Fin 256) :
    gUp U y q hs (ix2 n c) = up cb p rest n.val c := by
  have hk : pick p 1024 n.val < p := pick_lt n.isLt hp
  unfold gUp
  rw [pick_row _ U _ n c ⟨pick p 1024 n.val, hk⟩ (fun k => by rw [hU n k]; simp only [n.isLt, if_true, Fin.ext_iff])]
  rw [slice2_axis0_apply q y hs ⟨pick p 1024 n.val, hk⟩ c ⟨q + pick p 1024 n.val, by omega⟩ rfl]
  exact hy _ _ hk rfl c

/-- Codes without a slice, picked by a matrix. -/
theorem up_apply {p : ℕ} {U : FVec Ideal (Mat 1024 p) .f32} (hU : IsHot U p 1024 1024) (hp : 0 < p) (y : FVec Ideal (Mat p 256) .f32)
    (cb : ℕ → Row) (rest : ℕ → Row) (hy : ∀ (r : Fin p) c, y (ix2 r c) = code cb (rest (pick 1024 p r.val)) c) (n : Fin 1024) (c : Fin 256) :
    matmul (DotDims.plain 1024 p 256) (some .fp32) U y (constant (Mat 1024 256) .f32 0x00000000#32) (ix2 n c) = up cb p rest n.val c := by
  have hk : pick p 1024 n.val < p := pick_lt n.isLt hp
  rw [pick_row _ U _ n c ⟨pick p 1024 n.val, hk⟩ (fun k => by rw [hU n k]; simp only [n.isLt, if_true, Fin.ext_iff])]
  exact hy _ c

/-- Eight matrices of `P` rows, one under the other. -/
def gCat {P Q : ℕ} (y0 y1 y2 y3 y4 y5 y6 y7 : FVec Ideal (Mat P 256) .f32)
    (h : Shape.Concatenates [Mat P 256, Mat P 256, Mat P 256, Mat P 256, Mat P 256, Mat P 256, Mat P 256, Mat P 256] (Mat Q 256) 0) :
    FVec Ideal (Mat Q 256) .f32 :=
  concatenate (Mat Q 256) 0 [⟨Mat P 256, y0⟩, ⟨Mat P 256, y1⟩, ⟨Mat P 256, y2⟩, ⟨Mat P 256, y3⟩, ⟨Mat P 256, y4⟩, ⟨Mat P 256, y5⟩,
    ⟨Mat P 256, y6⟩, ⟨Mat P 256, y7⟩] h

/-- Row `r` of matrix `o` in the eight. -/
theorem gCat_apply {P Q : ℕ} (y : ℕ → FVec Ideal (Mat P 256) .f32) (h) (o : ℕ) (ho : o < 8) (r : Fin P) (j : Fin Q)
    (hj : j.val = o * P + r.val) (c : Fin 256) :
    gCat (y 0) (y 1) (y 2) (y 3) (y 4) (y 5) (y 6) (y 7) h (ix2 j c) = y o (ix2 r c) := by
  unfold gCat
  have hoff : ∀ b : Fin 2, b ≠ 0 → (ix2 r c b).val = (ix2 j c b).val := by
    intro b hb; fin_cases b
    · exact absurd rfl hb
    · rfl
  exact concatenate_apply_piece (t := Mat Q 256) 0 [⟨Mat P 256, y 0⟩, ⟨Mat P 256, y 1⟩, ⟨Mat P 256, y 2⟩, ⟨Mat P 256, y 3⟩,
    ⟨Mat P 256, y 4⟩, ⟨Mat P 256, y 5⟩, ⟨Mat P 256, y 6⟩, ⟨Mat P 256, y 7⟩] h (ix2 j c) o ho (Mat P 256) (y o)
    (by interval_cases o <;> rfl) rfl (o * P) (by interval_cases o <;> simp <;> omega) (ix2 r c) hoff hj.symm

/-- The rows that a scale of `p` places reads of all batches, `P` rows for each. -/
def gRows {P Q : ℕ} (D : FVec Ideal (Mat P 1024) .f32) (v : View sig κ sp Big .f32) (L : Stores)
    (inb : ∀ o, o < 8 → ∀ a, ![o, 0, 0] a + ![1, 1024, 256] a ≤ Big.size a) (g : One.ShapeCasts (Mat 1024 256))
    (h : Shape.Concatenates [Mat P 256, Mat P 256, Mat P 256, Mat P 256, Mat P 256, Mat P 256, Mat P 256, Mat P 256] (Mat Q 256) 0) :
    FVec Ideal (Mat Q 256) .f32 :=
  gCat (gDown D (gRead v L 0 (inb 0 (by decide))) g) (gDown D (gRead v L 1 (inb 1 (by decide))) g)
    (gDown D (gRead v L 2 (inb 2 (by decide))) g) (gDown D (gRead v L 3 (inb 3 (by decide))) g)
    (gDown D (gRead v L 4 (inb 4 (by decide))) g) (gDown D (gRead v L 5 (inb 5 (by decide))) g)
    (gDown D (gRead v L 6 (inb 6 (by decide))) g) (gDown D (gRead v L 7 (inb 7 (by decide))) g) h

/-- Every batch lies within the buffer. -/
theorem inb_block (o : ℕ) (ho : o < 8) : ∀ a, ![o, 0, 0] a + ![1, 1024, 256] a ≤ Big.size a := by
  intro a; fin_cases a
  · show o + 1 ≤ 8; omega
  · show 0 + 1024 ≤ 1024; omega
  · show 0 + 256 ≤ 256; omega

/-- They are the rows at the places that nearest resizing reads. -/
theorem gRows_apply {P Q p : ℕ} {D : FVec Ideal (Mat P 1024) .f32} (hD : IsHot D 1024 p p) (v : View sig κ sp Big .f32) {L : Stores}
    {R : ℕ → ℕ → Row} (hL : Inv L R) (inb g h) (hp : p ≤ P) (o : ℕ) (ho : o < 8) (k : ℕ) (hk : k < p) (r : Fin Q) (hr : r.val = o * P + k) (c : Fin 256) :
    gRows D v L inb g h (ix2 r c) = R o (pick 1024 p k) c := by
  have e := gCat_apply (fun o => gDown D (gRead v L (min o 7) (inb _ (by omega))) g) h o ho ⟨k, hk.trans_le hp⟩ r hr c
  refine e.trans ?_
  rw [gDown_apply hD _ g _ hk, gRead, hL.read v (min o 7) (by omega), Nat.min_eq_left (by omega)]

/-- The rows that a scale of `p` places reads of batch `o`, which it has not stored to yet. -/
theorem gOne_apply {P p : ℕ} {D : FVec Ideal (Mat P 1024) .f32} (hD : IsHot D 1024 p p) (v : View sig κ sp Big .f32) {L : Stores}
    {R R' : ℕ → ℕ → Row} {o : ℕ} (hL : Inv L (mix R R' o)) (ho : o < 8) (inb g) (r : Fin P) (hr : r.val < p) (c : Fin 256) :
    gDown D (gRead v L o inb) g (ix2 r c) = R o (pick 1024 p r.val) c := by
  rw [gDown_apply hD _ g r hr, gRead, hL.read v o ho, mix, if_neg (Nat.lt_irrefl o)]

/-- What a scale of `p` places adds to batch `o`, when the codes of all batches are one under the other. -/
theorem batch_up {P Q p : ℕ} {U : FVec Ideal (Mat 1024 p) .f32} (hU : IsHot U p 1024 1024) (hp : 0 < p) (hpP : p ≤ P) (hQ : 8 * P ≤ Q)
    {y : FVec Ideal (Mat Q 256) .f32} {cb : ℕ → Row} {R : ℕ → ℕ → Row}
    (hy : ∀ (o : ℕ), o < 8 → ∀ (k : ℕ), k < p → ∀ (r : Fin Q), r.val = o * P + k → ∀ c, y (ix2 r c) = code cb (R o (pick 1024 p k)) c)
    (o : ℕ) (ho : o < 8) (hs) (n : Fin 1024) (c : Fin 256) : gUp U y (o * P) hs (ix2 n c) = up cb p (R o) n.val c :=
  gUp_apply hU hp y (o * P) hs cb (R o)
    (by have : (o + 1) * P ≤ 8 * P := Nat.mul_le_mul_right P ho
        rw [Nat.add_mul] at this; omega)
    (fun r k hk hr c => hy o ho k hk r hr c) n c

/-- One store of batch `o` of the remainders. -/
abbrev cut (v : View sig κ sp Big .f32) (o : ℕ) (u : FVec Ideal (Mat 1024 256) .f32) (i1 i2 : ∀ a, ![o, 0, 0] a + ![1, 1024, 256] a ≤ Big.size a)
    (g1 : One.ShapeCasts (Mat 1024 256)) (g2 : (Mat 1024 256).ShapeCasts One) (L : Stores) : Stores :=
  (⟨Rect.unit (s := Big) ![o, 0, 0] ![1, 1024, 256] i1, gSub u (gRead v L o i2) g1 g2⟩ : View.Piece (Elt Ideal) Big .f32) :: L

/-- One store of batch `o` of the sums. -/
abbrev paste (v : View sig κ sp Big .f32) (o : ℕ) (u : FVec Ideal (Mat 1024 256) .f32) (i1 i2 : ∀ a, ![o, 0, 0] a + ![1, 1024, 256] a ≤ Big.size a)
    (g1 : One.ShapeCasts (Mat 1024 256)) (g2 : (Mat 1024 256).ShapeCasts One) (L : Stores) : Stores :=
  (⟨Rect.unit (s := Big) ![o, 0, 0] ![1, 1024, 256] i1, gAdd u (gRead v L o i2) g1 g2⟩ : View.Piece (Elt Ideal) Big .f32) :: L

/-- The eight stores of one scale leave the remainders less what the scale adds, when the codes of all batches are one under the other. -/
theorem Inv.subs {P Q p : ℕ} {U : FVec Ideal (Mat 1024 p) .f32} {y : FVec Ideal (Mat Q 256) .f32} {cb : ℕ → Row} {R : ℕ → ℕ → Row} {L : Stores}
    (v : View sig κ sp Big .f32) (hs : ∀ o, o < 8 → (Mat Q 256).Slices ![o * P, 0] (Mat p 256)) {a0 b0 a1 b1 a2 b2 a3 b3 a4 b4 a5 b5 a6 b6 a7 b7 g1 g2} (h : Inv L R)
    (hu : ∀ (o : ℕ), o < 8 → ∀ hs, ∀ (n : Fin 1024) (c : Fin 256), gUp U y (o * P) hs (ix2 n c) = up cb p (R o) n.val c) :
    Inv (cut v 7 (gUp U y (7 * P) (hs 7 (by decide))) a7 b7 g1 g2 <| cut v 6 (gUp U y (6 * P) (hs 6 (by decide))) a6 b6 g1 g2 <| cut v 5 (gUp U y (5 * P) (hs 5 (by decide))) a5 b5 g1 g2 <|
      cut v 4 (gUp U y (4 * P) (hs 4 (by decide))) a4 b4 g1 g2 <| cut v 3 (gUp U y (3 * P) (hs 3 (by decide))) a3 b3 g1 g2 <| cut v 2 (gUp U y (2 * P) (hs 2 (by decide))) a2 b2 g1 g2 <|
      cut v 1 (gUp U y (1 * P) (hs 1 (by decide))) a1 b1 g1 g2 <| cut v 0 (gUp U y (0 * P) (hs 0 (by decide))) a0 b0 g1 g2 L) (fun b => less cb p (R b)) :=
  Inv.done <| Inv.sub 7 (by decide) (h := Inv.sub 6 (by decide) (h := Inv.sub 5 (by decide) (h := Inv.sub 4 (by decide)
    (h := Inv.sub 3 (by decide) (h := Inv.sub 2 (by decide) (h := Inv.sub 1 (by decide) (h := Inv.sub 0 (by decide) (h := Inv.start h _)
    (hu 0 (by decide) _)) (hu 1 (by decide) _)) (hu 2 (by decide) _)) (hu 3 (by decide) _)) (hu 4 (by decide) _)) (hu 5 (by decide) _))
    (hu 6 (by decide) _)) (hu 7 (by decide) _)

/-- The first seven stores of one scale to the sums, likewise. -/
theorem Inv.adds {P Q p : ℕ} {U : FVec Ideal (Mat 1024 p) .f32} {y : FVec Ideal (Mat Q 256) .f32} {cb : ℕ → Row} {R A : ℕ → ℕ → Row} {L : Stores}
    (v : View sig κ sp Big .f32) (hs : ∀ o, o < 8 → (Mat Q 256).Slices ![o * P, 0] (Mat p 256)) {a0 b0 a1 b1 a2 b2 a3 b3 a4 b4 a5 b5 a6 b6 g1 g2} (h : Inv L A)
    (hu : ∀ (o : ℕ), o < 8 → ∀ hs, ∀ (n : Fin 1024) (c : Fin 256), gUp U y (o * P) hs (ix2 n c) = up cb p (R o) n.val c) :
    Inv (paste v 6 (gUp U y (6 * P) (hs 6 (by decide))) a6 b6 g1 g2 <| paste v 5 (gUp U y (5 * P) (hs 5 (by decide))) a5 b5 g1 g2 <|
      paste v 4 (gUp U y (4 * P) (hs 4 (by decide))) a4 b4 g1 g2 <| paste v 3 (gUp U y (3 * P) (hs 3 (by decide))) a3 b3 g1 g2 <| paste v 2 (gUp U y (2 * P) (hs 2 (by decide))) a2 b2 g1 g2 <|
      paste v 1 (gUp U y (1 * P) (hs 1 (by decide))) a1 b1 g1 g2 <| paste v 0 (gUp U y (0 * P) (hs 0 (by decide))) a0 b0 g1 g2 L) (mix A (fun b => more cb p (R b) (A b)) 7) :=
  Inv.add 6 (by decide) (h := Inv.add 5 (by decide) (h := Inv.add 4 (by decide)
    (h := Inv.add 3 (by decide) (h := Inv.add 2 (by decide) (h := Inv.add 1 (by decide) (h := Inv.add 0 (by decide) (h := Inv.start h _)
    (hu 0 (by decide) _)) (hu 1 (by decide) _)) (hu 2 (by decide) _)) (hu 3 (by decide) _)) (hu 4 (by decide) _)) (hu 5 (by decide) _))
    (hu 6 (by decide) _)

/-! ### The codes of the rows that a scale reads, by the kernel's two loops -/

section
variable {sig : RefSig} {κ κ' κ'' : Kind} {sp sp' sp'' : Space} {P p : ℕ} {D : FVec Ideal (Mat P 1024) .f32} (C : ℕ) {T T' : ℕ}
  {v : View sig κ'' sp'' Big .f32} {L : Stores} {R : ℕ → ℕ → Row}
  (m : Memref sig κ sp (Mat 8192 256) .bf16) (hm : m.IsWhole) (m' : Memref sig κ' sp' (Mat 8192 256) .f32) (hm' : m'.IsWhole)
  (y : (Mat 8192 256).Idx → EReal) (cb : (Mat 8192 256).Idx → EReal)

/-- One batch at a time: the codes of the rows that the scale reads of batch `b`. -/
theorem one_codes {R' : ℕ → ℕ → Row} {b : ℕ} (hL : Inv L (mix R R' b)) (hb : b < 8) (hD : IsHot D 1024 p p)
    (hy : ∀ (k : Fin 8192) (c : Fin 256), y (ix2 k c) = unit (rows cb k.val) c)
    (o : Fin T → Fin 2 → ℕ) (io : ∀ k a, o k a + (Mat C 256).size a ≤ (Mat 8192 256).size a)
    (o' : Fin T' → Fin 2 → ℕ) (io' : ∀ k a, o' k a + (Mat C 256).size a ≤ (Mat 8192 256).size a)
    (eo : ∀ k, (start C k.val).toNat = k.val * C ∧ o k 0 = k.val * C ∧ o k 1 = 0)
    (eo' : ∀ k, (start C k.val).toNat = k.val * C ∧ o' k 0 = k.val * C ∧ o' k 1 = 0)
    (hC : 0 < C) (hT : T * C = 8192) (hT' : T' * C = 8192)
    {stM : ℕ → FVec Ideal (Mat P 1) .f32 × IVec (Mat P 1) 32} {stL : ℕ → FVec Ideal (Mat P 256) .f32} {ib g g1 g2 g3 hw h0 hi h1 h2 k0 ki}
    (s0 : stM 0 = (broadcast (Mat P 1) (Scalar.ofBits .f32 0xFF800000#32 : Ideal .f32), broadcast (Mat P 1) 0#32))
    (s1 : ∀ k : Fin T, stM (k.val + 1) = gMatch (gUnit (gDown D (gRead v L b ib) g) g1 g2 g3)
      (m.view.readAt (Elt Ideal) (Rect.unit (s := Mat 8192 256) (o k) (Mat C 256).size (io k)).toLoadRect (hm.unread y) : (Mat C 256).Idx → EReal)
      (start C k.val) (stM k.val).1 (stM k.val).2 hw h0 hi h1 h2)
    (l0 : stL 0 = broadcast (Mat P 256) (Scalar.ofBits .f32 0x00000000#32 : Ideal .f32))
    (l1 : ∀ k : Fin T', stL (k.val + 1) = gLook (stM T).2
      (m'.view.readAt (Elt Ideal) (Rect.unit (s := Mat 8192 256) (o' k) (Mat C 256).size (io' k)).toLoadRect (hm'.unread cb) : (Mat C 256).Idx → EReal)
      (start C k.val) (stL k.val) k0 ki)
    (r : Fin P) (hr : r.val < p) (c : Fin 256) : stL T' (ix2 r c) = code (rows cb) (R b (pick 1024 p r.val)) c := by
  rw [show R b (pick 1024 p r.val) = fun c => gDown D (gRead v L b ib) g (ix2 r c) from
    funext fun c => (gOne_apply hD v hL hb ib g r hr c).symm]
  exact code_run C m hm m' hm' y cb hy o io o' io' eo eo' hC hT hT' _ s0 s1 l0 l1 r c

/-- All batches at once: the codes of the rows that the scale reads of every batch. -/
theorem all_codes {Q : ℕ} (hL : Inv L R) (hD : IsHot D 1024 p p) (hp : p ≤ P)
    (hy : ∀ (k : Fin 8192) (c : Fin 256), y (ix2 k c) = unit (rows cb k.val) c)
    (o : Fin T → Fin 2 → ℕ) (io : ∀ k a, o k a + (Mat C 256).size a ≤ (Mat 8192 256).size a)
    (o' : Fin T' → Fin 2 → ℕ) (io' : ∀ k a, o' k a + (Mat C 256).size a ≤ (Mat 8192 256).size a)
    (eo : ∀ k, (start C k.val).toNat = k.val * C ∧ o k 0 = k.val * C ∧ o k 1 = 0)
    (eo' : ∀ k, (start C k.val).toNat = k.val * C ∧ o' k 0 = k.val * C ∧ o' k 1 = 0)
    (hC : 0 < C) (hT : T * C = 8192) (hT' : T' * C = 8192)
    {stM : ℕ → FVec Ideal (Mat Q 1) .f32 × IVec (Mat Q 1) 32} {stL : ℕ → FVec Ideal (Mat Q 256) .f32} {ib g h g1 g2 g3 hw h0 hi h1 h2 k0 ki}
    (s0 : stM 0 = (broadcast (Mat Q 1) (Scalar.ofBits .f32 0xFF800000#32 : Ideal .f32), broadcast (Mat Q 1) 0#32))
    (s1 : ∀ k : Fin T, stM (k.val + 1) = gMatch (gUnit (gRows D v L ib g h) g1 g2 g3)
      (m.view.readAt (Elt Ideal) (Rect.unit (s := Mat 8192 256) (o k) (Mat C 256).size (io k)).toLoadRect (hm.unread y) : (Mat C 256).Idx → EReal)
      (start C k.val) (stM k.val).1 (stM k.val).2 hw h0 hi h1 h2)
    (l0 : stL 0 = broadcast (Mat Q 256) (Scalar.ofBits .f32 0x00000000#32 : Ideal .f32))
    (l1 : ∀ k : Fin T', stL (k.val + 1) = gLook (stM T).2
      (m'.view.readAt (Elt Ideal) (Rect.unit (s := Mat 8192 256) (o' k) (Mat C 256).size (io' k)).toLoadRect (hm'.unread cb) : (Mat C 256).Idx → EReal)
      (start C k.val) (stL k.val) k0 ki)
    (b : ℕ) (hb : b < 8) (k : ℕ) (hk : k < p) (r : Fin Q) (hr : r.val = b * P + k) (c : Fin 256) :
    stL T' (ix2 r c) = code (rows cb) (R b (pick 1024 p k)) c := by
  rw [show R b (pick 1024 p k) = fun c => gRows D v L ib g h (ix2 r c) from
    funext fun c => (gRows_apply hD v hL ib g h hp b hb k hk r hr c).symm]
  exact code_run C m hm m' hm' y cb hy o io o' io' eo eo' hC hT hT' _ s0 s1 l0 l1 r c

end

end Cert.VQ

end
-- ==== Proof.Small.lean ====
module

public import proofs.«01_k».proof.Proof.Step
public import proofs.«01_k».proof.Proof.Gen.KernelIdeal.Frame

@[expose] public section

noncomputable section

namespace Cert.VQ

open Idealize.ShloMosaic Idealize.ShloMosaic.ValueIdx Cert.KernelIdeal Cert.KernelIdeal.Gen Cert.KernelIdeal.Gen.kernelRun0_A

/-! ### The matrices that pick the rows of a scale -/

/-- The matrix that resizes from 1024 places to 1. -/
theorem hot_down_1 : IsHot (M := 8) (K := 1024) (k0_pay3) 1024 1 1 :=
  fun r n => gHot_apply iota_S8x1024_d0_w32 iota_S8x1024_d1_w32 word_1024 word_1 (by decide) (by decide) (by decide) (by decide) r n

/-- The matrix that resizes from 1 places to 1024. -/
theorem hot_up_1 : IsHot (M := 1024) (K := 1) (sl.r) 1 1024 1024 :=
  fun r n => gHot_apply iota_S1024x1_d0_w32 iota_S1024x1_d1_w32 word_1 word_1024 (by decide) (by decide) (by decide) (by decide) r n

/-- The matrix that resizes from 1024 places to 4. -/
theorem hot_down_4 : IsHot (M := 8) (K := 1024) (k0_pay41) 1024 4 4 :=
  fun r n => gHot_apply iota_S8x1024_d0_w32 iota_S8x1024_d1_w32 word_1024 word_4 (by decide) (by decide) (by decide) (by decide) r n

/-- The matrix that resizes from 4 places to 1024. -/
theorem hot_up_4 : IsHot (M := 1024) (K := 4) (sl.r_8) 4 1024 1024 :=
  fun r n => gHot_apply iota_S1024x4_d0_w32 iota_S1024x4_d1_w32 word_4 word_1024 (by decide) (by decide) (by decide) (by decide) r n

/-- The matrix that resizes from 1024 places to 9. -/
theorem hot_down_9 : IsHot (M := 16) (K := 1024) (k0_pay86) 1024 9 9 :=
  fun r n => gHot_apply iota_S16x1024_d0_w32 iota_S16x1024_d1_w32 word_1024 word_9 (by decide) (by decide) (by decide) (by decide) r n

/-- The matrix that resizes from 9 places to 1024. -/
theorem hot_up_9 : IsHot (M := 1024) (K := 9) (sl.r_21) 9 1024 1024 :=
  fun r n => gHot_apply iota_S1024x9_d0_w32 iota_S1024x9_d1_w32 word_9 word_1024 (by decide) (by decide) (by decide) (by decide) r n

/-- The matrix that resizes from 1024 places to 16. -/
theorem hot_down_16 : IsHot (M := 16) (K := 1024) (k0_pay130) 1024 16 16 :=
  fun r n => gHot_apply iota_S16x1024_d0_w32 iota_S16x1024_d1_w32 word_1024 word_16 (by decide) (by decide) (by decide) (by decide) r n

/-- The matrix that resizes from 16 places to 1024. -/
theorem hot_up_16 : IsHot (M := 1024) (K := 16) (sl.r_34) 16 1024 1024 :=
  fun r n => gHot_apply iota_S1024x16_d0_w32 iota_S1024x16_d1_w32 word_16 word_1024 (by decide) (by decide) (by decide) (by decide) r n

/-- The matrix that resizes from 1024 places to 25. -/
theorem hot_down_25 : IsHot (M := 32) (K := 1024) (k0_pay176) 1024 25 25 :=
  fun r n => gHot_apply iota_S32x1024_d0_w32 iota_S32x1024_d1_w32 word_1024 word_25 (by decide) (by decide) (by decide) (by decide) r n

/-- The matrix that resizes from 25 places to 1024. -/
theorem hot_up_25 : IsHot (M := 1024) (K := 25) (sl.r_46) 25 1024 1024 :=
  fun r n => gHot_apply iota_S1024x25_d0_w32 iota_S1024x25_d1_w32 word_25 word_1024 (by decide) (by decide) (by decide) (by decide) r n

/-- The matrix that resizes from 1024 places to 36. -/
theorem hot_down_36 : IsHot (M := 40) (K := 1024) (k0_pay221) 1024 36 36 :=
  fun r n => gHot_apply iota_S40x1024_d0_w32 iota_S40x1024_d1_w32 word_1024 word_36 (by decide) (by decide) (by decide) (by decide) r n

/-- The matrix that resizes from 36 places to 1024. -/
theorem hot_up_36 : IsHot (M := 1024) (K := 36) (sl.r_58) 36 1024 1024 :=
  fun r n => gHot_apply iota_S1024x36_d0_w32 iota_S1024x36_d1_w32 word_36 word_1024 (by decide) (by decide) (by decide) (by decide) r n

/-- The matrix that resizes from 1024 places to 64. -/
theorem hot_down_64 : IsHot (M := 64) (K := 1024) (k0_pay265) 1024 64 64 :=
  fun r n => gHot_apply iota_S64x1024_d0_w32 iota_S64x1024_d1_w32 word_1024 word_64 (by decide) (by decide) (by decide) (by decide) r n

/-- The matrix that resizes from 64 places to 1024. -/
theorem hot_up_64 : IsHot (M := 1024) (K := 64) (k0_pay266 sl.v1150 sl.v1151) 64 1024 1024 :=
  fun r n => gHot_apply iota_S1024x64_d0_w32 iota_S1024x64_d1_w32 word_64 word_1024 (by decide) (by decide) (by decide) (by decide) r n

/-- The matrix that resizes from 1024 places to 100. -/
theorem hot_down_100 : IsHot (M := 104) (K := 1024) (sl.r_82) 1024 100 100 :=
  fun r n => gHot_apply iota_S104x1024_d0_w32 iota_S104x1024_d1_w32 word_1024 word_100 (by decide) (by decide) (by decide) (by decide) r n

/-- The matrix that resizes from 100 places to 1024. -/
theorem hot_up_100 : IsHot (M := 1024) (K := 100) (k0_pay307) 100 1024 1024 :=
  fun r n => gHot_apply iota_S1024x100_d0_w32 iota_S1024x100_d1_w32 word_100 word_1024 (by decide) (by decide) (by decide) (by decide) r n

section
variable (c : Dev nD) (i : grid0.Coords)
  (arg1 : Memref sig .tc .vmem S8x1024x256 .f32) (harg1 : arg1.IsWhole) (arg2 : Memref sig .tc .vmem S8192x256 .f32) (harg2 : arg2.IsWhole)
  (arg3 : Memref sig .tc .vmem S8192x256 .bf16) (harg3 : arg3.IsWhole) (arg4 : Memref sig .tc .vmem S8x1024x256 .f32) (harg4 : arg4.IsWhole)
  (arg5 : Memref sig .tc .vmem S8x1024x256 .f32) (harg5 : arg5.IsWhole)
  (x0 : Vec Ideal S8x1024x256 .f32) (x1 : Vec Ideal S8192x256 .f32) (x2 : Vec Ideal S8192x256 .bf16)

/-- The codes that the scale of 1 places looks up, batch under batch, are those of the rows it reads. -/
theorem codes_1 (hx2 : ∀ (k : Fin 8192) (c : Fin 256), x2 (ix2 k c) = unit (rows x1 k.val) c) {R : ℕ → ℕ → Row} (hL : Inv (sl.H3_1 c arg1 harg1 x0) R)
    (o : ℕ) (ho : o < 8) (k : ℕ) (hk : k < 1) (r : Fin 64) (hr : r.val = o * 8 + k) (d : Fin 256) :
    sl.r_2 c i arg1 harg1 arg2 harg2 arg3 harg3 arg4 harg4 arg5 harg5 x0 x1 x2 (ix2 r d) = code (rows x1) (R o (pick 1024 1 k)) d := by
  unfold sl.r_2
  apply all_codes 2048 (T := k0_t1_loop.trips) (T' := k0_t2_loop.trips) (v := arg4.view) arg3 harg3 arg2 harg2 x2 x1 hL hot_down_1 (by decide) hx2
    k0_off1 k0_off1_inb k0_off2 k0_off2_inb (by decide) (by decide) (by decide) (by decide) (by decide)
    (ib := inb_block) (g := shapeCasts_S1x1024x256_S1024x256) (h := by decide) (hb := ho) (hk := hk) (hr := hr)
  case l0 => rfl
  case l1 => exact fun k => (st_k0_t2_succ ..).trans (by unfold tripR_k0_t2 trip_k0_t2; rfl)
  case s1 => exact fun k => (st_k0_t1_succ ..).trans (by unfold tripR_k0_t1 trip_k0_t1; rfl)
  case s0 => rfl

/-- What the scale of 1 places adds to the sums and takes from the remainders, batch by batch. -/
theorem ups_1 (hx2 : ∀ (k : Fin 8192) (c : Fin 256), x2 (ix2 k c) = unit (rows x1 k.val) c) {R : ℕ → ℕ → Row} (hL : Inv (sl.H3_1 c arg1 harg1 x0) R)
    (o : ℕ) (ho : o < 8) (hs) (n : Fin 1024) (d : Fin 256) :
    gUp (sl.r) (sl.r_2 c i arg1 harg1 arg2 harg2 arg3 harg3 arg4 harg4 arg5 harg5 x0 x1 x2) (o * 8) hs (ix2 n d) = up (rows x1) 1 (R o) n.val d :=
  batch_up hot_up_1 (by decide) (by decide) (by decide) (codes_1 c i arg1 harg1 arg2 harg2 arg3 harg3 arg4 harg4 arg5 harg5 x0 x1 x2 hx2 hL) o ho hs n d

/-- The remainders after the scale of 1 places. -/
theorem rest_1 (hx2 : ∀ (k : Fin 8192) (c : Fin 256), x2 (ix2 k c) = unit (rows x1 k.val) c) {R : ℕ → ℕ → Row} (hL : Inv (sl.H3_1 c arg1 harg1 x0) R) :
    Inv (sl.H3_9 c i arg1 harg1 arg2 harg2 arg3 harg3 arg4 harg4 arg5 harg5 x0 x1 x2) (fun b => less (rows x1) 1 (R b)) :=
  Inv.subs (P := 8) arg4.view (by decide) hL (ups_1 c i arg1 harg1 arg2 harg2 arg3 harg3 arg4 harg4 arg5 harg5 x0 x1 x2 hx2 hL)

/-- The codes that the scale of 4 places looks up, batch under batch, are those of the rows it reads. -/
theorem codes_4 (hx2 : ∀ (k : Fin 8192) (c : Fin 256), x2 (ix2 k c) = unit (rows x1 k.val) c) {R : ℕ → ℕ → Row} (hL : Inv (sl.H3_9 c i arg1 harg1 arg2 harg2 arg3 harg3 arg4 harg4 arg5 harg5 x0 x1 x2) R)
    (o : ℕ) (ho : o < 8) (k : ℕ) (hk : k < 4) (r : Fin 64) (hr : r.val = o * 8 + k) (d : Fin 256) :
    sl.r_17 c i arg1 harg1 arg2 harg2 arg3 harg3 arg4 harg4 arg5 harg5 x0 x1 x2 (ix2 r d) = code (rows x1) (R o (pick 1024 4 k)) d := by
  unfold sl.r_17
  apply all_codes 2048 (T := k0_t3_loop.trips) (T' := k0_t4_loop.trips) (v := arg4.view) arg3 harg3 arg2 harg2 x2 x1 hL hot_down_4 (by decide) hx2
    k0_off3 k0_off3_inb k0_off4 k0_off4_inb (by decide) (by decide) (by decide) (by decide) (by decide)
    (ib := inb_block) (g := shapeCasts_S1x1024x256_S1024x256) (h := by decide) (hb := ho) (hk := hk) (hr := hr)
  case l0 => rfl
  case l1 => exact fun k => (st_k0_t4_succ ..).trans (by unfold tripR_k0_t4 trip_k0_t4; rfl)
  case s1 => exact fun k => (st_k0_t3_succ ..).trans (by unfold tripR_k0_t3 trip_k0_t3; rfl)
  case s0 => rfl

/-- What the scale of 4 places adds to the sums and takes from the remainders, batch by batch. -/
theorem ups_4 (hx2 : ∀ (k : Fin 8192) (c : Fin 256), x2 (ix2 k c) = unit (rows x1 k.val) c) {R : ℕ → ℕ → Row} (hL : Inv (sl.H3_9 c i arg1 harg1 arg2 harg2 arg3 harg3 arg4 harg4 arg5 harg5 x0 x1 x2) R)
    (o : ℕ) (ho : o < 8) (hs) (n : Fin 1024) (d : Fin 256) :
    gUp (sl.r_8) (sl.r_17 c i arg1 harg1 arg2 harg2 arg3 harg3 arg4 harg4 arg5 harg5 x0 x1 x2) (o * 8) hs (ix2 n d) = up (rows x1) 4 (R o) n.val d :=
  batch_up hot_up_4 (by decide) (by decide) (by decide) (codes_4 c i arg1 harg1 arg2 harg2 arg3 harg3 arg4 harg4 arg5 harg5 x0 x1 x2 hx2 hL) o ho hs n d

/-- The remainders after the scale of 4 places. -/
theorem rest_4 (hx2 : ∀ (k : Fin 8192) (c : Fin 256), x2 (ix2 k c) = unit (rows x1 k.val) c) {R : ℕ → ℕ → Row} (hL : Inv (sl.H3_9 c i arg1 harg1 arg2 harg2 arg3 harg3 arg4 harg4 arg5 harg5 x0 x1 x2) R) :
    Inv (sl.H3_17 c i arg1 harg1 arg2 harg2 arg3 harg3 arg4 harg4 arg5 harg5 x0 x1 x2) (fun b => less (rows x1) 4 (R b)) :=
  Inv.subs (P := 8) arg4.view (by decide) hL (ups_4 c i arg1 harg1 arg2 harg2 arg3 harg3 arg4 harg4 arg5 harg5 x0 x1 x2 hx2 hL)

/-- The codes that the scale of 9 places looks up, batch under batch, are those of the rows it reads. -/
theorem codes_9 (hx2 : ∀ (k : Fin 8192) (c : Fin 256), x2 (ix2 k c) = unit (rows x1 k.val) c) {R : ℕ → ℕ → Row} (hL : Inv (sl.H3_17 c i arg1 harg1 arg2 harg2 arg3 harg3 arg4 harg4 arg5 harg5 x0 x1 x2) R)
    (o : ℕ) (ho : o < 8) (k : ℕ) (hk : k < 9) (r : Fin 128) (hr : r.val = o * 16 + k) (d : Fin 256) :
    sl.r_29 c i arg1 harg1 arg2 harg2 arg3 harg3 arg4 harg4 arg5 harg5 x0 x1 x2 (ix2 r d) = code (rows x1) (R o (pick 1024 9 k)) d := by
  unfold sl.r_29
  apply all_codes 2048 (T := k0_t5_loop.trips) (T' := k0_t6_loop.trips) (v := arg4.view) arg3 harg3 arg2 harg2 x2 x1 hL hot_down_9 (by decide) hx2
    k0_off5 k0_off5_inb k0_off6 k0_off6_inb (by decide) (by decide) (by decide) (by decide) (by decide)
    (ib := inb_block) (g := shapeCasts_S1x1024x256_S1024x256) (h := by decide) (hb := ho) (hk := hk) (hr := hr)
  case l0 => rfl
  case l1 => exact fun k => (st_k0_t6_succ ..).trans (by unfold tripR_k0_t6 trip_k0_t6; rfl)
  case s1 => exact fun k => (st_k0_t5_succ ..).trans (by unfold tripR_k0_t5 trip_k0_t5; rfl)
  case s0 => rfl

/-- What the scale of 9 places adds to the sums and takes from the remainders, batch by batch. -/
theorem ups_9 (hx2 : ∀ (k : Fin 8192) (c : Fin 256), x2 (ix2 k c) = unit (rows x1 k.val) c) {R : ℕ → ℕ → Row} (hL : Inv (sl.H3_17 c i arg1 harg1 arg2 harg2 arg3 harg3 arg4 harg4 arg5 harg5 x0 x1 x2) R)
    (o : ℕ) (ho : o < 8) (hs) (n : Fin 1024) (d : Fin 256) :
    gUp (sl.r_21) (sl.r_29 c i arg1 harg1 arg2 harg2 arg3 harg3 arg4 harg4 arg5 harg5 x0 x1 x2) (o * 16) hs (ix2 n d) = up (rows x1) 9 (R o) n.val d :=
  batch_up hot_up_9 (by decide) (by decide) (by decide) (codes_9 c i arg1 harg1 arg2 harg2 arg3 harg3 arg4 harg4 arg5 harg5 x0 x1 x2 hx2 hL) o ho hs n d

/-- The remainders after the scale of 9 places. -/
theorem rest_9 (hx2 : ∀ (k : Fin 8192) (c : Fin 256), x2 (ix2 k c) = unit (rows x1 k.val) c) {R : ℕ → ℕ → Row} (hL : Inv (sl.H3_17 c i arg1 harg1 arg2 harg2 arg3 harg3 arg4 harg4 arg5 harg5 x0 x1 x2) R) :
    Inv (sl.H3_25 c i arg1 harg1 arg2 harg2 arg3 harg3 arg4 harg4 arg5 harg5 x0 x1 x2) (fun b => less (rows x1) 9 (R b)) :=
  Inv.subs (P := 16) arg4.view (by decide) hL (ups_9 c i arg1 harg1 arg2 harg2 arg3 harg3 arg4 harg4 arg5 harg5 x0 x1 x2 hx2 hL)

/-- The codes that the scale of 16 places looks up, batch under batch, are those of the rows it reads. -/
theorem codes_16 (hx2 : ∀ (k : Fin 8192) (c : Fin 256), x2 (ix2 k c) = unit (rows x1 k.val) c) {R : ℕ → ℕ → Row} (hL : Inv (sl.H3_25 c i arg1 harg1 arg2 harg2 arg3 harg3 arg4 harg4 arg5 harg5 x0 x1 x2) R)
    (o : ℕ) (ho : o < 8) (k : ℕ) (hk : k < 16) (r : Fin 128) (hr : r.val = o * 16 + k) (d : Fin 256) :
    sl.r_42 c i arg1 harg1 arg2 harg2 arg3 harg3 arg4 harg4 arg5 harg5 x0 x1 x2 (ix2 r d) = code (rows x1) (R o (pick 1024 16 k)) d := by
  unfold sl.r_42
  apply all_codes 2048 (T := k0_t7_loop.trips) (T' := k0_t8_loop.trips) (v := arg4.view) arg3 harg3 arg2 harg2 x2 x1 hL hot_down_16 (by decide) hx2
    k0_off7 k0_off7_inb k0_off8 k0_off8_inb (by decide) (by decide) (by decide) (by decide) (by decide)
    (ib := inb_block) (g := shapeCasts_S1x1024x256_S1024x256) (h := by decide) (hb := ho) (hk := hk) (hr := hr)
  case l0 => rfl
  case l1 => exact fun k => (st_k0_t8_succ ..).trans (by unfold tripR_k0_t8 trip_k0_t8; rfl)
  case s1 => exact fun k => (st_k0_t7_succ ..).trans (by unfold tripR_k0_t7 trip_k0_t7; rfl)
  case s0 => rfl

/-- What the scale of 16 places adds to the sums and takes from the remainders, batch by batch. -/
theorem ups_16 (hx2 : ∀ (k : Fin 8192) (c : Fin 256), x2 (ix2 k c) = unit (rows x1 k.val) c) {R : ℕ → ℕ → Row} (hL : Inv (sl.H3_25 c i arg1 harg1 arg2 harg2 arg3 harg3 arg4 harg4 arg5 harg5 x0 x1 x2) R)
    (o : ℕ) (ho : o < 8) (hs) (n : Fin 1024) (d : Fin 256) :
    gUp (sl.r_34) (sl.r_42 c i arg1 harg1 arg2 harg2 arg3 harg3 arg4 harg4 arg5 harg5 x0 x1 x2) (o * 16) hs (ix2 n d) = up (rows x1) 16 (R o) n.val d :=
  batch_up hot_up_16 (by decide) (by decide) (by decide) (codes_16 c i arg1 harg1 arg2 harg2 arg3 harg3 arg4 harg4 arg5 harg5 x0 x1 x2 hx2 hL) o ho hs n d

/-- The remainders after the scale of 16 places. -/
theorem rest_16 (hx2 : ∀ (k : Fin 8192) (c : Fin 256), x2 (ix2 k c) = unit (rows x1 k.val) c) {R : ℕ → ℕ → Row} (hL : Inv (sl.H3_25 c i arg1 harg1 arg2 harg2 arg3 harg3 arg4 harg4 arg5 harg5 x0 x1 x2) R) :
    Inv (sl.H3_33 c i arg1 harg1 arg2 harg2 arg3 harg3 arg4 harg4 arg5 harg5 x0 x1 x2) (fun b => less (rows x1) 16 (R b)) :=
  Inv.subs (P := 16) arg4.view (by decide) hL (ups_16 c i arg1 harg1 arg2 harg2 arg3 harg3 arg4 harg4 arg5 harg5 x0 x1 x2 hx2 hL)

/-- The codes that the scale of 25 places looks up, batch under batch, are those of the rows it reads. -/
theorem codes_25 (hx2 : ∀ (k : Fin 8192) (c : Fin 256), x2 (ix2 k c) = unit (rows x1 k.val) c) {R : ℕ → ℕ → Row} (hL : Inv (sl.H3_33 c i arg1 harg1 arg2 harg2 arg3 harg3 arg4 harg4 arg5 harg5 x0 x1 x2) R)
    (o : ℕ) (ho : o < 8) (k : ℕ) (hk : k < 25) (r : Fin 256) (hr : r.val = o * 32 + k) (d : Fin 256) :
    sl.r_53 c i arg1 harg1 arg2 harg2 arg3 harg3 arg4 harg4 arg5 harg5 x0 x1 x2 (ix2 r d) = code (rows x1) (R o (pick 1024 25 k)) d := by
  unfold sl.r_53
  apply all_codes 2048 (T := k0_t9_loop.trips) (T' := k0_t10_loop.trips) (v := arg4.view) arg3 harg3 arg2 harg2 x2 x1 hL hot_down_25 (by decide) hx2
    k0_off9 k0_off9_inb k0_off10 k0_off10_inb (by decide) (by decide) (by decide) (by decide) (by decide)
    (ib := inb_block) (g := shapeCasts_S1x1024x256_S1024x256) (h := by decide) (hb := ho) (hk := hk) (hr := hr)
  case l0 => rfl
  case l1 => exact fun k => (st_k0_t10_succ ..).trans (by unfold tripR_k0_t10 trip_k0_t10; rfl)
  case s1 => exact fun k => (st_k0_t9_succ ..).trans (by unfold tripR_k0_t9 trip_k0_t9; rfl)
  case s0 => rfl

/-- What the scale of 25 places adds to the sums and takes from the remainders, batch by batch. -/
theorem ups_25 (hx2 : ∀ (k : Fin 8192) (c : Fin 256), x2 (ix2 k c) = unit (rows x1 k.val) c) {R : ℕ → ℕ → Row} (hL : Inv (sl.H3_33 c i arg1 harg1 arg2 harg2 arg3 harg3 arg4 harg4 arg5 harg5 x0 x1 x2) R)
    (o : ℕ) (ho : o < 8) (hs) (n : Fin 1024) (d : Fin 256) :
    gUp (sl.r_46) (sl.r_53 c i arg1 harg1 arg2 harg2 arg3 harg3 arg4 harg4 arg5 harg5 x0 x1 x2) (o * 32) hs (ix2 n d) = up (rows x1) 25 (R o) n.val d :=
  batch_up hot_up_25 (by decide) (by decide) (by decide) (codes_25 c i arg1 harg1 arg2 harg2 arg3 harg3 arg4 harg4 arg5 harg5 x0 x1 x2 hx2 hL) o ho hs n d

/-- The remainders after the scale of 25 places. -/
theorem rest_25 (hx2 : ∀ (k : Fin 8192) (c : Fin 256), x2 (ix2 k c) = unit (rows x1 k.val) c) {R : ℕ → ℕ → Row} (hL : Inv (sl.H3_33 c i arg1 harg1 arg2 harg2 arg3 harg3 arg4 harg4 arg5 harg5 x0 x1 x2) R) :
    Inv (sl.H3_41 c i arg1 harg1 arg2 harg2 arg3 harg3 arg4 harg4 arg5 harg5 x0 x1 x2) (fun b => less (rows x1) 25 (R b)) :=
  Inv.subs (P := 32) arg4.view (by decide) hL (ups_25 c i arg1 harg1 arg2 harg2 arg3 harg3 arg4 harg4 arg5 harg5 x0 x1 x2 hx2 hL)

/-- The codes that the scale of 36 places looks up, batch under batch, are those of the rows it reads. -/
theorem codes_36 (hx2 : ∀ (k : Fin 8192) (c : Fin 256), x2 (ix2 k c) = unit (rows x1 k.val) c) {R : ℕ → ℕ → Row} (hL : Inv (sl.H3_41 c i arg1 harg1 arg2 harg2 arg3 harg3 arg4 harg4 arg5 harg5 x0 x1 x2) R)
    (o : ℕ) (ho : o < 8) (k : ℕ) (hk : k < 36) (r : Fin 320) (hr : r.val = o * 40 + k) (d : Fin 256) :
    sl.r_65 c i arg1 harg1 arg2 harg2 arg3 harg3 arg4 harg4 arg5 harg5 x0 x1 x2 (ix2 r d) = code (rows x1) (R o (pick 1024 36 k)) d := by
  unfold sl.r_65
  apply all_codes 2048 (T := k0_t11_loop.trips) (T' := k0_t12_loop.trips) (v := arg4.view) arg3 harg3 arg2 harg2 x2 x1 hL hot_down_36 (by decide) hx2
    k0_off11 k0_off11_inb k0_off12 k0_off12_inb (by decide) (by decide) (by decide) (by decide) (by decide)
    (ib := inb_block) (g := shapeCasts_S1x1024x256_S1024x256) (h := by decide) (hb := ho) (hk := hk) (hr := hr)
  case l0 => rfl
  case l1 => exact fun k => (st_k0_t12_succ ..).trans (by unfold tripR_k0_t12 trip_k0_t12; rfl)
  case s1 => exact fun k => (st_k0_t11_succ ..).trans (by unfold tripR_k0_t11 trip_k0_t11; rfl)
  case s0 => rfl

/-- What the scale of 36 places adds to the sums and takes from the remainders, batch by batch. -/
theorem ups_36 (hx2 : ∀ (k : Fin 8192) (c : Fin 256), x2 (ix2 k c) = unit (rows x1 k.val) c) {R : ℕ → ℕ → Row} (hL : Inv (sl.H3_41 c i arg1 harg1 arg2 harg2 arg3 harg3 arg4 harg4 arg5 harg5 x0 x1 x2) R)
    (o : ℕ) (ho : o < 8) (hs) (n : Fin 1024) (d : Fin 256) :
    gUp (sl.r_58) (sl.r_65 c i arg1 harg1 arg2 harg2 arg3 harg3 arg4 harg4 arg5 harg5 x0 x1 x2) (o * 40) hs (ix2 n d) = up (rows x1) 36 (R o) n.val d :=
  batch_up hot_up_36 (by decide) (by decide) (by decide) (codes_36 c i arg1 harg1 arg2 harg2 arg3 harg3 arg4 harg4 arg5 harg5 x0 x1 x2 hx2 hL) o ho hs n d

/-- The remainders after the scale of 36 places. -/
theorem rest_36 (hx2 : ∀ (k : Fin 8192) (c : Fin 256), x2 (ix2 k c) = unit (rows x1 k.val) c) {R : ℕ → ℕ → Row} (hL : Inv (sl.H3_41 c i arg1 harg1 arg2 harg2 arg3 harg3 arg4 harg4 arg5 harg5 x0 x1 x2) R) :
    Inv (sl.H3_49 c i arg1 harg1 arg2 harg2 arg3 harg3 arg4 harg4 arg5 harg5 x0 x1 x2) (fun b => less (rows x1) 36 (R b)) :=
  Inv.subs (P := 40) arg4.view (by decide) hL (ups_36 c i arg1 harg1 arg2 harg2 arg3 harg3 arg4 harg4 arg5 harg5 x0 x1 x2 hx2 hL)

/-- The codes that the scale of 64 places looks up, batch under batch, are those of the rows it reads. -/
theorem codes_64 (hx2 : ∀ (k : Fin 8192) (c : Fin 256), x2 (ix2 k c) = unit (rows x1 k.val) c) {R : ℕ → ℕ → Row} (hL : Inv (sl.H3_49 c i arg1 harg1 arg2 harg2 arg3 harg3 arg4 harg4 arg5 harg5 x0 x1 x2) R)
    (o : ℕ) (ho : o < 8) (k : ℕ) (hk : k < 64) (r : Fin 512) (hr : r.val = o * 64 + k) (d : Fin 256) :
    sl.r_76 c i arg1 harg1 arg2 harg2 arg3 harg3 arg4 harg4 arg5 harg5 x0 x1 x2 (ix2 r d) = code (rows x1) (R o (pick 1024 64 k)) d := by
  unfold sl.r_76
  apply all_codes 2048 (T := k0_t13_loop.trips) (T' := k0_t14_loop.trips) (v := arg4.view) arg3 harg3 arg2 harg2 x2 x1 hL hot_down_64 (by decide) hx2
    k0_off13 k0_off13_inb k0_off14 k0_off14_inb (by decide) (by decide) (by decide) (by decide) (by decide)
    (ib := inb_block) (g := shapeCasts_S1x1024x256_S1024x256) (h := by decide) (hb := ho) (hk := hk) (hr := hr)
  case l0 => rfl
  case l1 => exact fun k => (st_k0_t14_succ ..).trans (by unfold tripR_k0_t14 trip_k0_t14; rfl)
  case s1 => exact fun k => (st_k0_t13_succ ..).trans (by unfold tripR_k0_t13 trip_k0_t13; rfl)
  case s0 => rfl

/-- What the scale of 64 places adds to the sums and takes from the remainders, batch by batch. -/
theorem ups_64 (hx2 : ∀ (k : Fin 8192) (c : Fin 256), x2 (ix2 k c) = unit (rows x1 k.val) c) {R : ℕ → ℕ → Row} (hL : Inv (sl.H3_49 c i arg1 harg1 arg2 harg2 arg3 harg3 arg4 harg4 arg5 harg5 x0 x1 x2) R)
    (o : ℕ) (ho : o < 8) (hs) (n : Fin 1024) (d : Fin 256) :
    gUp (k0_pay266 sl.v1150 sl.v1151) (sl.r_76 c i arg1 harg1 arg2 harg2 arg3 harg3 arg4 harg4 arg5 harg5 x0 x1 x2) (o * 64) hs (ix2 n d) = up (rows x1) 64 (R o) n.val d :=
  batch_up hot_up_64 (by decide) (by decide) (by decide) (codes_64 c i arg1 harg1 arg2 harg2 arg3 harg3 arg4 harg4 arg5 harg5 x0 x1 x2 hx2 hL) o ho hs n d

/-- The remainders after the scale of 64 places. -/
theorem rest_64 (hx2 : ∀ (k : Fin 8192) (c : Fin 256), x2 (ix2 k c) = unit (rows x1 k.val) c) {R : ℕ → ℕ → Row} (hL : Inv (sl.H3_49 c i arg1 harg1 arg2 harg2 arg3 harg3 arg4 harg4 arg5 harg5 x0 x1 x2) R) :
    Inv (sl.H3_57 c i arg1 harg1 arg2 harg2 arg3 harg3 arg4 harg4 arg5 harg5 x0 x1 x2) (fun b => less (rows x1) 64 (R b)) :=
  Inv.subs (P := 64) arg4.view (by decide) hL (ups_64 c i arg1 harg1 arg2 harg2 arg3 harg3 arg4 harg4 arg5 harg5 x0 x1 x2 hx2 hL)

/-- The codes that the scale of 100 places looks up, batch under batch, are those of the rows it reads. -/
theorem codes_100 (hx2 : ∀ (k : Fin 8192) (c : Fin 256), x2 (ix2 k c) = unit (rows x1 k.val) c) {R : ℕ → ℕ → Row} (hL : Inv (sl.H3_57 c i arg1 harg1 arg2 harg2 arg3 harg3 arg4 harg4 arg5 harg5 x0 x1 x2) R)
    (o : ℕ) (ho : o < 8) (k : ℕ) (hk : k < 100) (r : Fin 832) (hr : r.val = o * 104 + k) (d : Fin 256) :
    sl.r_88 c i arg1 harg1 arg2 harg2 arg3 harg3 arg4 harg4 arg5 harg5 x0 x1 x2 (ix2 r d) = code (rows x1) (R o (pick 1024 100 k)) d := by
  unfold sl.r_88
  apply all_codes 2048 (T := k0_t15_loop.trips) (T' := k0_t16_loop.trips) (v := arg4.view) arg3 harg3 arg2 harg2 x2 x1 hL hot_down_100 (by decide) hx2
    k0_off15 k0_off15_inb k0_off16 k0_off16_inb (by decide) (by decide) (by decide) (by decide) (by decide)
    (ib := inb_block) (g := shapeCasts_S1x1024x256_S1024x256) (h := by decide) (hb := ho) (hk := hk) (hr := hr)
  case l0 => rfl
  case l1 => exact fun k => (st_k0_t16_succ ..).trans (by unfold tripR_k0_t16 trip_k0_t16; rfl)
  case s1 => exact fun k => (st_k0_t15_succ ..).trans (by unfold tripR_k0_t15 trip_k0_t15; rfl)
  case s0 => rfl

/-- What the scale of 100 places adds to the sums and takes from the remainders, batch by batch. -/
theorem ups_100 (hx2 : ∀ (k : Fin 8192) (c : Fin 256), x2 (ix2 k c) = unit (rows x1 k.val) c) {R : ℕ → ℕ → Row} (hL : Inv (sl.H3_57 c i arg1 harg1 arg2 harg2 arg3 harg3 arg4 harg4 arg5 harg5 x0 x1 x2) R)
    (o : ℕ) (ho : o < 8) (hs) (n : Fin 1024) (d : Fin 256) :
    gUp (k0_pay307) (sl.r_88 c i arg1 harg1 arg2 harg2 arg3 harg3 arg4 harg4 arg5 harg5 x0 x1 x2) (o * 104) hs (ix2 n d) = up (rows x1) 100 (R o) n.val d :=
  batch_up hot_up_100 (by decide) (by decide) (by decide) (codes_100 c i arg1 harg1 arg2 harg2 arg3 harg3 arg4 harg4 arg5 harg5 x0 x1 x2 hx2 hL) o ho hs n d

/-- The remainders after the scale of 100 places. -/
theorem rest_100 (hx2 : ∀ (k : Fin 8192) (c : Fin 256), x2 (ix2 k c) = unit (rows x1 k.val) c) {R : ℕ → ℕ → Row} (hL : Inv (sl.H3_57 c i arg1 harg1 arg2 harg2 arg3 harg3 arg4 harg4 arg5 harg5 x0 x1 x2) R) :
    Inv (sl.H3_65 c i arg1 harg1 arg2 harg2 arg3 harg3 arg4 harg4 arg5 harg5 x0 x1 x2) (fun b => less (rows x1) 100 (R b)) :=
  Inv.subs (P := 104) arg4.view (by decide) hL (ups_100 c i arg1 harg1 arg2 harg2 arg3 harg3 arg4 harg4 arg5 harg5 x0 x1 x2 hx2 hL)

end

end Cert.VQ

end
-- ==== Proof.Large.lean ====
module

public import proofs.«01_k».proof.Proof.Small
public import proofs.«01_k».proof.Proof.Gen.KernelIdeal.Frame

@[expose] public section

noncomputable section

namespace Cert.VQ

open Idealize.ShloMosaic Idealize.ShloMosaic.ValueIdx Cert.KernelIdeal Cert.KernelIdeal.Gen Cert.KernelIdeal.Gen.kernelRun0_A

/-- The matrix that resizes from 1024 places to 169. -/
theorem hot_down_169 : IsHot (M := 176) (K := 1024) (sl.r_96) 1024 169 169 :=
  fun r n => gHot_apply iota_S176x1024_d0_w32 iota_S176x1024_d1_w32 word_1024 word_169 (by decide) (by decide) (by decide) (by decide) r n

/-- The matrix that resizes from 169 places to 1024. -/
theorem hot_up_169 : IsHot (M := 1024) (K := 169) (k0_pay349) 169 1024 1024 :=
  fun r n => gHot_apply iota_S1024x169_d0_w32 iota_S1024x169_d1_w32 word_169 word_1024 (by decide) (by decide) (by decide) (by decide) r n

/-- The matrix that resizes from 1024 places to 256. -/
theorem hot_down_256 : IsHot (M := 256) (K := 1024) (k0_pay447 sl.v1800) 1024 256 256 :=
  fun r n => gHot_apply iota_S256x1024_d0_w32 iota_S256x1024_d1_w32 word_1024 word_256 (by decide) (by decide) (by decide) (by decide) r n

/-- The matrix that resizes from 256 places to 1024. -/
theorem hot_up_256 : IsHot (M := 1024) (K := 256) (k0_pay448) 256 1024 1024 :=
  fun r n => gHot_apply iota_S1024x256_d0_w32 iota_S1024x256_d1_w32 word_256 word_1024 (by decide) (by decide) (by decide) (by decide) r n

section
variable (c : Dev nD) (i : grid0.Coords)
  (arg1 : Memref sig .tc .vmem S8x1024x256 .f32) (harg1 : arg1.IsWhole) (arg2 : Memref sig .tc .vmem S8192x256 .f32) (harg2 : arg2.IsWhole)
  (arg3 : Memref sig .tc .vmem S8192x256 .bf16) (harg3 : arg3.IsWhole) (arg4 : Memref sig .tc .vmem S8x1024x256 .f32) (harg4 : arg4.IsWhole)
  (arg5 : Memref sig .tc .vmem S8x1024x256 .f32) (harg5 : arg5.IsWhole)
  (x0 : Vec Ideal S8x1024x256 .f32) (x1 : Vec Ideal S8192x256 .f32) (x2 : Vec Ideal S8192x256 .bf16)

/-- What the scale of 169 places adds to batch 0 of the sums and takes from batch 0 of the remainders. -/
theorem ups_169_0 (hx2 : ∀ (k : Fin 8192) (c : Fin 256), x2 (ix2 k c) = unit (rows x1 k.val) c) {R : ℕ → ℕ → Row}
    (hL : Inv (sl.H3_65 c i arg1 harg1 arg2 harg2 arg3 harg3 arg4 harg4 arg5 harg5 x0 x1 x2) (mix R (fun b => less (rows x1) 169 (R b)) 0))
    (hs) (n : Fin 1024) (d : Fin 256) :
    gUp (k0_pay349) (st_k0_t18 Variants.none c none i arg1 harg1 arg2 harg2 arg3 harg3 arg4 harg4 arg5 harg5 sl.r_96 k0_pay349 (sl.r_97 c i arg1 harg1 arg2 harg2 arg3 harg3 arg4 harg4 arg5 harg5 x0 x1 x2) k0_pay356 (0#32) (1#32) (harg2.unread x1) k0_pay356 (Scf.trips k0_t18_loop.lb k0_t18_loop.ub k0_t18_loop.st)) 0 hs (ix2 n d)
      = up (rows x1) 169 (R 0) n.val d := by
  refine gUp_apply hot_up_169 (by decide) _ 0 hs _ _ (by decide) (fun r k hk hr d => ?_) n d
  obtain rfl : k = r.val := by omega
  apply one_codes 4096 (T := k0_t17_loop.trips) (T' := k0_t18_loop.trips) (v := arg4.view) arg3 harg3 arg2 harg2 x2 x1 hL (by decide) hot_down_169 hx2
    k0_off17 k0_off17_inb k0_off18 k0_off18_inb (by decide) (by decide) (by decide) (by decide) (by decide)
    (ib := inb_block 0 (by decide)) (g := shapeCasts_S1x1024x256_S1024x256) (hr := hk)
  case l0 => rfl
  case l1 => exact fun k => (st_k0_t18_succ ..).trans (by unfold tripR_k0_t18 trip_k0_t18; rfl)
  case s1 => exact fun k => (st_k0_t17_succ ..).trans (by unfold tripR_k0_t17 trip_k0_t17; rfl)
  case s0 => rfl

/-- Batch 0 of the remainders after the scale of 169 places. -/
theorem rest_169_0 (hx2 : ∀ (k : Fin 8192) (c : Fin 256), x2 (ix2 k c) = unit (rows x1 k.val) c) {R : ℕ → ℕ → Row}
    (hL : Inv (sl.H3_65 c i arg1 harg1 arg2 harg2 arg3 harg3 arg4 harg4 arg5 harg5 x0 x1 x2) (mix R (fun b => less (rows x1) 169 (R b)) 0)) :
    Inv (sl.H3_66 c i arg1 harg1 arg2 harg2 arg3 harg3 arg4 harg4 arg5 harg5 x0 x1 x2) (mix R (fun b => less (rows x1) 169 (R b)) 1) :=
  Inv.sub (v := arg4.view) 0 (by decide) hL (ups_169_0 c i arg1 harg1 arg2 harg2 arg3 harg3 arg4 harg4 arg5 harg5 x0 x1 x2 hx2 hL (by decide))

/-- What the scale of 169 places adds to batch 1 of the sums and takes from batch 1 of the remainders. -/
theorem ups_169_1 (hx2 : ∀ (k : Fin 8192) (c : Fin 256), x2 (ix2 k c) = unit (rows x1 k.val) c) {R : ℕ → ℕ → Row}
    (hL : Inv (sl.H3_66 c i arg1 harg1 arg2 harg2 arg3 harg3 arg4 harg4 arg5 harg5 x0 x1 x2) (mix R (fun b => less (rows x1) 169 (R b)) 1))
    (hs) (n : Fin 1024) (d : Fin 256) :
    gUp (k0_pay349) (st_k0_t20 Variants.none c none i arg1 harg1 arg2 harg2 arg3 harg3 arg4 harg4 arg5 harg5 sl.r_96 k0_pay349 (sl.r_98 c i arg1 harg1 arg2 harg2 arg3 harg3 arg4 harg4 arg5 harg5 x0 x1 x2) k0_pay367 (harg2.unread x1) k0_pay367 (Scf.trips k0_t20_loop.lb k0_t20_loop.ub k0_t20_loop.st)) 0 hs (ix2 n d)
      = up (rows x1) 169 (R 1) n.val d := by
  refine gUp_apply hot_up_169 (by decide) _ 0 hs _ _ (by decide) (fun r k hk hr d => ?_) n d
  obtain rfl : k = r.val := by omega
  apply one_codes 4096 (T := k0_t19_loop.trips) (T' := k0_t20_loop.trips) (v := arg4.view) arg3 harg3 arg2 harg2 x2 x1 hL (by decide) hot_down_169 hx2
    k0_off19 k0_off19_inb k0_off20 k0_off20_inb (by decide) (by decide) (by decide) (by decide) (by decide)
    (ib := inb_block 1 (by decide)) (g := shapeCasts_S1x1024x256_S1024x256) (hr := hk)
  case l0 => rfl
  case l1 => exact fun k => (st_k0_t20_succ ..).trans (by unfold tripR_k0_t20 trip_k0_t20; rfl)
  case s1 => exact fun k => (st_k0_t19_succ ..).trans (by unfold tripR_k0_t19 trip_k0_t19; rfl)
  case s0 => rfl

/-- Batch 1 of the remainders after the scale of 169 places. -/
theorem rest_169_1 (hx2 : ∀ (k : Fin 8192) (c : Fin 256), x2 (ix2 k c) = unit (rows x1 k.val) c) {R : ℕ → ℕ → Row}
    (hL : Inv (sl.H3_66 c i arg1 harg1 arg2 harg2 arg3 harg3 arg4 harg4 arg5 harg5 x0 x1 x2) (mix R (fun b => less (rows x1) 169 (R b)) 1)) :
    Inv (sl.H3_67 c i arg1 harg1 arg2 harg2 arg3 harg3 arg4 harg4 arg5 harg5 x0 x1 x2) (mix R (fun b => less (rows x1) 169 (R b)) 2) :=
  Inv.sub (v := arg4.view) 1 (by decide) hL (ups_169_1 c i arg1 harg1 arg2 harg2 arg3 harg3 arg4 harg4 arg5 harg5 x0 x1 x2 hx2 hL (by decide))

/-- What the scale of 169 places adds to batch 2 of the sums and takes from batch 2 of the remainders. -/
theorem ups_169_2 (hx2 : ∀ (k : Fin 8192) (c : Fin 256), x2 (ix2 k c) = unit (rows x1 k.val) c) {R : ℕ → ℕ → Row}
    (hL : Inv (sl.H3_67 c i arg1 harg1 arg2 harg2 arg3 harg3 arg4 harg4 arg5 harg5 x0 x1 x2) (mix R (fun b => less (rows x1) 169 (R b)) 2))
    (hs) (n : Fin 1024) (d : Fin 256) :
    gUp (k0_pay349) (st_k0_t22 Variants.none c none i arg1 harg1 arg2 harg2 arg3 harg3 arg4 harg4 arg5 harg5 sl.r_96 k0_pay349 (sl.r_99 c i arg1 harg1 arg2 harg2 arg3 harg3 arg4 harg4 arg5 harg5 x0 x1 x2) k0_pay373 k0_pay374 (0#32) (1#32) (st_k0_t21 Variants.none c none i arg1 harg1 arg2 harg2 arg3 harg3 arg4 harg4 arg5 harg5 sl.r_96 k0_pay349 (sl.r_99 c i arg1 harg1 arg2 harg2 arg3 harg3 arg4 harg4 arg5 harg5 x0 x1 x2) k0_pay373 k0_pay374 (0#32) (1#32) (harg3.unread x2) (k0_pay373, k0_pay374) (Scf.trips k0_t21_loop.lb k0_t21_loop.ub k0_t21_loop.st)).2 (harg2.unread x1) k0_pay379 (Scf.trips k0_t22_loop.lb k0_t22_loop.ub k0_t22_loop.st)) 0 hs (ix2 n d)
      = up (rows x1) 169 (R 2) n.val d := by
  refine gUp_apply hot_up_169 (by decide) _ 0 hs _ _ (by decide) (fun r k hk hr d => ?_) n d
  obtain rfl : k = r.val := by omega
  apply one_codes 4096 (T := k0_t21_loop.trips) (T' := k0_t22_loop.trips) (v := arg4.view) arg3 harg3 arg2 harg2 x2 x1 hL (by decide) hot_down_169 hx2
    k0_off21 k0_off21_inb k0_off22 k0_off22_inb (by decide) (by decide) (by decide) (by decide) (by decide)
    (ib := inb_block 2 (by decide)) (g := shapeCasts_S1x1024x256_S1024x256) (hr := hk)
  case l0 => rfl
  case l1 => exact fun k => (st_k0_t22_succ ..).trans (by unfold tripR_k0_t22 trip_k0_t22; rfl)
  case s1 => exact fun k => (st_k0_t21_succ ..).trans (by unfold tripR_k0_t21 trip_k0_t21; rfl)
  case s0 => rfl

/-- Batch 2 of the remainders after the scale of 169 places. -/
theorem rest_169_2 (hx2 : ∀ (k : Fin 8192) (c : Fin 256), x2 (ix2 k c) = unit (rows x1 k.val) c) {R : ℕ → ℕ → Row}
    (hL : Inv (sl.H3_67 c i arg1 harg1 arg2 harg2 arg3 harg3 arg4 harg4 arg5 harg5 x0 x1 x2) (mix R (fun b => less (rows x1) 169 (R b)) 2)) :
    Inv (sl.H3_68 c i arg1 harg1 arg2 harg2 arg3 harg3 arg4 harg4 arg5 harg5 x0 x1 x2) (mix R (fun b => less (rows x1) 169 (R b)) 3) :=
  Inv.sub (v := arg4.view) 2 (by decide) hL (ups_169_2 c i arg1 harg1 arg2 harg2 arg3 harg3 arg4 harg4 arg5 harg5 x0 x1 x2 hx2 hL (by decide))

/-- What the scale of 169 places adds to batch 3 of the sums and takes from batch 3 of the remainders. -/
theorem ups_169_3 (hx2 : ∀ (k : Fin 8192) (c : Fin 256), x2 (ix2 k c) = unit (rows x1 k.val) c) {R : ℕ → ℕ → Row}
    (hL : Inv (sl.H3_68 c i arg1 harg1 arg2 harg2 arg3 harg3 arg4 harg4 arg5 harg5 x0 x1 x2) (mix R (fun b => less (rows x1) 169 (R b)) 3))
    (hs) (n : Fin 1024) (d : Fin 256) :
    gUp (k0_pay349) (st_k0_t24 Variants.none c none i arg1 harg1 arg2 harg2 arg3 harg3 arg4 harg4 arg5 harg5 sl.r_96 k0_pay349 (sl.r_100 c i arg1 harg1 arg2 harg2 arg3 harg3 arg4 harg4 arg5 harg5 x0 x1 x2) k0_pay385 k0_pay386 (st_k0_t23 Variants.none c none i arg1 harg1 arg2 harg2 arg3 harg3 arg4 harg4 arg5 harg5 sl.r_96 k0_pay349 (sl.r_100 c i arg1 harg1 arg2 harg2 arg3 harg3 arg4 harg4 arg5 harg5 x0 x1 x2) k0_pay385 k0_pay386 (harg3.unread x2) (k0_pay385, k0_pay386) (Scf.trips k0_t23_loop.lb k0_t23_loop.ub k0_t23_loop.st)).2 (harg2.unread x1) k0_pay391 (Scf.trips k0_t24_loop.lb k0_t24_loop.ub k0_t24_loop.st)) 0 hs (ix2 n d)
      = up (rows x1) 169 (R 3) n.val d := by
  refine gUp_apply hot_up_169 (by decide) _ 0 hs _ _ (by decide) (fun r k hk hr d => ?_) n d
  obtain rfl : k = r.val := by omega
  apply one_codes 4096 (T := k0_t23_loop.trips) (T' := k0_t24_loop.trips) (v := arg4.view) arg3 harg3 arg2 harg2 x2 x1 hL (by decide) hot_down_169 hx2
    k0_off23 k0_off23_inb k0_off24 k0_off24_inb (by decide) (by decide) (by decide) (by decide) (by decide)
    (ib := inb_block 3 (by decide)) (g := shapeCasts_S1x1024x256_S1024x256) (hr := hk)
  case l0 => rfl
  case l1 => exact fun k => (st_k0_t24_succ ..).trans (by unfold tripR_k0_t24 trip_k0_t24; rfl)
  case s1 => exact fun k => (st_k0_t23_succ ..).trans (by unfold tripR_k0_t23 trip_k0_t23; rfl)
  case s0 => rfl

/-- Batch 3 of the remainders after the scale of 169 places. -/
theorem rest_169_3 (hx2 : ∀ (k : Fin 8192) (c : Fin 256), x2 (ix2 k c) = unit (rows x1 k.val) c) {R : ℕ → ℕ → Row}
    (hL : Inv (sl.H3_68 c i arg1 harg1 arg2 harg2 arg3 harg3 arg4 harg4 arg5 harg5 x0 x1 x2) (mix R (fun b => less (rows x1) 169 (R b)) 3)) :
    Inv (sl.H3_69 c i arg1 harg1 arg2 harg2 arg3 harg3 arg4 harg4 arg5 harg5 x0 x1 x2) (mix R (fun b => less (rows x1) 169 (R b)) 4) :=
  Inv.sub (v := arg4.view) 3 (by decide) hL (ups_169_3 c i arg1 harg1 arg2 harg2 arg3 harg3 arg4 harg4 arg5 harg5 x0 x1 x2 hx2 hL (by decide))

/-- What the scale of 169 places adds to batch 4 of the sums and takes from batch 4 of the remainders. -/
theorem ups_169_4 (hx2 : ∀ (k : Fin 8192) (c : Fin 256), x2 (ix2 k c) = unit (rows x1 k.val) c) {R : ℕ → ℕ → Row}
    (hL : Inv (sl.H3_69 c i arg1 harg1 arg2 harg2 arg3 harg3 arg4 harg4 arg5 harg5 x0 x1 x2) (mix R (fun b => less (rows x1) 169 (R b)) 4))
    (hs) (n : Fin 1024) (d : Fin 256) :
    gUp (k0_pay349) (st_k0_t26 Variants.none c none i arg1 harg1 arg2 harg2 arg3 harg3 arg4 harg4 arg5 harg5 sl.r_96 k0_pay349 (sl.r_101 c i arg1 harg1 arg2 harg2 arg3 harg3 arg4 harg4 arg5 harg5 x0 x1 x2) (st_k0_t25 Variants.none c none i arg1 harg1 arg2 harg2 arg3 harg3 arg4 harg4 arg5 harg5 sl.r_96 k0_pay349 (sl.r_101 c i arg1 harg1 arg2 harg2 arg3 harg3 arg4 harg4 arg5 harg5 x0 x1 x2) (harg3.unread x2) (k0_pay397, k0_pay398) (Scf.trips k0_t25_loop.lb k0_t25_loop.ub k0_t25_loop.st)).2 (harg2.unread x1) k0_pay403 (Scf.trips k0_t26_loop.lb k0_t26_loop.ub k0_t26_loop.st)) 0 hs (ix2 n d)
      = up (rows x1) 169 (R 4) n.val d := by
  refine gUp_apply hot_up_169 (by decide) _ 0 hs _ _ (by decide) (fun r k hk hr d => ?_) n d
  obtain rfl : k = r.val := by omega
  apply one_codes 4096 (T := k0_t25_loop.trips) (T' := k0_t26_loop.trips) (v := arg4.view) arg3 harg3 arg2 harg2 x2 x1 hL (by decide) hot_down_169 hx2
    k0_off25 k0_off25_inb k0_off26 k0_off26_inb (by decide) (by decide) (by decide) (by decide) (by decide)
    (ib := inb_block 4 (by decide)) (g := shapeCasts_S1x1024x256_S1024x256) (hr := hk)
  case l0 => rfl
  case l1 => exact fun k => (st_k0_t26_succ ..).trans (by unfold tripR_k0_t26 trip_k0_t26; rfl)
  case s1 => exact fun k => (st_k0_t25_succ ..).trans (by unfold tripR_k0_t25 trip_k0_t25; rfl)
  case s0 => rfl

/-- Batch 4 of the remainders after the scale of 169 places. -/
theorem rest_169_4 (hx2 : ∀ (k : Fin 8192) (c : Fin 256), x2 (ix2 k c) = unit (rows x1 k.val) c) {R : ℕ → ℕ → Row}
    (hL : Inv (sl.H3_69 c i arg1 harg1 arg2 harg2 arg3 harg3 arg4 harg4 arg5 harg5 x0 x1 x2) (mix R (fun b => less (rows x1) 169 (R b)) 4)) :
    Inv (sl.H3_70 c i arg1 harg1 arg2 harg2 arg3 harg3 arg4 harg4 arg5 harg5 x0 x1 x2) (mix R (fun b => less (rows x1) 169 (R b)) 5) :=
  Inv.sub (v := arg4.view) 4 (by decide) hL (ups_169_4 c i arg1 harg1 arg2 harg2 arg3 harg3 arg4 harg4 arg5 harg5 x0 x1 x2 hx2 hL (by decide))

/-- What the scale of 169 places adds to batch 5 of the sums and takes from batch 5 of the remainders. -/
theorem ups_169_5 (hx2 : ∀ (k : Fin 8192) (c : Fin 256), x2 (ix2 k c) = unit (rows x1 k.val) c) {R : ℕ → ℕ → Row}
    (hL : Inv (sl.H3_70 c i arg1 harg1 arg2 harg2 arg3 harg3 arg4 harg4 arg5 harg5 x0 x1 x2) (mix R (fun b => less (rows x1) 169 (R b)) 5))
    (hs) (n : Fin 1024) (d : Fin 256) :
    gUp (k0_pay349) (st_k0_t28 Variants.none c none i arg1 harg1 arg2 harg2 arg3 harg3 arg4 harg4 arg5 harg5 sl.r_96 k0_pay349 (sl.r_102 c i arg1 harg1 arg2 harg2 arg3 harg3 arg4 harg4 arg5 harg5 x0 x1 x2) (sl.r_103 c i arg1 harg1 arg2 harg2 arg3 harg3 arg4 harg4 arg5 harg5 x0 x1 x2) k0_pay410 (st_k0_t27 Variants.none c none i arg1 harg1 arg2 harg2 arg3 harg3 arg4 harg4 arg5 harg5 sl.r_96 k0_pay349 (sl.r_102 c i arg1 harg1 arg2 harg2 arg3 harg3 arg4 harg4 arg5 harg5 x0 x1 x2) (sl.r_103 c i arg1 harg1 arg2 harg2 arg3 harg3 arg4 harg4 arg5 harg5 x0 x1 x2) k0_pay410 (harg3.unread x2) (k0_pay411, k0_pay412) (Scf.trips k0_t27_loop.lb k0_t27_loop.ub k0_t27_loop.st)).2 (harg2.unread x1) k0_pay417 (Scf.trips k0_t28_loop.lb k0_t28_loop.ub k0_t28_loop.st)) 0 hs (ix2 n d)
      = up (rows x1) 169 (R 5) n.val d := by
  refine gUp_apply hot_up_169 (by decide) _ 0 hs _ _ (by decide) (fun r k hk hr d => ?_) n d
  obtain rfl : k = r.val := by omega
  apply one_codes 4096 (T := k0_t27_loop.trips) (T' := k0_t28_loop.trips) (v := arg4.view) arg3 harg3 arg2 harg2 x2 x1 hL (by decide) hot_down_169 hx2
    k0_off27 k0_off27_inb k0_off28 k0_off28_inb (by decide) (by decide) (by decide) (by decide) (by decide)
    (ib := inb_block 5 (by decide)) (g := shapeCasts_S1x1024x256_S1024x256) (hr := hk)
  case l0 => rfl
  case l1 => exact fun k => (st_k0_t28_succ ..).trans (by unfold tripR_k0_t28 trip_k0_t28; rfl)
  case s1 => exact fun k => (st_k0_t27_succ ..).trans (by unfold tripR_k0_t27 trip_k0_t27; rfl)
  case s0 => rfl

/-- Batch 5 of the remainders after the scale of 169 places. -/
theorem rest_169_5 (hx2 : ∀ (k : Fin 8192) (c : Fin 256), x2 (ix2 k c) = unit (rows x1 k.val) c) {R : ℕ → ℕ → Row}
    (hL : Inv (sl.H3_70 c i arg1 harg1 arg2 harg2 arg3 harg3 arg4 harg4 arg5 harg5 x0 x1 x2) (mix R (fun b => less (rows x1) 169 (R b)) 5)) :
    Inv (sl.H3_71 c i arg1 harg1 arg2 harg2 arg3 harg3 arg4 harg4 arg5 harg5 x0 x1 x2) (mix R (fun b => less (rows x1) 169 (R b)) 6) :=
  Inv.sub (v := arg4.view) 5 (by decide) hL (ups_169_5 c i arg1 harg1 arg2 harg2 arg3 harg3 arg4 harg4 arg5 harg5 x0 x1 x2 hx2 hL (by decide))

/-- What the scale of 169 places adds to batch 6 of the sums and takes from batch 6 of the remainders. -/
theorem ups_169_6 (hx2 : ∀ (k : Fin 8192) (c : Fin 256), x2 (ix2 k c) = unit (rows x1 k.val) c) {R : ℕ → ℕ → Row}
    (hL : Inv (sl.H3_71 c i arg1 harg1 arg2 harg2 arg3 harg3 arg4 harg4 arg5 harg5 x0 x1 x2) (mix R (fun b => less (rows x1) 169 (R b)) 6))
    (hs) (n : Fin 1024) (d : Fin 256) :
    gUp (k0_pay349) (st_k0_t30 Variants.none c none i arg1 harg1 arg2 harg2 arg3 harg3 arg4 harg4 arg5 harg5 k0_pay349 (sl.r_104 c i arg1 harg1 arg2 harg2 arg3 harg3 arg4 harg4 arg5 harg5 x0 x1 x2) (sl.r_105 c i arg1 harg1 arg2 harg2 arg3 harg3 arg4 harg4 arg5 harg5 x0 x1 x2) (st_k0_t29 Variants.none c none i arg1 harg1 arg2 harg2 arg3 harg3 arg4 harg4 arg5 harg5 k0_pay349 (sl.r_104 c i arg1 harg1 arg2 harg2 arg3 harg3 arg4 harg4 arg5 harg5 x0 x1 x2) (sl.r_105 c i arg1 harg1 arg2 harg2 arg3 harg3 arg4 harg4 arg5 harg5 x0 x1 x2) (harg3.unread x2) (k0_pay424, k0_pay425) (Scf.trips k0_t29_loop.lb k0_t29_loop.ub k0_t29_loop.st)).2 (harg2.unread x1) k0_pay430 (Scf.trips k0_t30_loop.lb k0_t30_loop.ub k0_t30_loop.st)) 0 hs (ix2 n d)
      = up (rows x1) 169 (R 6) n.val d := by
  refine gUp_apply hot_up_169 (by decide) _ 0 hs _ _ (by decide) (fun r k hk hr d => ?_) n d
  obtain rfl : k = r.val := by omega
  apply one_codes 4096 (T := k0_t29_loop.trips) (T' := k0_t30_loop.trips) (v := arg4.view) arg3 harg3 arg2 harg2 x2 x1 hL (by decide) hot_down_169 hx2
    k0_off29 k0_off29_inb k0_off30 k0_off30_inb (by decide) (by decide) (by decide) (by decide) (by decide)
    (ib := inb_block 6 (by decide)) (g := shapeCasts_S1x1024x256_S1024x256) (hr := hk)
  case l0 => rfl
  case l1 => exact fun k => (st_k0_t30_succ ..).trans (by unfold tripR_k0_t30 trip_k0_t30; rfl)
  case s1 => exact fun k => (st_k0_t29_succ ..).trans (by unfold tripR_k0_t29 trip_k0_t29; rfl)
  case s0 => rfl

/-- Batch 6 of the remainders after the scale of 169 places. -/
theorem rest_169_6 (hx2 : ∀ (k : Fin 8192) (c : Fin 256), x2 (ix2 k c) = unit (rows x1 k.val) c) {R : ℕ → ℕ → Row}
    (hL : Inv (sl.H3_71 c i arg1 harg1 arg2 harg2 arg3 harg3 arg4 harg4 arg5 harg5 x0 x1 x2) (mix R (fun b => less (rows x1) 169 (R b)) 6)) :
    Inv (sl.H3_72 c i arg1 harg1 arg2 harg2 arg3 harg3 arg4 harg4 arg5 harg5 x0 x1 x2) (mix R (fun b => less (rows x1) 169 (R b)) 7) :=
  Inv.sub (v := arg4.view) 6 (by decide) hL (ups_169_6 c i arg1 harg1 arg2 harg2 arg3 harg3 arg4 harg4 arg5 harg5 x0 x1 x2 hx2 hL (by decide))

/-- What the scale of 169 places adds to batch 7 of the sums and takes from batch 7 of the remainders. -/
theorem ups_169_7 (hx2 : ∀ (k : Fin 8192) (c : Fin 256), x2 (ix2 k c) = unit (rows x1 k.val) c) {R : ℕ → ℕ → Row}
    (hL : Inv (sl.H3_72 c i arg1 harg1 arg2 harg2 arg3 harg3 arg4 harg4 arg5 harg5 x0 x1 x2) (mix R (fun b => less (rows x1) 169 (R b)) 7))
    (hs) (n : Fin 1024) (d : Fin 256) :
    gUp (k0_pay349) (st_k0_t32 Variants.none c none i arg1 harg1 arg2 harg2 arg3 harg3 arg4 harg4 arg5 harg5 sl.r_96 k0_pay349 (sl.r_106 c i arg1 harg1 arg2 harg2 arg3 harg3 arg4 harg4 arg5 harg5 x0 x1 x2) (st_k0_t31 Variants.none c none i arg1 harg1 arg2 harg2 arg3 harg3 arg4 harg4 arg5 harg5 sl.r_96 k0_pay349 (sl.r_106 c i arg1 harg1 arg2 harg2 arg3 harg3 arg4 harg4 arg5 harg5 x0 x1 x2) (harg3.unread x2) (k0_pay436, k0_pay437) (Scf.trips k0_t31_loop.lb k0_t31_loop.ub k0_t31_loop.st)).2 (harg2.unread x1) k0_pay442 (Scf.trips k0_t32_loop.lb k0_t32_loop.ub k0_t32_loop.st)) 0 hs (ix2 n d)
      = up (rows x1) 169 (R 7) n.val d := by
  refine gUp_apply hot_up_169 (by decide) _ 0 hs _ _ (by decide) (fun r k hk hr d => ?_) n d
  obtain rfl : k = r.val := by omega
  apply one_codes 4096 (T := k0_t31_loop.trips) (T' := k0_t32_loop.trips) (v := arg4.view) arg3 harg3 arg2 harg2 x2 x1 hL (by decide) hot_down_169 hx2
    k0_off31 k0_off31_inb k0_off32 k0_off32_inb (by decide) (by decide) (by decide) (by decide) (by decide)
    (ib := inb_block 7 (by decide)) (g := shapeCasts_S1x1024x256_S1024x256) (hr := hk)
  case l0 => rfl
  case l1 => exact fun k => (st_k0_t32_succ ..).trans (by unfold tripR_k0_t32 trip_k0_t32; rfl)
  case s1 => exact fun k => (st_k0_t31_succ ..).trans (by unfold tripR_k0_t31 trip_k0_t31; rfl)
  case s0 => rfl

/-- Batch 7 of the remainders after the scale of 169 places. -/
theorem rest_169_7 (hx2 : ∀ (k : Fin 8192) (c : Fin 256), x2 (ix2 k c) = unit (rows x1 k.val) c) {R : ℕ → ℕ → Row}
    (hL : Inv (sl.H3_72 c i arg1 harg1 arg2 harg2 arg3 harg3 arg4 harg4 arg5 harg5 x0 x1 x2) (mix R (fun b => less (rows x1) 169 (R b)) 7)) :
    Inv (sl.H3_73 c i arg1 harg1 arg2 harg2 arg3 harg3 arg4 harg4 arg5 harg5 x0 x1 x2) (mix R (fun b => less (rows x1) 169 (R b)) 8) :=
  Inv.sub (v := arg4.view) 7 (by decide) hL (ups_169_7 c i arg1 harg1 arg2 harg2 arg3 harg3 arg4 harg4 arg5 harg5 x0 x1 x2 hx2 hL (by decide))

/-- What the scale of 256 places adds to batch 0 of the sums and takes from batch 0 of the remainders. -/
theorem ups_256_0 (hx2 : ∀ (k : Fin 8192) (c : Fin 256), x2 (ix2 k c) = unit (rows x1 k.val) c) {R : ℕ → ℕ → Row}
    (hL : Inv (sl.H3_73 c i arg1 harg1 arg2 harg2 arg3 harg3 arg4 harg4 arg5 harg5 x0 x1 x2) (mix R (fun b => less (rows x1) 256 (R b)) 0))
    (n : Fin 1024) (d : Fin 256) :
    matmul (DotDims.plain 1024 256 256) (some .fp32) (k0_pay448) (st_k0_t34 Variants.none c none i arg1 harg1 arg2 harg2 arg3 harg3 arg4 harg4 arg5 harg5 (k0_pay447 sl.v1800) k0_pay448 (sl.r_107 c i arg1 harg1 arg2 harg2 arg3 harg3 arg4 harg4 arg5 harg5 x0 x1 x2) (sl.r_108 c i arg1 harg1 arg2 harg2 arg3 harg3 arg4 harg4 arg5 harg5 x0 x1 x2) (st_k0_t33 Variants.none c none i arg1 harg1 arg2 harg2 arg3 harg3 arg4 harg4 arg5 harg5 (k0_pay447 sl.v1800) k0_pay448 (sl.r_107 c i arg1 harg1 arg2 harg2 arg3 harg3 arg4 harg4 arg5 harg5 x0 x1 x2) (sl.r_108 c i arg1 harg1 arg2 harg2 arg3 harg3 arg4 harg4 arg5 harg5 x0 x1 x2) (harg3.unread x2) (k0_pay451, k0_pay452) (Scf.trips k0_t33_loop.lb k0_t33_loop.ub k0_t33_loop.st)).2 (harg2.unread x1) k0_pay457 (Scf.trips k0_t34_loop.lb k0_t34_loop.ub k0_t34_loop.st))
      (constant (Mat 1024 256) .f32 0x00000000#32) (ix2 n d)
      = up (rows x1) 256 (R 0) n.val d := by
  refine up_apply hot_up_256 (by decide) _ _ _ (fun r d => ?_) n d
  apply one_codes 4096 (T := k0_t33_loop.trips) (T' := k0_t34_loop.trips) (v := arg4.view) arg3 harg3 arg2 harg2 x2 x1 hL (by decide) hot_down_256 hx2
    k0_off33 k0_off33_inb k0_off34 k0_off34_inb (by decide) (by decide) (by decide) (by decide) (by decide)
    (ib := inb_block 0 (by decide)) (g := shapeCasts_S1x1024x256_S1024x256) (g3 := broadcasts_S256x1_S256x256) (hr := r.isLt)
  case l0 => rfl
  case l1 => exact fun k => (st_k0_t34_succ ..).trans (by unfold tripR_k0_t34 trip_k0_t34; rfl)
  case s1 => exact fun k => (st_k0_t33_succ ..).trans (by unfold tripR_k0_t33 trip_k0_t33; rfl)
  case s0 => rfl

/-- Batch 0 of the remainders after the scale of 256 places. -/
theorem rest_256_0 (hx2 : ∀ (k : Fin 8192) (c : Fin 256), x2 (ix2 k c) = unit (rows x1 k.val) c) {R : ℕ → ℕ → Row}
    (hL : Inv (sl.H3_73 c i arg1 harg1 arg2 harg2 arg3 harg3 arg4 harg4 arg5 harg5 x0 x1 x2) (mix R (fun b => less (rows x1) 256 (R b)) 0)) :
    Inv (sl.H3_74 c i arg1 harg1 arg2 harg2 arg3 harg3 arg4 harg4 arg5 harg5 x0 x1 x2) (mix R (fun b => less (rows x1) 256 (R b)) 1) :=
  Inv.sub (v := arg4.view) 0 (by decide) hL (ups_256_0 c i arg1 harg1 arg2 harg2 arg3 harg3 arg4 harg4 arg5 harg5 x0 x1 x2 hx2 hL)

/-- What the scale of 256 places adds to batch 1 of the sums and takes from batch 1 of the remainders. -/
theorem ups_256_1 (hx2 : ∀ (k : Fin 8192) (c : Fin 256), x2 (ix2 k c) = unit (rows x1 k.val) c) {R : ℕ → ℕ → Row}
    (hL : Inv (sl.H3_74 c i arg1 harg1 arg2 harg2 arg3 harg3 arg4 harg4 arg5 harg5 x0 x1 x2) (mix R (fun b => less (rows x1) 256 (R b)) 1))
    (n : Fin 1024) (d : Fin 256) :
    matmul (DotDims.plain 1024 256 256) (some .fp32) (k0_pay448) (st_k0_t36 Variants.none c none i arg1 harg1 arg2 harg2 arg3 harg3 arg4 harg4 arg5 harg5 (k0_pay447 sl.v1800) k0_pay448 (sl.r_109 c i arg1 harg1 arg2 harg2 arg3 harg3 arg4 harg4 arg5 harg5 x0 x1 x2) (sl.r_110 c i arg1 harg1 arg2 harg2 arg3 harg3 arg4 harg4 arg5 harg5 x0 x1 x2) sl.cst_1555 (st_k0_t35 Variants.none c none i arg1 harg1 arg2 harg2 arg3 harg3 arg4 harg4 arg5 harg5 (k0_pay447 sl.v1800) k0_pay448 (sl.r_109 c i arg1 harg1 arg2 harg2 arg3 harg3 arg4 harg4 arg5 harg5 x0 x1 x2) (sl.r_110 c i arg1 harg1 arg2 harg2 arg3 harg3 arg4 harg4 arg5 harg5 x0 x1 x2) sl.cst_1555 (harg3.unread x2) (k0_pay464, k0_pay465) (Scf.trips k0_t35_loop.lb k0_t35_loop.ub k0_t35_loop.st)).2 (harg2.unread x1) k0_pay470 (Scf.trips k0_t36_loop.lb k0_t36_loop.ub k0_t36_loop.st))
      (constant (Mat 1024 256) .f32 0x00000000#32) (ix2 n d)
      = up (rows x1) 256 (R 1) n.val d := by
  refine up_apply hot_up_256 (by decide) _ _ _ (fun r d => ?_) n d
  apply one_codes 4096 (T := k0_t35_loop.trips) (T' := k0_t36_loop.trips) (v := arg4.view) arg3 harg3 arg2 harg2 x2 x1 hL (by decide) hot_down_256 hx2
    k0_off35 k0_off35_inb k0_off36 k0_off36_inb (by decide) (by decide) (by decide) (by decide) (by decide)
    (ib := inb_block 1 (by decide)) (g := shapeCasts_S1x1024x256_S1024x256) (g3 := broadcasts_S256x1_S256x256) (hr := r.isLt)
  case l0 => rfl
  case l1 => exact fun k => (st_k0_t36_succ ..).trans (by unfold tripR_k0_t36 trip_k0_t36; rfl)
  case s1 => exact fun k => (st_k0_t35_succ ..).trans (by unfold tripR_k0_t35 trip_k0_t35; rfl)
  case s0 => rfl

/-- Batch 1 of the remainders after the scale of 256 places. -/
theorem rest_256_1 (hx2 : ∀ (k : Fin 8192) (c : Fin 256), x2 (ix2 k c) = unit (rows x1 k.val) c) {R : ℕ → ℕ → Row}
    (hL : Inv (sl.H3_74 c i arg1 harg1 arg2 harg2 arg3 harg3 arg4 harg4 arg5 harg5 x0 x1 x2) (mix R (fun b => less (rows x1) 256 (R b)) 1)) :
    Inv (sl.H3_75 c i arg1 harg1 arg2 harg2 arg3 harg3 arg4 harg4 arg5 harg5 x0 x1 x2) (mix R (fun b => less (rows x1) 256 (R b)) 2) :=
  Inv.sub (v := arg4.view) 1 (by decide) hL (ups_256_1 c i arg1 harg1 arg2 harg2 arg3 harg3 arg4 harg4 arg5 harg5 x0 x1 x2 hx2 hL)

/-- What the scale of 256 places adds to batch 2 of the sums and takes from batch 2 of the remainders. -/
theorem ups_256_2 (hx2 : ∀ (k : Fin 8192) (c : Fin 256), x2 (ix2 k c) = unit (rows x1 k.val) c) {R : ℕ → ℕ → Row}
    (hL : Inv (sl.H3_75 c i arg1 harg1 arg2 harg2 arg3 harg3 arg4 harg4 arg5 harg5 x0 x1 x2) (mix R (fun b => less (rows x1) 256 (R b)) 2))
    (n : Fin 1024) (d : Fin 256) :
    matmul (DotDims.plain 1024 256 256) (some .fp32) (k0_pay448) (st_k0_t38 Variants.none c none i arg1 harg1 arg2 harg2 arg3 harg3 arg4 harg4 arg5 harg5 k0_pay448 (sl.r_111 c i arg1 harg1 arg2 harg2 arg3 harg3 arg4 harg4 arg5 harg5 x0 x1 x2) (sl.r_112 c i arg1 harg1 arg2 harg2 arg3 harg3 arg4 harg4 arg5 harg5 x0 x1 x2) (st_k0_t37 Variants.none c none i arg1 harg1 arg2 harg2 arg3 harg3 arg4 harg4 arg5 harg5 k0_pay448 (sl.r_111 c i arg1 harg1 arg2 harg2 arg3 harg3 arg4 harg4 arg5 harg5 x0 x1 x2) (sl.r_112 c i arg1 harg1 arg2 harg2 arg3 harg3 arg4 harg4 arg5 harg5 x0 x1 x2) (harg3.unread x2) (k0_pay477, k0_pay478) (Scf.trips k0_t37_loop.lb k0_t37_loop.ub k0_t37_loop.st)).2 (harg2.unread x1) k0_pay483 (Scf.trips k0_t38_loop.lb k0_t38_loop.ub k0_t38_loop.st))
      (constant (Mat 1024 256) .f32 0x00000000#32) (ix2 n d)
      = up (rows x1) 256 (R 2) n.val d := by
  refine up_apply hot_up_256 (by decide) _ _ _ (fun r d => ?_) n d
  apply one_codes 4096 (T := k0_t37_loop.trips) (T' := k0_t38_loop.trips) (v := arg4.view) arg3 harg3 arg2 harg2 x2 x1 hL (by decide) hot_down_256 hx2
    k0_off37 k0_off37_inb k0_off38 k0_off38_inb (by decide) (by decide) (by decide) (by decide) (by decide)
    (ib := inb_block 2 (by decide)) (g := shapeCasts_S1x1024x256_S1024x256) (g3 := broadcasts_S256x1_S256x256) (hr := r.isLt)
  case l0 => rfl
  case l1 => exact fun k => (st_k0_t38_succ ..).trans (by unfold tripR_k0_t38 trip_k0_t38; rfl)
  case s1 => exact fun k => (st_k0_t37_succ ..).trans (by unfold tripR_k0_t37 trip_k0_t37; rfl)
  case s0 => rfl

/-- Batch 2 of the remainders after the scale of 256 places. -/
theorem rest_256_2 (hx2 : ∀ (k : Fin 8192) (c : Fin 256), x2 (ix2 k c) = unit (rows x1 k.val) c) {R : ℕ → ℕ → Row}
    (hL : Inv (sl.H3_75 c i arg1 harg1 arg2 harg2 arg3 harg3 arg4 harg4 arg5 harg5 x0 x1 x2) (mix R (fun b => less (rows x1) 256 (R b)) 2)) :
    Inv (sl.H3_76 c i arg1 harg1 arg2 harg2 arg3 harg3 arg4 harg4 arg5 harg5 x0 x1 x2) (mix R (fun b => less (rows x1) 256 (R b)) 3) :=
  Inv.sub (v := arg4.view) 2 (by decide) hL (ups_256_2 c i arg1 harg1 arg2 harg2 arg3 harg3 arg4 harg4 arg5 harg5 x0 x1 x2 hx2 hL)

/-- What the scale of 256 places adds to batch 3 of the sums and takes from batch 3 of the remainders. -/
theorem ups_256_3 (hx2 : ∀ (k : Fin 8192) (c : Fin 256), x2 (ix2 k c) = unit (rows x1 k.val) c) {R : ℕ → ℕ → Row}
    (hL : Inv (sl.H3_76 c i arg1 harg1 arg2 harg2 arg3 harg3 arg4 harg4 arg5 harg5 x0 x1 x2) (mix R (fun b => less (rows x1) 256 (R b)) 3))
    (n : Fin 1024) (d : Fin 256) :
    matmul (DotDims.plain 1024 256 256) (some .fp32) (k0_pay448) (st_k0_t40 Variants.none c none i arg1 harg1 arg2 harg2 arg3 harg3 arg4 harg4 arg5 harg5 (k0_pay447 sl.v1800) k0_pay448 (sl.r_113 c i arg1 harg1 arg2 harg2 arg3 harg3 arg4 harg4 arg5 harg5 x0 x1 x2) sl.cst_1613 (st_k0_t39 Variants.none c none i arg1 harg1 arg2 harg2 arg3 harg3 arg4 harg4 arg5 harg5 (k0_pay447 sl.v1800) k0_pay448 (sl.r_113 c i arg1 harg1 arg2 harg2 arg3 harg3 arg4 harg4 arg5 harg5 x0 x1 x2) sl.cst_1613 (harg3.unread x2) (k0_pay489, k0_pay490) (Scf.trips k0_t39_loop.lb k0_t39_loop.ub k0_t39_loop.st)).2 (harg2.unread x1) k0_pay495 (Scf.trips k0_t40_loop.lb k0_t40_loop.ub k0_t40_loop.st))
      (constant (Mat 1024 256) .f32 0x00000000#32) (ix2 n d)
      = up (rows x1) 256 (R 3) n.val d := by
  refine up_apply hot_up_256 (by decide) _ _ _ (fun r d => ?_) n d
  apply one_codes 4096 (T := k0_t39_loop.trips) (T' := k0_t40_loop.trips) (v := arg4.view) arg3 harg3 arg2 harg2 x2 x1 hL (by decide) hot_down_256 hx2
    k0_off39 k0_off39_inb k0_off40 k0_off40_inb (by decide) (by decide) (by decide) (by decide) (by decide)
    (ib := inb_block 3 (by decide)) (g := shapeCasts_S1x1024x256_S1024x256) (g3 := broadcasts_S256x1_S256x256) (hr := r.isLt)
  case l0 => rfl
  case l1 => exact fun k => (st_k0_t40_succ ..).trans (by unfold tripR_k0_t40 trip_k0_t40; rfl)
  case s1 => exact fun k => (st_k0_t39_succ ..).trans (by unfold tripR_k0_t39 trip_k0_t39; rfl)
  case s0 => rfl

/-- Batch 3 of the remainders after the scale of 256 places. -/
theorem rest_256_3 (hx2 : ∀ (k : Fin 8192) (c : Fin 256), x2 (ix2 k c) = unit (rows x1 k.val) c) {R : ℕ → ℕ → Row}
    (hL : Inv (sl.H3_76 c i arg1 harg1 arg2 harg2 arg3 harg3 arg4 harg4 arg5 harg5 x0 x1 x2) (mix R (fun b => less (rows x1) 256 (R b)) 3)) :
    Inv (sl.H3_77 c i arg1 harg1 arg2 harg2 arg3 harg3 arg4 harg4 arg5 harg5 x0 x1 x2) (mix R (fun b => less (rows x1) 256 (R b)) 4) :=
  Inv.sub (v := arg4.view) 3 (by decide) hL (ups_256_3 c i arg1 harg1 arg2 harg2 arg3 harg3 arg4 harg4 arg5 harg5 x0 x1 x2 hx2 hL)

/-- What the scale of 256 places adds to batch 4 of the sums and takes from batch 4 of the remainders. -/
theorem ups_256_4 (hx2 : ∀ (k : Fin 8192) (c : Fin 256), x2 (ix2 k c) = unit (rows x1 k.val) c) {R : ℕ → ℕ → Row}
    (hL : Inv (sl.H3_77 c i arg1 harg1 arg2 harg2 arg3 harg3 arg4 harg4 arg5 harg5 x0 x1 x2) (mix R (fun b => less (rows x1) 256 (R b)) 4))
    (n : Fin 1024) (d : Fin 256) :
    matmul (DotDims.plain 1024 256 256) (some .fp32) (k0_pay448) (st_k0_t42 Variants.none c none i arg1 harg1 arg2 harg2 arg3 harg3 arg4 harg4 arg5 harg5 (k0_pay447 sl.v1800) k0_pay448 (st_k0_t41 Variants.none c none i arg1 harg1 arg2 harg2 arg3 harg3 arg4 harg4 arg5 harg5 (k0_pay447 sl.v1800) k0_pay448 (sl.v1960 c i arg1 harg1 arg2 harg2 arg3 harg3 arg4 harg4 arg5 harg5 x0 x1 x2) (harg3.unread x2) (k0_pay500, k0_pay501) (Scf.trips k0_t41_loop.lb k0_t41_loop.ub k0_t41_loop.st)).2 (harg2.unread x1) k0_pay506 (Scf.trips k0_t42_loop.lb k0_t42_loop.ub k0_t42_loop.st))
      (constant (Mat 1024 256) .f32 0x00000000#32) (ix2 n d)
      = up (rows x1) 256 (R 4) n.val d := by
  refine up_apply hot_up_256 (by decide) _ _ _ (fun r d => ?_) n d
  apply one_codes 4096 (T := k0_t41_loop.trips) (T' := k0_t42_loop.trips) (v := arg4.view) arg3 harg3 arg2 harg2 x2 x1 hL (by decide) hot_down_256 hx2
    k0_off41 k0_off41_inb k0_off42 k0_off42_inb (by decide) (by decide) (by decide) (by decide) (by decide)
    (ib := inb_block 4 (by decide)) (g := shapeCasts_S1x1024x256_S1024x256) (g3 := broadcasts_S256x1_S256x256) (hr := r.isLt)
  case l0 => rfl
  case l1 => exact fun k => (st_k0_t42_succ ..).trans (by unfold tripR_k0_t42 trip_k0_t42; rfl)
  case s1 => exact fun k => (st_k0_t41_succ ..).trans (by unfold tripR_k0_t41 trip_k0_t41; rfl)
  case s0 => rfl

/-- Batch 4 of the remainders after the scale of 256 places. -/
theorem rest_256_4 (hx2 : ∀ (k : Fin 8192) (c : Fin 256), x2 (ix2 k c) = unit (rows x1 k.val) c) {R : ℕ → ℕ → Row}
    (hL : Inv (sl.H3_77 c i arg1 harg1 arg2 harg2 arg3 harg3 arg4 harg4 arg5 harg5 x0 x1 x2) (mix R (fun b => less (rows x1) 256 (R b)) 4)) :
    Inv (sl.H3_78 c i arg1 harg1 arg2 harg2 arg3 harg3 arg4 harg4 arg5 harg5 x0 x1 x2) (mix R (fun b => less (rows x1) 256 (R b)) 5) :=
  Inv.sub (v := arg4.view) 4 (by decide) hL (ups_256_4 c i arg1 harg1 arg2 harg2 arg3 harg3 arg4 harg4 arg5 harg5 x0 x1 x2 hx2 hL)

/-- What the scale of 256 places adds to batch 5 of the sums and takes from batch 5 of the remainders. -/
theorem ups_256_5 (hx2 : ∀ (k : Fin 8192) (c : Fin 256), x2 (ix2 k c) = unit (rows x1 k.val) c) {R : ℕ → ℕ → Row}
    (hL : Inv (sl.H3_78 c i arg1 harg1 arg2 harg2 arg3 harg3 arg4 harg4 arg5 harg5 x0 x1 x2) (mix R (fun b => less (rows x1) 256 (R b)) 5))
    (n : Fin 1024) (d : Fin 256) :
    matmul (DotDims.plain 1024 256 256) (some .fp32) (k0_pay448) (st_k0_t44 Variants.none c none i arg1 harg1 arg2 harg2 arg3 harg3 arg4 harg4 arg5 harg5 (k0_pay447 sl.v1800) k0_pay448 (st_k0_t43 Variants.none c none i arg1 harg1 arg2 harg2 arg3 harg3 arg4 harg4 arg5 harg5 (k0_pay447 sl.v1800) k0_pay448 (sl.v1991 c i arg1 harg1 arg2 harg2 arg3 harg3 arg4 harg4 arg5 harg5 x0 x1 x2) (harg3.unread x2) (k0_pay511, k0_pay512) (Scf.trips k0_t43_loop.lb k0_t43_loop.ub k0_t43_loop.st)).2 (harg2.unread x1) k0_pay517 (Scf.trips k0_t44_loop.lb k0_t44_loop.ub k0_t44_loop.st))
      (constant (Mat 1024 256) .f32 0x00000000#32) (ix2 n d)
      = up (rows x1) 256 (R 5) n.val d := by
  refine up_apply hot_up_256 (by decide) _ _ _ (fun r d => ?_) n d
  apply one_codes 4096 (T := k0_t43_loop.trips) (T' := k0_t44_loop.trips) (v := arg4.view) arg3 harg3 arg2 harg2 x2 x1 hL (by decide) hot_down_256 hx2
    k0_off43 k0_off43_inb k0_off44 k0_off44_inb (by decide) (by decide) (by decide) (by decide) (by decide)
    (ib := inb_block 5 (by decide)) (g := shapeCasts_S1x1024x256_S1024x256) (g3 := broadcasts_S256x1_S256x256) (hr := r.isLt)
  case l0 => rfl
  case l1 => exact fun k => (st_k0_t44_succ ..).trans (by unfold tripR_k0_t44 trip_k0_t44; rfl)
  case s1 => exact fun k => (st_k0_t43_succ ..).trans (by unfold tripR_k0_t43 trip_k0_t43; rfl)
  case s0 => rfl

/-- Batch 5 of the remainders after the scale of 256 places. -/
theorem rest_256_5 (hx2 : ∀ (k : Fin 8192) (c : Fin 256), x2 (ix2 k c) = unit (rows x1 k.val) c) {R : ℕ → ℕ → Row}
    (hL : Inv (sl.H3_78 c i arg1 harg1 arg2 harg2 arg3 harg3 arg4 harg4 arg5 harg5 x0 x1 x2) (mix R (fun b => less (rows x1) 256 (R b)) 5)) :
    Inv (sl.H3_79 c i arg1 harg1 arg2 harg2 arg3 harg3 arg4 harg4 arg5 harg5 x0 x1 x2) (mix R (fun b => less (rows x1) 256 (R b)) 6) :=
  Inv.sub (v := arg4.view) 5 (by decide) hL (ups_256_5 c i arg1 harg1 arg2 harg2 arg3 harg3 arg4 harg4 arg5 harg5 x0 x1 x2 hx2 hL)

/-- What the scale of 256 places adds to batch 6 of the sums and takes from batch 6 of the remainders. -/
theorem ups_256_6 (hx2 : ∀ (k : Fin 8192) (c : Fin 256), x2 (ix2 k c) = unit (rows x1 k.val) c) {R : ℕ → ℕ → Row}
    (hL : Inv (sl.H3_79 c i arg1 harg1 arg2 harg2 arg3 harg3 arg4 harg4 arg5 harg5 x0 x1 x2) (mix R (fun b => less (rows x1) 256 (R b)) 6))
    (n : Fin 1024) (d : Fin 256) :
    matmul (DotDims.plain 1024 256 256) (some .fp32) (k0_pay448) (st_k0_t46 Variants.none c none i arg1 harg1 arg2 harg2 arg3 harg3 arg4 harg4 arg5 harg5 (k0_pay447 sl.v1800) k0_pay448 (sl.r_114 c i arg1 harg1 arg2 harg2 arg3 harg3 arg4 harg4 arg5 harg5 x0 x1 x2) (sl.v2016 c i arg1 harg1 arg2 harg2 arg3 harg3 arg4 harg4 arg5 harg5 x0 x1 x2) (st_k0_t45 Variants.none c none i arg1 harg1 arg2 harg2 arg3 harg3 arg4 harg4 arg5 harg5 (k0_pay447 sl.v1800) k0_pay448 (sl.r_114 c i arg1 harg1 arg2 harg2 arg3 harg3 arg4 harg4 arg5 harg5 x0 x1 x2) (sl.v2016 c i arg1 harg1 arg2 harg2 arg3 harg3 arg4 harg4 arg5 harg5 x0 x1 x2) (sl.v2022 c i arg1 harg1 arg2 harg2 arg3 harg3 arg4 harg4 arg5 harg5 x0 x1 x2) (harg3.unread x2) (k0_pay523, k0_pay524) (Scf.trips k0_t45_loop.lb k0_t45_loop.ub k0_t45_loop.st)).2 (harg2.unread x1) k0_pay529 (Scf.trips k0_t46_loop.lb k0_t46_loop.ub k0_t46_loop.st))
      (constant (Mat 1024 256) .f32 0x00000000#32) (ix2 n d)
      = up (rows x1) 256 (R 6) n.val d := by
  refine up_apply hot_up_256 (by decide) _ _ _ (fun r d => ?_) n d
  apply one_codes 4096 (T := k0_t45_loop.trips) (T' := k0_t46_loop.trips) (v := arg4.view) arg3 harg3 arg2 harg2 x2 x1 hL (by decide) hot_down_256 hx2
    k0_off45 k0_off45_inb k0_off46 k0_off46_inb (by decide) (by decide) (by decide) (by decide) (by decide)
    (ib := inb_block 6 (by decide)) (g := shapeCasts_S1x1024x256_S1024x256) (g3 := broadcasts_S256x1_S256x256) (hr := r.isLt)
  case l0 => rfl
  case l1 => exact fun k => (st_k0_t46_succ ..).trans (by unfold tripR_k0_t46 trip_k0_t46; rfl)
  case s1 => exact fun k => (st_k0_t45_succ ..).trans (by unfold tripR_k0_t45 trip_k0_t45; rfl)
  case s0 => rfl

/-- Batch 6 of the remainders after the scale of 256 places. -/
theorem rest_256_6 (hx2 : ∀ (k : Fin 8192) (c : Fin 256), x2 (ix2 k c) = unit (rows x1 k.val) c) {R : ℕ → ℕ → Row}
    (hL : Inv (sl.H3_79 c i arg1 harg1 arg2 harg2 arg3 harg3 arg4 harg4 arg5 harg5 x0 x1 x2) (mix R (fun b => less (rows x1) 256 (R b)) 6)) :
    Inv (sl.H3_80 c i arg1 harg1 arg2 harg2 arg3 harg3 arg4 harg4 arg5 harg5 x0 x1 x2) (mix R (fun b => less (rows x1) 256 (R b)) 7) :=
  Inv.sub (v := arg4.view) 6 (by decide) hL (ups_256_6 c i arg1 harg1 arg2 harg2 arg3 harg3 arg4 harg4 arg5 harg5 x0 x1 x2 hx2 hL)

/-- What the scale of 256 places adds to batch 7 of the sums and takes from batch 7 of the remainders. -/
theorem ups_256_7 (hx2 : ∀ (k : Fin 8192) (c : Fin 256), x2 (ix2 k c) = unit (rows x1 k.val) c) {R : ℕ → ℕ → Row}
    (hL : Inv (sl.H3_80 c i arg1 harg1 arg2 harg2 arg3 harg3 arg4 harg4 arg5 harg5 x0 x1 x2) (mix R (fun b => less (rows x1) 256 (R b)) 7))
    (n : Fin 1024) (d : Fin 256) :
    matmul (DotDims.plain 1024 256 256) (some .fp32) (k0_pay448) (st_k0_t48 Variants.none c none i arg1 harg1 arg2 harg2 arg3 harg3 arg4 harg4 arg5 harg5 (k0_pay447 sl.v1800) k0_pay448 (sl.r_115 c i arg1 harg1 arg2 harg2 arg3 harg3 arg4 harg4 arg5 harg5 x0 x1 x2) (st_k0_t47 Variants.none c none i arg1 harg1 arg2 harg2 arg3 harg3 arg4 harg4 arg5 harg5 (k0_pay447 sl.v1800) k0_pay448 (sl.r_115 c i arg1 harg1 arg2 harg2 arg3 harg3 arg4 harg4 arg5 harg5 x0 x1 x2) (sl.v2053 c i arg1 harg1 arg2 harg2 arg3 harg3 arg4 harg4 arg5 harg5 x0 x1 x2) (harg3.unread x2) (k0_pay535, k0_pay536) (Scf.trips k0_t47_loop.lb k0_t47_loop.ub k0_t47_loop.st)).2 (harg2.unread x1) k0_pay541 (Scf.trips k0_t48_loop.lb k0_t48_loop.ub k0_t48_loop.st))
      (constant (Mat 1024 256) .f32 0x00000000#32) (ix2 n d)
      = up (rows x1) 256 (R 7) n.val d := by
  refine up_apply hot_up_256 (by decide) _ _ _ (fun r d => ?_) n d
  apply one_codes 4096 (T := k0_t47_loop.trips) (T' := k0_t48_loop.trips) (v := arg4.view) arg3 harg3 arg2 harg2 x2 x1 hL (by decide) hot_down_256 hx2
    k0_off47 k0_off47_inb k0_off48 k0_off48_inb (by decide) (by decide) (by decide) (by decide) (by decide)
    (ib := inb_block 7 (by decide)) (g := shapeCasts_S1x1024x256_S1024x256) (g3 := broadcasts_S256x1_S256x256) (hr := r.isLt)
  case l0 => rfl
  case l1 => exact fun k => (st_k0_t48_succ ..).trans (by unfold tripR_k0_t48 trip_k0_t48; rfl)
  case s1 => exact fun k => (st_k0_t47_succ ..).trans (by unfold tripR_k0_t47 trip_k0_t47; rfl)
  case s0 => rfl

/-- Batch 7 of the remainders after the scale of 256 places. -/
theorem rest_256_7 (hx2 : ∀ (k : Fin 8192) (c : Fin 256), x2 (ix2 k c) = unit (rows x1 k.val) c) {R : ℕ → ℕ → Row}
    (hL : Inv (sl.H3_80 c i arg1 harg1 arg2 harg2 arg3 harg3 arg4 harg4 arg5 harg5 x0 x1 x2) (mix R (fun b => less (rows x1) 256 (R b)) 7)) :
    Inv (kernelRun0_A c i arg1 harg1 arg2 harg2 arg3 harg3 arg4 harg4 arg5 harg5 x0 x1 x2).1 (mix R (fun b => less (rows x1) 256 (R b)) 8) :=
  Inv.sub (v := arg4.view) 7 (by decide) hL (ups_256_7 c i arg1 harg1 arg2 harg2 arg3 harg3 arg4 harg4 arg5 harg5 x0 x1 x2 hx2 hL)

end

end Cert.VQ

end
-- ==== Proof.Ten.lean ====
module

public import proofs.«01_k».proof.Proof.Large
public import proofs.«01_k».proof.Proof.Gen.KernelIdeal.Frame

@[expose] public section

noncomputable section

namespace Cert.VQ

open Idealize.ShloMosaic Idealize.ShloMosaic.ValueIdx Cert.KernelIdeal Cert.KernelIdeal.Gen Cert.KernelIdeal.Gen.kernelRun0_A

section
variable (c : Dev nD) (i : grid0.Coords)
  (arg1 : Memref sig .tc .vmem S8x1024x256 .f32) (harg1 : arg1.IsWhole) (arg2 : Memref sig .tc .vmem S8192x256 .f32) (harg2 : arg2.IsWhole)
  (arg3 : Memref sig .tc .vmem S8192x256 .bf16) (harg3 : arg3.IsWhole) (arg4 : Memref sig .tc .vmem S8x1024x256 .f32) (harg4 : arg4.IsWhole)
  (arg5 : Memref sig .tc .vmem S8x1024x256 .f32) (harg5 : arg5.IsWhole)
  (x0 : Vec Ideal S8x1024x256 .f32) (x1 : Vec Ideal S8192x256 .f32) (x2 : Vec Ideal S8192x256 .bf16)

/-- The sums after the first seven batches of the scale of 1 place. -/
theorem sum_1 (hx2 : ∀ (k : Fin 8192) (c : Fin 256), x2 (ix2 k c) = unit (rows x1 k.val) c) {R A : ℕ → ℕ → Row} (hR : Inv (sl.H3_1 c arg1 harg1 x0) R) (h : Inv sl.H4_1 A) :
    Inv (sl.H4_8 c i arg1 harg1 arg2 harg2 arg3 harg3 arg4 harg4 arg5 harg5 x0 x1 x2) (mix A (fun b => more (rows x1) 1 (R b) (A b)) 7) :=
  Inv.adds (P := 8) arg5.view (by decide) h (ups_1 c i arg1 harg1 arg2 harg2 arg3 harg3 arg4 harg4 arg5 harg5 x0 x1 x2 hx2 hR)

/-- The sums from the last batch of the scale of 1 places to the first seven batches of the scale of 4 places. -/
theorem sum_4 (hx2 : ∀ (k : Fin 8192) (c : Fin 256), x2 (ix2 k c) = unit (rows x1 k.val) c) {R' R A : ℕ → ℕ → Row} (hR' : Inv (sl.H3_1 c arg1 harg1 x0) R') (hR : Inv (sl.H3_9 c i arg1 harg1 arg2 harg2 arg3 harg3 arg4 harg4 arg5 harg5 x0 x1 x2) R)
    (h : Inv (sl.H4_8 c i arg1 harg1 arg2 harg2 arg3 harg3 arg4 harg4 arg5 harg5 x0 x1 x2) (mix A (fun b => more (rows x1) 1 (R' b) (A b)) 7)) :
    Inv (sl.H4_16 c i arg1 harg1 arg2 harg2 arg3 harg3 arg4 harg4 arg5 harg5 x0 x1 x2)
      (mix (fun b => more (rows x1) 1 (R' b) (A b)) (fun b => more (rows x1) 4 (R b) (more (rows x1) 1 (R' b) (A b))) 7) :=
  Inv.adds (P := 8) arg5.view (by decide) (Inv.done (Inv.add (v := arg5.view) 7 (by decide) h (ups_1 c i arg1 harg1 arg2 harg2 arg3 harg3 arg4 harg4 arg5 harg5 x0 x1 x2 hx2 hR' 7 (by decide) (by decide)))) (ups_4 c i arg1 harg1 arg2 harg2 arg3 harg3 arg4 harg4 arg5 harg5 x0 x1 x2 hx2 hR)

/-- The sums from the last batch of the scale of 4 places to the first seven batches of the scale of 9 places. -/
theorem sum_9 (hx2 : ∀ (k : Fin 8192) (c : Fin 256), x2 (ix2 k c) = unit (rows x1 k.val) c) {R' R A : ℕ → ℕ → Row} (hR' : Inv (sl.H3_9 c i arg1 harg1 arg2 harg2 arg3 harg3 arg4 harg4 arg5 harg5 x0 x1 x2) R') (hR : Inv (sl.H3_17 c i arg1 harg1 arg2 harg2 arg3 harg3 arg4 harg4 arg5 harg5 x0 x1 x2) R)
    (h : Inv (sl.H4_16 c i arg1 harg1 arg2 harg2 arg3 harg3 arg4 harg4 arg5 harg5 x0 x1 x2) (mix A (fun b => more (rows x1) 4 (R' b) (A b)) 7)) :
    Inv (sl.H4_24 c i arg1 harg1 arg2 harg2 arg3 harg3 arg4 harg4 arg5 harg5 x0 x1 x2)
      (mix (fun b => more (rows x1) 4 (R' b) (A b)) (fun b => more (rows x1) 9 (R b) (more (rows x1) 4 (R' b) (A b))) 7) :=
  Inv.adds (P := 16) arg5.view (by decide) (Inv.done (Inv.add (v := arg5.view) 7 (by decide) h (ups_4 c i arg1 harg1 arg2 harg2 arg3 harg3 arg4 harg4 arg5 harg5 x0 x1 x2 hx2 hR' 7 (by decide) (by decide)))) (ups_9 c i arg1 harg1 arg2 harg2 arg3 harg3 arg4 harg4 arg5 harg5 x0 x1 x2 hx2 hR)

/-- The sums from the last batch of the scale of 9 places to the first seven batches of the scale of 16 places. -/
theorem sum_16 (hx2 : ∀ (k : Fin 8192) (c : Fin 256), x2 (ix2 k c) = unit (rows x1 k.val) c) {R' R A : ℕ → ℕ → Row} (hR' : Inv (sl.H3_17 c i arg1 harg1 arg2 harg2 arg3 harg3 arg4 harg4 arg5 harg5 x0 x1 x2) R') (hR : Inv (sl.H3_25 c i arg1 harg1 arg2 harg2 arg3 harg3 arg4 harg4 arg5 harg5 x0 x1 x2) R)
    (h : Inv (sl.H4_24 c i arg1 harg1 arg2 harg2 arg3 harg3 arg4 harg4 arg5 harg5 x0 x1 x2) (mix A (fun b => more (rows x1) 9 (R' b) (A b)) 7)) :
    Inv (sl.H4_32 c i arg1 harg1 arg2 harg2 arg3 harg3 arg4 harg4 arg5 harg5 x0 x1 x2)
      (mix (fun b => more (rows x1) 9 (R' b) (A b)) (fun b => more (rows x1) 16 (R b) (more (rows x1) 9 (R' b) (A b))) 7) :=
  Inv.adds (P := 16) arg5.view (by decide) (Inv.done (Inv.add (v := arg5.view) 7 (by decide) h (ups_9 c i arg1 harg1 arg2 harg2 arg3 harg3 arg4 harg4 arg5 harg5 x0 x1 x2 hx2 hR' 7 (by decide) (by decide)))) (ups_16 c i arg1 harg1 arg2 harg2 arg3 harg3 arg4 harg4 arg5 harg5 x0 x1 x2 hx2 hR)

/-- The sums from the last batch of the scale of 16 places to the first seven batches of the scale of 25 places. -/
theorem sum_25 (hx2 : ∀ (k : Fin 8192) (c : Fin 256), x2 (ix2 k c) = unit (rows x1 k.val) c) {R' R A : ℕ → ℕ → Row} (hR' : Inv (sl.H3_25 c i arg1 harg1 arg2 harg2 arg3 harg3 arg4 harg4 arg5 harg5 x0 x1 x2) R') (hR : Inv (sl.H3_33 c i arg1 harg1 arg2 harg2 arg3 harg3 arg4 harg4 arg5 harg5 x0 x1 x2) R)
    (h : Inv (sl.H4_32 c i arg1 harg1 arg2 harg2 arg3 harg3 arg4 harg4 arg5 harg5 x0 x1 x2) (mix A (fun b => more (rows x1) 16 (R' b) (A b)) 7)) :
    Inv (sl.H4_40 c i arg1 harg1 arg2 harg2 arg3 harg3 arg4 harg4 arg5 harg5 x0 x1 x2)
      (mix (fun b => more (rows x1) 16 (R' b) (A b)) (fun b => more (rows x1) 25 (R b) (more (rows x1) 16 (R' b) (A b))) 7) :=
  Inv.adds (P := 32) arg5.view (by decide) (Inv.done (Inv.add (v := arg5.view) 7 (by decide) h (ups_16 c i arg1 harg1 arg2 harg2 arg3 harg3 arg4 harg4 arg5 harg5 x0 x1 x2 hx2 hR' 7 (by decide) (by decide)))) (ups_25 c i arg1 harg1 arg2 harg2 arg3 harg3 arg4 harg4 arg5 harg5 x0 x1 x2 hx2 hR)

/-- The sums from the last batch of the scale of 25 places to the first seven batches of the scale of 36 places. -/
theorem sum_36 (hx2 : ∀ (k : Fin 8192) (c : Fin 256), x2 (ix2 k c) = unit (rows x1 k.val) c) {R' R A : ℕ → ℕ → Row} (hR' : Inv (sl.H3_33 c i arg1 harg1 arg2 harg2 arg3 harg3 arg4 harg4 arg5 harg5 x0 x1 x2) R') (hR : Inv (sl.H3_41 c i arg1 harg1 arg2 harg2 arg3 harg3 arg4 harg4 arg5 harg5 x0 x1 x2) R)
    (h : Inv (sl.H4_40 c i arg1 harg1 arg2 harg2 arg3 harg3 arg4 harg4 arg5 harg5 x0 x1 x2) (mix A (fun b => more (rows x1) 25 (R' b) (A b)) 7)) :
    Inv (sl.H4_48 c i arg1 harg1 arg2 harg2 arg3 harg3 arg4 harg4 arg5 harg5 x0 x1 x2)
      (mix (fun b => more (rows x1) 25 (R' b) (A b)) (fun b => more (rows x1) 36 (R b) (more (rows x1) 25 (R' b) (A b))) 7) :=
  Inv.adds (P := 40) arg5.view (by decide) (Inv.done (Inv.add (v := arg5.view) 7 (by decide) h (ups_25 c i arg1 harg1 arg2 harg2 arg3 harg3 arg4 harg4 arg5 harg5 x0 x1 x2 hx2 hR' 7 (by decide) (by decide)))) (ups_36 c i arg1 harg1 arg2 harg2 arg3 harg3 arg4 harg4 arg5 harg5 x0 x1 x2 hx2 hR)

/-- The sums from the last batch of the scale of 36 places to the first seven batches of the scale of 64 places. -/
theorem sum_64 (hx2 : ∀ (k : Fin 8192) (c : Fin 256), x2 (ix2 k c) = unit (rows x1 k.val) c) {R' R A : ℕ → ℕ → Row} (hR' : Inv (sl.H3_41 c i arg1 harg1 arg2 harg2 arg3 harg3 arg4 harg4 arg5 harg5 x0 x1 x2) R') (hR : Inv (sl.H3_49 c i arg1 harg1 arg2 harg2 arg3 harg3 arg4 harg4 arg5 harg5 x0 x1 x2) R)
    (h : Inv (sl.H4_48 c i arg1 harg1 arg2 harg2 arg3 harg3 arg4 harg4 arg5 harg5 x0 x1 x2) (mix A (fun b => more (rows x1) 36 (R' b) (A b)) 7)) :
    Inv (sl.H4_56 c i arg1 harg1 arg2 harg2 arg3 harg3 arg4 harg4 arg5 harg5 x0 x1 x2)
      (mix (fun b => more (rows x1) 36 (R' b) (A b)) (fun b => more (rows x1) 64 (R b) (more (rows x1) 36 (R' b) (A b))) 7) :=
  Inv.adds (P := 64) arg5.view (by decide) (Inv.done (Inv.add (v := arg5.view) 7 (by decide) h (ups_36 c i arg1 harg1 arg2 harg2 arg3 harg3 arg4 harg4 arg5 harg5 x0 x1 x2 hx2 hR' 7 (by decide) (by decide)))) (ups_64 c i arg1 harg1 arg2 harg2 arg3 harg3 arg4 harg4 arg5 harg5 x0 x1 x2 hx2 hR)

/-- The sums from the last batch of the scale of 64 places to the first seven batches of the scale of 100 places. -/
theorem sum_100 (hx2 : ∀ (k : Fin 8192) (c : Fin 256), x2 (ix2 k c) = unit (rows x1 k.val) c) {R' R A : ℕ → ℕ → Row} (hR' : Inv (sl.H3_49 c i arg1 harg1 arg2 harg2 arg3 harg3 arg4 harg4 arg5 harg5 x0 x1 x2) R') (hR : Inv (sl.H3_57 c i arg1 harg1 arg2 harg2 arg3 harg3 arg4 harg4 arg5 harg5 x0 x1 x2) R)
    (h : Inv (sl.H4_56 c i arg1 harg1 arg2 harg2 arg3 harg3 arg4 harg4 arg5 harg5 x0 x1 x2) (mix A (fun b => more (rows x1) 64 (R' b) (A b)) 7)) :
    Inv (sl.H4_64 c i arg1 harg1 arg2 harg2 arg3 harg3 arg4 harg4 arg5 harg5 x0 x1 x2)
      (mix (fun b => more (rows x1) 64 (R' b) (A b)) (fun b => more (rows x1) 100 (R b) (more (rows x1) 64 (R' b) (A b))) 7) :=
  Inv.adds (P := 104) arg5.view (by decide) (Inv.done (Inv.add (v := arg5.view) 7 (by decide) h (ups_64 c i arg1 harg1 arg2 harg2 arg3 harg3 arg4 harg4 arg5 harg5 x0 x1 x2 hx2 hR' 7 (by decide) (by decide)))) (ups_100 c i arg1 harg1 arg2 harg2 arg3 harg3 arg4 harg4 arg5 harg5 x0 x1 x2 hx2 hR)

/-- Before the first scale the remainders are the input. -/
theorem start_rest : Inv (sl.H3_1 c arg1 harg1 x0) (fun b => (run (rows x1) (slab x0 b) 0).1) := fun b n d => by
  have e : ix3 b n d = (Rect.unit (s := Big) ![0, 0, 0] Big.size inb_S8x1024x256_S8x1024x256_0_0_0).emb (ix3 b n d) := (idx_all b n d).symm
  refine (congrArg _ e).trans ((View.canon_cons_emb _ _ [] _).trans ?_)
  refine (harg1.readAt_unread (Val := Elt Ideal) x0 _ _).trans ?_
  refine (congrArg x0 (idx_all b n d)).trans ?_
  exact (slab_apply x0 b n d).symm

/-- Before the first scale the sums are zero. -/
theorem start_sum : Inv (sl.H4_1 (F := Ideal)) (fun b => (run (rows x1) (slab x0 b) 0).2) := fun b n d => by
  have e : ix3 b n d = (Rect.unit (s := Big) ![0, 0, 0] Big.size inb_S8x1024x256_S8x1024x256_0_0_0).emb (ix3 b n d) := (idx_all b n d).symm
  refine (congrArg _ e).trans ((View.canon_cons_emb _ _ [] _).trans ?_)
  exact Ideal.ofBits_zero_f32

/-- The remainders after the first scale. -/
theorem rest_upto_1 (hx2 : ∀ (k : Fin 8192) (c : Fin 256), x2 (ix2 k c) = unit (rows x1 k.val) c) :
    Inv (sl.H3_9 c i arg1 harg1 arg2 harg2 arg3 harg3 arg4 harg4 arg5 harg5 x0 x1 x2) (fun b => (run (rows x1) (slab x0 b) 1).1) :=
  rest_1 c i arg1 harg1 arg2 harg2 arg3 harg3 arg4 harg4 arg5 harg5 x0 x1 x2 hx2 (start_rest c arg1 harg1 x0 x1)

/-- The remainders after the first 2 scales. -/
theorem rest_upto_2 (hx2 : ∀ (k : Fin 8192) (c : Fin 256), x2 (ix2 k c) = unit (rows x1 k.val) c) :
    Inv (sl.H3_17 c i arg1 harg1 arg2 harg2 arg3 harg3 arg4 harg4 arg5 harg5 x0 x1 x2) (fun b => (run (rows x1) (slab x0 b) 2).1) :=
  rest_4 c i arg1 harg1 arg2 harg2 arg3 harg3 arg4 harg4 arg5 harg5 x0 x1 x2 hx2 (rest_upto_1 c i arg1 harg1 arg2 harg2 arg3 harg3 arg4 harg4 arg5 harg5 x0 x1 x2 hx2)

/-- The remainders after the first 3 scales. -/
theorem rest_upto_3 (hx2 : ∀ (k : Fin 8192) (c : Fin 256), x2 (ix2 k c) = unit (rows x1 k.val) c) :
    Inv (sl.H3_25 c i arg1 harg1 arg2 harg2 arg3 harg3 arg4 harg4 arg5 harg5 x0 x1 x2) (fun b => (run (rows x1) (slab x0 b) 3).1) :=
  rest_9 c i arg1 harg1 arg2 harg2 arg3 harg3 arg4 harg4 arg5 harg5 x0 x1 x2 hx2 (rest_upto_2 c i arg1 harg1 arg2 harg2 arg3 harg3 arg4 harg4 arg5 harg5 x0 x1 x2 hx2)

/-- The remainders after the first 4 scales. -/
theorem rest_upto_4 (hx2 : ∀ (k : Fin 8192) (c : Fin 256), x2 (ix2 k c) = unit (rows x1 k.val) c) :
    Inv (sl.H3_33 c i arg1 harg1 arg2 harg2 arg3 harg3 arg4 harg4 arg5 harg5 x0 x1 x2) (fun b => (run (rows x1) (slab x0 b) 4).1) :=
  rest_16 c i arg1 harg1 arg2 harg2 arg3 harg3 arg4 harg4 arg5 harg5 x0 x1 x2 hx2 (rest_upto_3 c i arg1 harg1 arg2 harg2 arg3 harg3 arg4 harg4 arg5 harg5 x0 x1 x2 hx2)

/-- The remainders after the first 5 scales. -/
theorem rest_upto_5 (hx2 : ∀ (k : Fin 8192) (c : Fin 256), x2 (ix2 k c) = unit (rows x1 k.val) c) :
    Inv (sl.H3_41 c i arg1 harg1 arg2 harg2 arg3 harg3 arg4 harg4 arg5 harg5 x0 x1 x2) (fun b => (run (rows x1) (slab x0 b) 5).1) :=
  rest_25 c i arg1 harg1 arg2 harg2 arg3 harg3 arg4 harg4 arg5 harg5 x0 x1 x2 hx2 (rest_upto_4 c i arg1 harg1 arg2 harg2 arg3 harg3 arg4 harg4 arg5 harg5 x0 x1 x2 hx2)

/-- The remainders after the first 6 scales. -/
theorem rest_upto_6 (hx2 : ∀ (k : Fin 8192) (c : Fin 256), x2 (ix2 k c) = unit (rows x1 k.val) c) :
    Inv (sl.H3_49 c i arg1 harg1 arg2 harg2 arg3 harg3 arg4 harg4 arg5 harg5 x0 x1 x2) (fun b => (run (rows x1) (slab x0 b) 6).1) :=
  rest_36 c i arg1 harg1 arg2 harg2 arg3 harg3 arg4 harg4 arg5 harg5 x0 x1 x2 hx2 (rest_upto_5 c i arg1 harg1 arg2 harg2 arg3 harg3 arg4 harg4 arg5 harg5 x0 x1 x2 hx2)

/-- The remainders after the first 7 scales. -/
theorem rest_upto_7 (hx2 : ∀ (k : Fin 8192) (c : Fin 256), x2 (ix2 k c) = unit (rows x1 k.val) c) :
    Inv (sl.H3_57 c i arg1 harg1 arg2 harg2 arg3 harg3 arg4 harg4 arg5 harg5 x0 x1 x2) (fun b => (run (rows x1) (slab x0 b) 7).1) :=
  rest_64 c i arg1 harg1 arg2 harg2 arg3 harg3 arg4 harg4 arg5 harg5 x0 x1 x2 hx2 (rest_upto_6 c i arg1 harg1 arg2 harg2 arg3 harg3 arg4 harg4 arg5 harg5 x0 x1 x2 hx2)

/-- The remainders after the first 8 scales. -/
theorem rest_upto_8 (hx2 : ∀ (k : Fin 8192) (c : Fin 256), x2 (ix2 k c) = unit (rows x1 k.val) c) :
    Inv (sl.H3_65 c i arg1 harg1 arg2 harg2 arg3 harg3 arg4 harg4 arg5 harg5 x0 x1 x2) (fun b => (run (rows x1) (slab x0 b) 8).1) :=
  rest_100 c i arg1 harg1 arg2 harg2 arg3 harg3 arg4 harg4 arg5 harg5 x0 x1 x2 hx2 (rest_upto_7 c i arg1 harg1 arg2 harg2 arg3 harg3 arg4 harg4 arg5 harg5 x0 x1 x2 hx2)

/-- The sums after the first scale, but for the last batch, which the next scale's stores complete. -/
theorem sum_upto_1 (hx2 : ∀ (k : Fin 8192) (c : Fin 256), x2 (ix2 k c) = unit (rows x1 k.val) c) :
    Inv (sl.H4_8 c i arg1 harg1 arg2 harg2 arg3 harg3 arg4 harg4 arg5 harg5 x0 x1 x2)
      (mix (fun b => (run (rows x1) (slab x0 b) 0).2) (fun b => (run (rows x1) (slab x0 b) 1).2) 7) :=
  sum_1 c i arg1 harg1 arg2 harg2 arg3 harg3 arg4 harg4 arg5 harg5 x0 x1 x2 hx2 (start_rest c arg1 harg1 x0 x1) (start_sum x0 x1)

/-- The sums after the first 2 scales, but for the last batch, which the next scale's stores complete. -/
theorem sum_upto_2 (hx2 : ∀ (k : Fin 8192) (c : Fin 256), x2 (ix2 k c) = unit (rows x1 k.val) c) :
    Inv (sl.H4_16 c i arg1 harg1 arg2 harg2 arg3 harg3 arg4 harg4 arg5 harg5 x0 x1 x2)
      (mix (fun b => (run (rows x1) (slab x0 b) 1).2) (fun b => (run (rows x1) (slab x0 b) 2).2) 7) :=
  sum_4 c i arg1 harg1 arg2 harg2 arg3 harg3 arg4 harg4 arg5 harg5 x0 x1 x2 hx2 (start_rest c arg1 harg1 x0 x1) (rest_upto_1 c i arg1 harg1 arg2 harg2 arg3 harg3 arg4 harg4 arg5 harg5 x0 x1 x2 hx2) (sum_upto_1 c i arg1 harg1 arg2 harg2 arg3 harg3 arg4 harg4 arg5 harg5 x0 x1 x2 hx2)

/-- The sums after the first 3 scales, but for the last batch, which the next scale's stores complete. -/
theorem sum_upto_3 (hx2 : ∀ (k : Fin 8192) (c : Fin 256), x2 (ix2 k c) = unit (rows x1 k.val) c) :
    Inv (sl.H4_24 c i arg1 harg1 arg2 harg2 arg3 harg3 arg4 harg4 arg5 harg5 x0 x1 x2)
      (mix (fun b => (run (rows x1) (slab x0 b) 2).2) (fun b => (run (rows x1) (slab x0 b) 3).2) 7) :=
  sum_9 c i arg1 harg1 arg2 harg2 arg3 harg3 arg4 harg4 arg5 harg5 x0 x1 x2 hx2 (rest_upto_1 c i arg1 harg1 arg2 harg2 arg3 harg3 arg4 harg4 arg5 harg5 x0 x1 x2 hx2) (rest_upto_2 c i arg1 harg1 arg2 harg2 arg3 harg3 arg4 harg4 arg5 harg5 x0 x1 x2 hx2) (sum_upto_2 c i arg1 harg1 arg2 harg2 arg3 harg3 arg4 harg4 arg5 harg5 x0 x1 x2 hx2)

/-- The sums after the first 4 scales, but for the last batch, which the next scale's stores complete. -/
theorem sum_upto_4 (hx2 : ∀ (k : Fin 8192) (c : Fin 256), x2 (ix2 k c) = unit (rows x1 k.val) c) :
    Inv (sl.H4_32 c i arg1 harg1 arg2 harg2 arg3 harg3 arg4 harg4 arg5 harg5 x0 x1 x2)
      (mix (fun b => (run (rows x1) (slab x0 b) 3).2) (fun b => (run (rows x1) (slab x0 b) 4).2) 7) :=
  sum_16 c i arg1 harg1 arg2 harg2 arg3 harg3 arg4 harg4 arg5 harg5 x0 x1 x2 hx2 (rest_upto_2 c i arg1 harg1 arg2 harg2 arg3 harg3 arg4 harg4 arg5 harg5 x0 x1 x2 hx2) (rest_upto_3 c i arg1 harg1 arg2 harg2 arg3 harg3 arg4 harg4 arg5 harg5 x0 x1 x2 hx2) (sum_upto_3 c i arg1 harg1 arg2 harg2 arg3 harg3 arg4 harg4 arg5 harg5 x0 x1 x2 hx2)

/-- The sums after the first 5 scales, but for the last batch, which the next scale's stores complete. -/
theorem sum_upto_5 (hx2 : ∀ (k : Fin 8192) (c : Fin 256), x2 (ix2 k c) = unit (rows x1 k.val) c) :
    Inv (sl.H4_40 c i arg1 harg1 arg2 harg2 arg3 harg3 arg4 harg4 arg5 harg5 x0 x1 x2)
      (mix (fun b => (run (rows x1) (slab x0 b) 4).2) (fun b => (run (rows x1) (slab x0 b) 5).2) 7) :=
  sum_25 c i arg1 harg1 arg2 harg2 arg3 harg3 arg4 harg4 arg5 harg5 x0 x1 x2 hx2 (rest_upto_3 c i arg1 harg1 arg2 harg2 arg3 harg3 arg4 harg4 arg5 harg5 x0 x1 x2 hx2) (rest_upto_4 c i arg1 harg1 arg2 harg2 arg3 harg3 arg4 harg4 arg5 harg5 x0 x1 x2 hx2) (sum_upto_4 c i arg1 harg1 arg2 harg2 arg3 harg3 arg4 harg4 arg5 harg5 x0 x1 x2 hx2)

/-- The sums after the first 6 scales, but for the last batch, which the next scale's stores complete. -/
theorem sum_upto_6 (hx2 : ∀ (k : Fin 8192) (c : Fin 256), x2 (ix2 k c) = unit (rows x1 k.val) c) :
    Inv (sl.H4_48 c i arg1 harg1 arg2 harg2 arg3 harg3 arg4 harg4 arg5 harg5 x0 x1 x2)
      (mix (fun b => (run (rows x1) (slab x0 b) 5).2) (fun b => (run (rows x1) (slab x0 b) 6).2) 7) :=
  sum_36 c i arg1 harg1 arg2 harg2 arg3 harg3 arg4 harg4 arg5 harg5 x0 x1 x2 hx2 (rest_upto_4 c i arg1 harg1 arg2 harg2 arg3 harg3 arg4 harg4 arg5 harg5 x0 x1 x2 hx2) (rest_upto_5 c i arg1 harg1 arg2 harg2 arg3 harg3 arg4 harg4 arg5 harg5 x0 x1 x2 hx2) (sum_upto_5 c i arg1 harg1 arg2 harg2 arg3 harg3 arg4 harg4 arg5 harg5 x0 x1 x2 hx2)

/-- The sums after the first 7 scales, but for the last batch, which the next scale's stores complete. -/
theorem sum_upto_7 (hx2 : ∀ (k : Fin 8192) (c : Fin 256), x2 (ix2 k c) = unit (rows x1 k.val) c) :
    Inv (sl.H4_56 c i arg1 harg1 arg2 harg2 arg3 harg3 arg4 harg4 arg5 harg5 x0 x1 x2)
      (mix (fun b => (run (rows x1) (slab x0 b) 6).2) (fun b => (run (rows x1) (slab x0 b) 7).2) 7) :=
  sum_64 c i arg1 harg1 arg2 harg2 arg3 harg3 arg4 harg4 arg5 harg5 x0 x1 x2 hx2 (rest_upto_5 c i arg1 harg1 arg2 harg2 arg3 harg3 arg4 harg4 arg5 harg5 x0 x1 x2 hx2) (rest_upto_6 c i arg1 harg1 arg2 harg2 arg3 harg3 arg4 harg4 arg5 harg5 x0 x1 x2 hx2) (sum_upto_6 c i arg1 harg1 arg2 harg2 arg3 harg3 arg4 harg4 arg5 harg5 x0 x1 x2 hx2)

/-- The sums after the first 8 scales, but for the last batch, which the next scale's stores complete. -/
theorem sum_upto_8 (hx2 : ∀ (k : Fin 8192) (c : Fin 256), x2 (ix2 k c) = unit (rows x1 k.val) c) :
    Inv (sl.H4_64 c i arg1 harg1 arg2 harg2 arg3 harg3 arg4 harg4 arg5 harg5 x0 x1 x2)
      (mix (fun b => (run (rows x1) (slab x0 b) 7).2) (fun b => (run (rows x1) (slab x0 b) 8).2) 7) :=
  sum_100 c i arg1 harg1 arg2 harg2 arg3 harg3 arg4 harg4 arg5 harg5 x0 x1 x2 hx2 (rest_upto_6 c i arg1 harg1 arg2 harg2 arg3 harg3 arg4 harg4 arg5 harg5 x0 x1 x2 hx2) (rest_upto_7 c i arg1 harg1 arg2 harg2 arg3 harg3 arg4 harg4 arg5 harg5 x0 x1 x2 hx2) (sum_upto_7 c i arg1 harg1 arg2 harg2 arg3 harg3 arg4 harg4 arg5 harg5 x0 x1 x2 hx2)

/-- The remainders when the ninth scale has run on no batch. -/
theorem part_169_0 (hx2 : ∀ (k : Fin 8192) (c : Fin 256), x2 (ix2 k c) = unit (rows x1 k.val) c) :
    Inv (sl.H3_65 c i arg1 harg1 arg2 harg2 arg3 harg3 arg4 harg4 arg5 harg5 x0 x1 x2) (mix (fun b => (run (rows x1) (slab x0 b) 8).1) (fun b => (run (rows x1) (slab x0 b) 9).1) 0) :=
  Inv.start (rest_upto_8 c i arg1 harg1 arg2 harg2 arg3 harg3 arg4 harg4 arg5 harg5 x0 x1 x2 hx2) _

/-- The remainders when the ninth scale has run on one batch. -/
theorem part_169_1 (hx2 : ∀ (k : Fin 8192) (c : Fin 256), x2 (ix2 k c) = unit (rows x1 k.val) c) :
    Inv (sl.H3_66 c i arg1 harg1 arg2 harg2 arg3 harg3 arg4 harg4 arg5 harg5 x0 x1 x2) (mix (fun b => (run (rows x1) (slab x0 b) 8).1) (fun b => (run (rows x1) (slab x0 b) 9).1) 1) :=
  rest_169_0 c i arg1 harg1 arg2 harg2 arg3 harg3 arg4 harg4 arg5 harg5 x0 x1 x2 hx2 (part_169_0 c i arg1 harg1 arg2 harg2 arg3 harg3 arg4 harg4 arg5 harg5 x0 x1 x2 hx2)

/-- The remainders when the ninth scale has run on 2 batches. -/
theorem part_169_2 (hx2 : ∀ (k : Fin 8192) (c : Fin 256), x2 (ix2 k c) = unit (rows x1 k.val) c) :
    Inv (sl.H3_67 c i arg1 harg1 arg2 harg2 arg3 harg3 arg4 harg4 arg5 harg5 x0 x1 x2) (mix (fun b => (run (rows x1) (slab x0 b) 8).1) (fun b => (run (rows x1) (slab x0 b) 9).1) 2) :=
  rest_169_1 c i arg1 harg1 arg2 harg2 arg3 harg3 arg4 harg4 arg5 harg5 x0 x1 x2 hx2 (part_169_1 c i arg1 harg1 arg2 harg2 arg3 harg3 arg4 harg4 arg5 harg5 x0 x1 x2 hx2)

/-- The remainders when the ninth scale has run on 3 batches. -/
theorem part_169_3 (hx2 : ∀ (k : Fin 8192) (c : Fin 256), x2 (ix2 k c) = unit (rows x1 k.val) c) :
    Inv (sl.H3_68 c i arg1 harg1 arg2 harg2 arg3 harg3 arg4 harg4 arg5 harg5 x0 x1 x2) (mix (fun b => (run (rows x1) (slab x0 b) 8).1) (fun b => (run (rows x1) (slab x0 b) 9).1) 3) :=
  rest_169_2 c i arg1 harg1 arg2 harg2 arg3 harg3 arg4 harg4 arg5 harg5 x0 x1 x2 hx2 (part_169_2 c i arg1 harg1 arg2 harg2 arg3 harg3 arg4 harg4 arg5 harg5 x0 x1 x2 hx2)

/-- The remainders when the ninth scale has run on 4 batches. -/
theorem part_169_4 (hx2 : ∀ (k : Fin 8192) (c : Fin 256), x2 (ix2 k c) = unit (rows x1 k.val) c) :
    Inv (sl.H3_69 c i arg1 harg1 arg2 harg2 arg3 harg3 arg4 harg4 arg5 harg5 x0 x1 x2) (mix (fun b => (run (rows x1) (slab x0 b) 8).1) (fun b => (run (rows x1) (slab x0 b) 9).1) 4) :=
  rest_169_3 c i arg1 harg1 arg2 harg2 arg3 harg3 arg4 harg4 arg5 harg5 x0 x1 x2 hx2 (part_169_3 c i arg1 harg1 arg2 harg2 arg3 harg3 arg4 harg4 arg5 harg5 x0 x1 x2 hx2)

/-- The remainders when the ninth scale has run on 5 batches. -/
theorem part_169_5 (hx2 : ∀ (k : Fin 8192) (c : Fin 256), x2 (ix2 k c) = unit (rows x1 k.val) c) :
    Inv (sl.H3_70 c i arg1 harg1 arg2 harg2 arg3 harg3 arg4 harg4 arg5 harg5 x0 x1 x2) (mix (fun b => (run (rows x1) (slab x0 b) 8).1) (fun b => (run (rows x1) (slab x0 b) 9).1) 5) :=
  rest_169_4 c i arg1 harg1 arg2 harg2 arg3 harg3 arg4 harg4 arg5 harg5 x0 x1 x2 hx2 (part_169_4 c i arg1 harg1 arg2 harg2 arg3 harg3 arg4 harg4 arg5 harg5 x0 x1 x2 hx2)

/-- The remainders when the ninth scale has run on 6 batches. -/
theorem part_169_6 (hx2 : ∀ (k : Fin 8192) (c : Fin 256), x2 (ix2 k c) = unit (rows x1 k.val) c) :
    Inv (sl.H3_71 c i arg1 harg1 arg2 harg2 arg3 harg3 arg4 harg4 arg5 harg5 x0 x1 x2) (mix (fun b => (run (rows x1) (slab x0 b) 8).1) (fun b => (run (rows x1) (slab x0 b) 9).1) 6) :=
  rest_169_5 c i arg1 harg1 arg2 harg2 arg3 harg3 arg4 harg4 arg5 harg5 x0 x1 x2 hx2 (part_169_5 c i arg1 harg1 arg2 harg2 arg3 harg3 arg4 harg4 arg5 harg5 x0 x1 x2 hx2)

/-- The remainders when the ninth scale has run on 7 batches. -/
theorem part_169_7 (hx2 : ∀ (k : Fin 8192) (c : Fin 256), x2 (ix2 k c) = unit (rows x1 k.val) c) :
    Inv (sl.H3_72 c i arg1 harg1 arg2 harg2 arg3 harg3 arg4 harg4 arg5 harg5 x0 x1 x2) (mix (fun b => (run (rows x1) (slab x0 b) 8).1) (fun b => (run (rows x1) (slab x0 b) 9).1) 7) :=
  rest_169_6 c i arg1 harg1 arg2 harg2 arg3 harg3 arg4 harg4 arg5 harg5 x0 x1 x2 hx2 (part_169_6 c i arg1 harg1 arg2 harg2 arg3 harg3 arg4 harg4 arg5 harg5 x0 x1 x2 hx2)

/-- The remainders when the ninth scale has run on 8 batches. -/
theorem part_169_8 (hx2 : ∀ (k : Fin 8192) (c : Fin 256), x2 (ix2 k c) = unit (rows x1 k.val) c) :
    Inv (sl.H3_73 c i arg1 harg1 arg2 harg2 arg3 harg3 arg4 harg4 arg5 harg5 x0 x1 x2) (mix (fun b => (run (rows x1) (slab x0 b) 8).1) (fun b => (run (rows x1) (slab x0 b) 9).1) 8) :=
  rest_169_7 c i arg1 harg1 arg2 harg2 arg3 harg3 arg4 harg4 arg5 harg5 x0 x1 x2 hx2 (part_169_7 c i arg1 harg1 arg2 harg2 arg3 harg3 arg4 harg4 arg5 harg5 x0 x1 x2 hx2)

/-- The remainders when the tenth scale has run on no batch. -/
theorem part_256_0 (hx2 : ∀ (k : Fin 8192) (c : Fin 256), x2 (ix2 k c) = unit (rows x1 k.val) c) :
    Inv (sl.H3_73 c i arg1 harg1 arg2 harg2 arg3 harg3 arg4 harg4 arg5 harg5 x0 x1 x2) (mix (fun b => (run (rows x1) (slab x0 b) 9).1) (fun b => (run (rows x1) (slab x0 b) 10).1) 0) :=
  Inv.start (Inv.done (part_169_8 c i arg1 harg1 arg2 harg2 arg3 harg3 arg4 harg4 arg5 harg5 x0 x1 x2 hx2)) _

/-- The remainders when the tenth scale has run on one batch. -/
theorem part_256_1 (hx2 : ∀ (k : Fin 8192) (c : Fin 256), x2 (ix2 k c) = unit (rows x1 k.val) c) :
    Inv (sl.H3_74 c i arg1 harg1 arg2 harg2 arg3 harg3 arg4 harg4 arg5 harg5 x0 x1 x2) (mix (fun b => (run (rows x1) (slab x0 b) 9).1) (fun b => (run (rows x1) (slab x0 b) 10).1) 1) :=
  rest_256_0 c i arg1 harg1 arg2 harg2 arg3 harg3 arg4 harg4 arg5 harg5 x0 x1 x2 hx2 (part_256_0 c i arg1 harg1 arg2 harg2 arg3 harg3 arg4 harg4 arg5 harg5 x0 x1 x2 hx2)

/-- The remainders when the tenth scale has run on 2 batches. -/
theorem part_256_2 (hx2 : ∀ (k : Fin 8192) (c : Fin 256), x2 (ix2 k c) = unit (rows x1 k.val) c) :
    Inv (sl.H3_75 c i arg1 harg1 arg2 harg2 arg3 harg3 arg4 harg4 arg5 harg5 x0 x1 x2) (mix (fun b => (run (rows x1) (slab x0 b) 9).1) (fun b => (run (rows x1) (slab x0 b) 10).1) 2) :=
  rest_256_1 c i arg1 harg1 arg2 harg2 arg3 harg3 arg4 harg4 arg5 harg5 x0 x1 x2 hx2 (part_256_1 c i arg1 harg1 arg2 harg2 arg3 harg3 arg4 harg4 arg5 harg5 x0 x1 x2 hx2)

/-- The remainders when the tenth scale has run on 3 batches. -/
theorem part_256_3 (hx2 : ∀ (k : Fin 8192) (c : Fin 256), x2 (ix2 k c) = unit (rows x1 k.val) c) :
    Inv (sl.H3_76 c i arg1 harg1 arg2 harg2 arg3 harg3 arg4 harg4 arg5 harg5 x0 x1 x2) (mix (fun b => (run (rows x1) (slab x0 b) 9).1) (fun b => (run (rows x1) (slab x0 b) 10).1) 3) :=
  rest_256_2 c i arg1 harg1 arg2 harg2 arg3 harg3 arg4 harg4 arg5 harg5 x0 x1 x2 hx2 (part_256_2 c i arg1 harg1 arg2 harg2 arg3 harg3 arg4 harg4 arg5 harg5 x0 x1 x2 hx2)

/-- The remainders when the tenth scale has run on 4 batches. -/
theorem part_256_4 (hx2 : ∀ (k : Fin 8192) (c : Fin 256), x2 (ix2 k c) = unit (rows x1 k.val) c) :
    Inv (sl.H3_77 c i arg1 harg1 arg2 harg2 arg3 harg3 arg4 harg4 arg5 harg5 x0 x1 x2) (mix (fun b => (run (rows x1) (slab x0 b) 9).1) (fun b => (run (rows x1) (slab x0 b) 10).1) 4) :=
  rest_256_3 c i arg1 harg1 arg2 harg2 arg3 harg3 arg4 harg4 arg5 harg5 x0 x1 x2 hx2 (part_256_3 c i arg1 harg1 arg2 harg2 arg3 harg3 arg4 harg4 arg5 harg5 x0 x1 x2 hx2)

/-- The remainders when the tenth scale has run on 5 batches. -/
theorem part_256_5 (hx2 : ∀ (k : Fin 8192) (c : Fin 256), x2 (ix2 k c) = unit (rows x1 k.val) c) :
    Inv (sl.H3_78 c i arg1 harg1 arg2 harg2 arg3 harg3 arg4 harg4 arg5 harg5 x0 x1 x2) (mix (fun b => (run (rows x1) (slab x0 b) 9).1) (fun b => (run (rows x1) (slab x0 b) 10).1) 5) :=
  rest_256_4 c i arg1 harg1 arg2 harg2 arg3 harg3 arg4 harg4 arg5 harg5 x0 x1 x2 hx2 (part_256_4 c i arg1 harg1 arg2 harg2 arg3 harg3 arg4 harg4 arg5 harg5 x0 x1 x2 hx2)

/-- The remainders when the tenth scale has run on 6 batches. -/
theorem part_256_6 (hx2 : ∀ (k : Fin 8192) (c : Fin 256), x2 (ix2 k c) = unit (rows x1 k.val) c) :
    Inv (sl.H3_79 c i arg1 harg1 arg2 harg2 arg3 harg3 arg4 harg4 arg5 harg5 x0 x1 x2) (mix (fun b => (run (rows x1) (slab x0 b) 9).1) (fun b => (run (rows x1) (slab x0 b) 10).1) 6) :=
  rest_256_5 c i arg1 harg1 arg2 harg2 arg3 harg3 arg4 harg4 arg5 harg5 x0 x1 x2 hx2 (part_256_5 c i arg1 harg1 arg2 harg2 arg3 harg3 arg4 harg4 arg5 harg5 x0 x1 x2 hx2)

/-- The remainders when the tenth scale has run on 7 batches. -/
theorem part_256_7 (hx2 : ∀ (k : Fin 8192) (c : Fin 256), x2 (ix2 k c) = unit (rows x1 k.val) c) :
    Inv (sl.H3_80 c i arg1 harg1 arg2 harg2 arg3 harg3 arg4 harg4 arg5 harg5 x0 x1 x2) (mix (fun b => (run (rows x1) (slab x0 b) 9).1) (fun b => (run (rows x1) (slab x0 b) 10).1) 7) :=
  rest_256_6 c i arg1 harg1 arg2 harg2 arg3 harg3 arg4 harg4 arg5 harg5 x0 x1 x2 hx2 (part_256_6 c i arg1 harg1 arg2 harg2 arg3 harg3 arg4 harg4 arg5 harg5 x0 x1 x2 hx2)

/-- The remainders when the tenth scale has run on 8 batches. -/
theorem part_256_8 (hx2 : ∀ (k : Fin 8192) (c : Fin 256), x2 (ix2 k c) = unit (rows x1 k.val) c) :
    Inv (kernelRun0_A c i arg1 harg1 arg2 harg2 arg3 harg3 arg4 harg4 arg5 harg5 x0 x1 x2).1 (mix (fun b => (run (rows x1) (slab x0 b) 9).1) (fun b => (run (rows x1) (slab x0 b) 10).1) 8) :=
  rest_256_7 c i arg1 harg1 arg2 harg2 arg3 harg3 arg4 harg4 arg5 harg5 x0 x1 x2 hx2 (part_256_7 c i arg1 harg1 arg2 harg2 arg3 harg3 arg4 harg4 arg5 harg5 x0 x1 x2 hx2)

/-- The remainders that the first kernel leaves, after ten scales. -/
theorem ten_rest (hx2 : ∀ (k : Fin 8192) (c : Fin 256), x2 (ix2 k c) = unit (rows x1 k.val) c) :
    Inv (kernelRun0_A c i arg1 harg1 arg2 harg2 arg3 harg3 arg4 harg4 arg5 harg5 x0 x1 x2).1 (fun b => (run (rows x1) (slab x0 b) 10).1) :=
  Inv.done (part_256_8 c i arg1 harg1 arg2 harg2 arg3 harg3 arg4 harg4 arg5 harg5 x0 x1 x2 hx2)

/-- The sums over the two scales that work batch by batch, from the last batch of the scale before them. -/
theorem sum_large (hx2 : ∀ (k : Fin 8192) (c : Fin 256), x2 (ix2 k c) = unit (rows x1 k.val) c) {Q R R' A : ℕ → ℕ → Row} (hQ : Inv (sl.H3_57 c i arg1 harg1 arg2 harg2 arg3 harg3 arg4 harg4 arg5 harg5 x0 x1 x2) Q)
    (a0 : Inv (sl.H3_65 c i arg1 harg1 arg2 harg2 arg3 harg3 arg4 harg4 arg5 harg5 x0 x1 x2) (mix R (fun b => less (rows x1) 169 (R b)) 0))
    (a1 : Inv (sl.H3_66 c i arg1 harg1 arg2 harg2 arg3 harg3 arg4 harg4 arg5 harg5 x0 x1 x2) (mix R (fun b => less (rows x1) 169 (R b)) 1))
    (a2 : Inv (sl.H3_67 c i arg1 harg1 arg2 harg2 arg3 harg3 arg4 harg4 arg5 harg5 x0 x1 x2) (mix R (fun b => less (rows x1) 169 (R b)) 2))
    (a3 : Inv (sl.H3_68 c i arg1 harg1 arg2 harg2 arg3 harg3 arg4 harg4 arg5 harg5 x0 x1 x2) (mix R (fun b => less (rows x1) 169 (R b)) 3))
    (a4 : Inv (sl.H3_69 c i arg1 harg1 arg2 harg2 arg3 harg3 arg4 harg4 arg5 harg5 x0 x1 x2) (mix R (fun b => less (rows x1) 169 (R b)) 4))
    (a5 : Inv (sl.H3_70 c i arg1 harg1 arg2 harg2 arg3 harg3 arg4 harg4 arg5 harg5 x0 x1 x2) (mix R (fun b => less (rows x1) 169 (R b)) 5))
    (a6 : Inv (sl.H3_71 c i arg1 harg1 arg2 harg2 arg3 harg3 arg4 harg4 arg5 harg5 x0 x1 x2) (mix R (fun b => less (rows x1) 169 (R b)) 6))
    (a7 : Inv (sl.H3_72 c i arg1 harg1 arg2 harg2 arg3 harg3 arg4 harg4 arg5 harg5 x0 x1 x2) (mix R (fun b => less (rows x1) 169 (R b)) 7))
    (b0 : Inv (sl.H3_73 c i arg1 harg1 arg2 harg2 arg3 harg3 arg4 harg4 arg5 harg5 x0 x1 x2) (mix R' (fun b => less (rows x1) 256 (R' b)) 0))
    (b1 : Inv (sl.H3_74 c i arg1 harg1 arg2 harg2 arg3 harg3 arg4 harg4 arg5 harg5 x0 x1 x2) (mix R' (fun b => less (rows x1) 256 (R' b)) 1))
    (b2 : Inv (sl.H3_75 c i arg1 harg1 arg2 harg2 arg3 harg3 arg4 harg4 arg5 harg5 x0 x1 x2) (mix R' (fun b => less (rows x1) 256 (R' b)) 2))
    (b3 : Inv (sl.H3_76 c i arg1 harg1 arg2 harg2 arg3 harg3 arg4 harg4 arg5 harg5 x0 x1 x2) (mix R' (fun b => less (rows x1) 256 (R' b)) 3))
    (b4 : Inv (sl.H3_77 c i arg1 harg1 arg2 harg2 arg3 harg3 arg4 harg4 arg5 harg5 x0 x1 x2) (mix R' (fun b => less (rows x1) 256 (R' b)) 4))
    (b5 : Inv (sl.H3_78 c i arg1 harg1 arg2 harg2 arg3 harg3 arg4 harg4 arg5 harg5 x0 x1 x2) (mix R' (fun b => less (rows x1) 256 (R' b)) 5))
    (b6 : Inv (sl.H3_79 c i arg1 harg1 arg2 harg2 arg3 harg3 arg4 harg4 arg5 harg5 x0 x1 x2) (mix R' (fun b => less (rows x1) 256 (R' b)) 6))
    (b7 : Inv (sl.H3_80 c i arg1 harg1 arg2 harg2 arg3 harg3 arg4 harg4 arg5 harg5 x0 x1 x2) (mix R' (fun b => less (rows x1) 256 (R' b)) 7))
    (h : Inv (sl.H4_64 c i arg1 harg1 arg2 harg2 arg3 harg3 arg4 harg4 arg5 harg5 x0 x1 x2) (mix A (fun b => more (rows x1) 100 (Q b) (A b)) 7)) :
    Inv (kernelRun0_A c i arg1 harg1 arg2 harg2 arg3 harg3 arg4 harg4 arg5 harg5 x0 x1 x2).2.1
      (fun b => more (rows x1) 256 (R' b) (more (rows x1) 169 (R b) (more (rows x1) 100 (Q b) (A b)))) := by
  refine Inv.done (R := fun b => more (rows x1) 169 (R b) (more (rows x1) 100 (Q b) (A b))) ?_
  refine Inv.add (v := arg5.view) 7 (by decide) ?_ (ups_256_7 c i arg1 harg1 arg2 harg2 arg3 harg3 arg4 harg4 arg5 harg5 x0 x1 x2 hx2 b7)
  refine Inv.add (v := arg5.view) 6 (by decide) ?_ (ups_256_6 c i arg1 harg1 arg2 harg2 arg3 harg3 arg4 harg4 arg5 harg5 x0 x1 x2 hx2 b6)
  refine Inv.add (v := arg5.view) 5 (by decide) ?_ (ups_256_5 c i arg1 harg1 arg2 harg2 arg3 harg3 arg4 harg4 arg5 harg5 x0 x1 x2 hx2 b5)
  refine Inv.add (v := arg5.view) 4 (by decide) ?_ (ups_256_4 c i arg1 harg1 arg2 harg2 arg3 harg3 arg4 harg4 arg5 harg5 x0 x1 x2 hx2 b4)
  refine Inv.add (v := arg5.view) 3 (by decide) ?_ (ups_256_3 c i arg1 harg1 arg2 harg2 arg3 harg3 arg4 harg4 arg5 harg5 x0 x1 x2 hx2 b3)
  refine Inv.add (v := arg5.view) 2 (by decide) ?_ (ups_256_2 c i arg1 harg1 arg2 harg2 arg3 harg3 arg4 harg4 arg5 harg5 x0 x1 x2 hx2 b2)
  refine Inv.add (v := arg5.view) 1 (by decide) ?_ (ups_256_1 c i arg1 harg1 arg2 harg2 arg3 harg3 arg4 harg4 arg5 harg5 x0 x1 x2 hx2 b1)
  refine Inv.add (v := arg5.view) 0 (by decide) ?_ (ups_256_0 c i arg1 harg1 arg2 harg2 arg3 harg3 arg4 harg4 arg5 harg5 x0 x1 x2 hx2 b0)
  refine Inv.start (Inv.done (R := fun b => more (rows x1) 100 (Q b) (A b)) ?_) _
  refine Inv.add (v := arg5.view) 7 (by decide) ?_ (ups_169_7 c i arg1 harg1 arg2 harg2 arg3 harg3 arg4 harg4 arg5 harg5 x0 x1 x2 hx2 a7 (by decide))
  refine Inv.add (v := arg5.view) 6 (by decide) ?_ (ups_169_6 c i arg1 harg1 arg2 harg2 arg3 harg3 arg4 harg4 arg5 harg5 x0 x1 x2 hx2 a6 (by decide))
  refine Inv.add (v := arg5.view) 5 (by decide) ?_ (ups_169_5 c i arg1 harg1 arg2 harg2 arg3 harg3 arg4 harg4 arg5 harg5 x0 x1 x2 hx2 a5 (by decide))
  refine Inv.add (v := arg5.view) 4 (by decide) ?_ (ups_169_4 c i arg1 harg1 arg2 harg2 arg3 harg3 arg4 harg4 arg5 harg5 x0 x1 x2 hx2 a4 (by decide))
  refine Inv.add (v := arg5.view) 3 (by decide) ?_ (ups_169_3 c i arg1 harg1 arg2 harg2 arg3 harg3 arg4 harg4 arg5 harg5 x0 x1 x2 hx2 a3 (by decide))
  refine Inv.add (v := arg5.view) 2 (by decide) ?_ (ups_169_2 c i arg1 harg1 arg2 harg2 arg3 harg3 arg4 harg4 arg5 harg5 x0 x1 x2 hx2 a2 (by decide))
  refine Inv.add (v := arg5.view) 1 (by decide) ?_ (ups_169_1 c i arg1 harg1 arg2 harg2 arg3 harg3 arg4 harg4 arg5 harg5 x0 x1 x2 hx2 a1 (by decide))
  refine Inv.add (v := arg5.view) 0 (by decide) ?_ (ups_169_0 c i arg1 harg1 arg2 harg2 arg3 harg3 arg4 harg4 arg5 harg5 x0 x1 x2 hx2 a0 (by decide))
  refine Inv.start (Inv.done (R := A) ?_) _
  exact Inv.add (v := arg5.view) 7 (by decide) h (ups_100 c i arg1 harg1 arg2 harg2 arg3 harg3 arg4 harg4 arg5 harg5 x0 x1 x2 hx2 hQ 7 (by decide) (by decide))

/-- The sums that the first kernel leaves, after ten scales. -/
theorem ten_sum (hx2 : ∀ (k : Fin 8192) (c : Fin 256), x2 (ix2 k c) = unit (rows x1 k.val) c) :
    Inv (kernelRun0_A c i arg1 harg1 arg2 harg2 arg3 harg3 arg4 harg4 arg5 harg5 x0 x1 x2).2.1 (fun b => (run (rows x1) (slab x0 b) 10).2) :=
  sum_large c i arg1 harg1 arg2 harg2 arg3 harg3 arg4 harg4 arg5 harg5 x0 x1 x2 hx2 (rest_upto_7 c i arg1 harg1 arg2 harg2 arg3 harg3 arg4 harg4 arg5 harg5 x0 x1 x2 hx2)
    (part_169_0 c i arg1 harg1 arg2 harg2 arg3 harg3 arg4 harg4 arg5 harg5 x0 x1 x2 hx2) (part_169_1 c i arg1 harg1 arg2 harg2 arg3 harg3 arg4 harg4 arg5 harg5 x0 x1 x2 hx2) (part_169_2 c i arg1 harg1 arg2 harg2 arg3 harg3 arg4 harg4 arg5 harg5 x0 x1 x2 hx2) (part_169_3 c i arg1 harg1 arg2 harg2 arg3 harg3 arg4 harg4 arg5 harg5 x0 x1 x2 hx2) (part_169_4 c i arg1 harg1 arg2 harg2 arg3 harg3 arg4 harg4 arg5 harg5 x0 x1 x2 hx2) (part_169_5 c i arg1 harg1 arg2 harg2 arg3 harg3 arg4 harg4 arg5 harg5 x0 x1 x2 hx2) (part_169_6 c i arg1 harg1 arg2 harg2 arg3 harg3 arg4 harg4 arg5 harg5 x0 x1 x2 hx2) (part_169_7 c i arg1 harg1 arg2 harg2 arg3 harg3 arg4 harg4 arg5 harg5 x0 x1 x2 hx2)
    (part_256_0 c i arg1 harg1 arg2 harg2 arg3 harg3 arg4 harg4 arg5 harg5 x0 x1 x2 hx2) (part_256_1 c i arg1 harg1 arg2 harg2 arg3 harg3 arg4 harg4 arg5 harg5 x0 x1 x2 hx2) (part_256_2 c i arg1 harg1 arg2 harg2 arg3 harg3 arg4 harg4 arg5 harg5 x0 x1 x2 hx2) (part_256_3 c i arg1 harg1 arg2 harg2 arg3 harg3 arg4 harg4 arg5 harg5 x0 x1 x2 hx2) (part_256_4 c i arg1 harg1 arg2 harg2 arg3 harg3 arg4 harg4 arg5 harg5 x0 x1 x2 hx2) (part_256_5 c i arg1 harg1 arg2 harg2 arg3 harg3 arg4 harg4 arg5 harg5 x0 x1 x2 hx2) (part_256_6 c i arg1 harg1 arg2 harg2 arg3 harg3 arg4 harg4 arg5 harg5 x0 x1 x2 hx2) (part_256_7 c i arg1 harg1 arg2 harg2 arg3 harg3 arg4 harg4 arg5 harg5 x0 x1 x2 hx2)
    (sum_upto_8 c i arg1 harg1 arg2 harg2 arg3 harg3 arg4 harg4 arg5 harg5 x0 x1 x2 hx2)

end

end Cert.VQ

end
-- ==== Proof.Body1.lean ====
module

public import proofs.«01_k».proof.Proof.Step
public import proofs.«01_k».proof.Proof.Gen.KernelIdeal.Frame

@[expose] public section

noncomputable section

/-! The second call of the kernel: the last scale, where every place is coded by itself. -/

namespace Cert.VQ

open Idealize.ShloMosaic Idealize.ShloMosaic.ValueIdx Cert.KernelIdeal Cert.KernelIdeal.Gen

section
variable (c : Dev nD) (i : grid1.Coords)
  (arg1 : Memref sig .tc .vmem S1x1024x256 .f32) (harg1 : arg1.IsWhole) (arg2 : Memref sig .tc .vmem S1x1024x256 .f32) (harg2 : arg2.IsWhole)
  (arg3 : Memref sig .tc .vmem S8192x256 .f32) (harg3 : arg3.IsWhole) (arg4 : Memref sig .tc .vmem S8192x256 .bf16) (harg4 : arg4.IsWhole)
  (arg5 : Memref sig .tc .vmem S1x1024x256 .f32) (harg5 : arg5.IsWhole)

/-- The two loops of the second kernel body find, for every row, the code nearest to it. -/
theorem codes1 (v0 : Vec Ideal S1x1024x256 .f32) (x2 : Vec Ideal S8192x256 .f32) (x3 : Vec Ideal S8192x256 .bf16)
    (hx3 : ∀ (k : Fin 8192) (c : Fin 256), x3 (ix2 k c) = unit (rows x2 k.val) c) (r : Fin 1024) (d : Fin 256) :
    st_k1_t2 (F := Ideal) Variants.none c none i arg1 harg1 arg2 harg2 arg3 harg3 arg4 harg4 arg5 harg5
      (st_k1_t1 (F := Ideal) Variants.none c none i arg1 harg1 arg2 harg2 arg3 harg3 arg4 harg4 arg5 harg5 v0 (harg4.unread x3) (k1_pay1, k1_pay2) k1_t1_loop.trips).2
      (harg3.unread x2) k1_pay7 k1_t2_loop.trips (ix2 r d)
      = code (rows x2) (fun d => v0 (ix3 (0 : Fin 1) r d)) d := by
  have hr : (fun d => v0 (ix3 (0 : Fin 1) r d)) = fun d => shapeCast (Mat 1024 256) v0 shapeCasts_S1x1024x256_S1024x256 (ix2 r d) := by
    funext d; exact (shapeCast_1ab_ab_apply ..).symm
  rw [hr]
  exact code_run 2048 (T := k1_t1_loop.trips) (T' := k1_t2_loop.trips) arg4 harg4 arg3 harg3 x3 x2 hx3
    k1_off1 k1_off1_inb k1_off2 k1_off2_inb (by decide) (by decide) (by decide) (by decide) (by decide)
    (stM := fun k => st_k1_t1 (F := Ideal) Variants.none c none i arg1 harg1 arg2 harg2 arg3 harg3 arg4 harg4 arg5 harg5 v0 (harg4.unread x3) (k1_pay1, k1_pay2) k)
    (stL := fun k => st_k1_t2 (F := Ideal) Variants.none c none i arg1 harg1 arg2 harg2 arg3 harg3 arg4 harg4 arg5 harg5 _ (harg3.unread x2) k1_pay7 k)
    (shapeCast (Mat 1024 256) v0 shapeCasts_S1x1024x256_S1024x256)
    rfl (fun k => by refine (st_k1_t1_succ ..).trans ?_; unfold tripR_k1_t1 trip_k1_t1; rfl)
    rfl (fun k => by refine (st_k1_t2_succ ..).trans ?_; unfold tripR_k1_t2 trip_k1_t2; rfl) r d

end

end Cert.VQ

end
-- ==== Proof.Host.lean ====
module

public import proofs.«01_k».proof.Proof.Ker
public import Idealize.ShloMosaic.Lib.IdealHost

@[expose] public section

noncomputable section

/-! Array operations that both programs run outside the kernel's calls. -/

namespace Cert.VQ

open Idealize.ShloMosaic Idealize.ShloMosaic.ValueIdx

/-- Every batch of the features at all eleven scales. -/
def result (F : FVec Ideal (⟨3, ![8, 1024, 256]⟩ : Shape) .f32) (C : FVec Ideal (⟨2, ![8192, 256]⟩ : Shape) .f32) : FVec Ideal (⟨3, ![8, 1024, 256]⟩ : Shape) .f32 :=
  fun y => whole (rows C) (slab F (y 0).val) (y 1).val ⟨(y 2).val, (y 2).isLt⟩

/-- Broadcasting a column over 256 places reads the column's own entry. -/
theorem spread0 {N : ℕ} (k : Fin N) (c : Fin 256) (a : Fin 2) :
    (ix2 k (0 : Fin 1) a).val = if (Mat N 1).size a = 1 then 0 else (ix2 k c ((![0, 1] : Fin 2 → Fin 2) a)).val := by
  fin_cases a
  · show k.val = if N = 1 then 0 else k.val
    split
    · have := k.isLt; omega
    · rfl
  · rfl

/-- Turning a vector into a column reads the vector's own entry. -/
theorem spread1 {N : ℕ} (k : Fin N) (a : Fin 1) :
    (ix1 k a).val = if (Vct N).size a = 1 then 0 else (ix2 k (0 : Fin 1) ((![0] : Fin 1 → Fin 2) a)).val := by
  fin_cases a
  show k.val = if N = 1 then 0 else k.val
  split
  · have := k.isLt; omega
  · rfl

/-- The codebook, every row over its sum of squares, as a host computes it. -/
def gBook {N : ℕ} (X : FVec Ideal (Mat N 256) .f32) (h1 : (Mat N 256).ReducesTo [1] (Vct N)) (h0 : 0 < (⟨0, ![]⟩ : Shape).numel)
    (h2 : (Vct N).BroadcastsInDim (Mat N 1) ![0]) (h3 : (⟨0, ![]⟩ : Shape).BroadcastsInDim (Mat N 1) ![])
    (h4 : (Mat N 1).BroadcastsInDim (Mat N 256) ![0, 1]) : FVec Ideal (Mat N 256) .f32 :=
  Host.divf X (broadcastInDim (Mat N 256) ![0, 1] h4 (addf
    (broadcastInDim (Mat N 1) ![0] h2 (Host.reduceAdd (mulf X X) (constant ⟨0, ![]⟩ .f32 0x00000000#32) h1 h0))
    (broadcastInDim (Mat N 1) ![] h3 (constant ⟨0, ![]⟩ .f32 0x358637BD#32))))

/-- Row `k` of it is row `k` of the codebook over its sum of squares. -/
theorem gBook_apply {N : ℕ} (X : FVec Ideal (Mat N 256) .f32) (h1 h0 h2 h3 h4) (k : Fin N) (c : Fin 256) :
    gBook X h1 h0 h2 h3 h4 (ix2 k c) = unit (rows X k.val) c := by
  have hr : rows X k.val = fun c => X (ix2 k c) := rows_of_lt ..
  rw [hr]
  have h : (Mat N 256).Reduces [1] (Vct N) := ⟨h1.1, Nat.one_pos, h1.2⟩
  unfold gBook
  refine (hostDivf_apply ..).trans ?_
  unfold unit
  refine congrArg (Ideal.div (X (ix2 k c))) ?_
  refine (broadcastInDim_apply ![0, 1] h4 _ (ix2 k c) (ix2 k (0 : Fin 1)) (spread0 k c)).trans ?_
  refine congrArg₂ (· + ·) ?_ (broadcastInDim_scalar_apply ..)
  refine (broadcastInDim_apply ![0] h2 _ (ix2 k (0 : Fin 1)) (ix1 k) (spread1 k)).trans ?_
  refine (Ideal.hostReduceAdd_single h1 h _ _ (ix1 k)).trans ?_
  refine (congrArg (· + _) Ideal.ofBits_zero_f32).trans ((zero_add _).trans ?_)
  exact Finset.sum_congr rfl fun (j : Fin 256) _ => congrArg (fun j => X j * X j) (lift_row h k j)

end Cert.VQ

end
-- ==== Proof.Kern.lean ====
module

public import proofs.«01_k».proof.Proof.Ten
public import proofs.«01_k».proof.Proof.Body1
public import proofs.«01_k».proof.Proof.Host
public import Idealize.ShloMosaic.Lib.Pipeline.ValueKit

@[expose] public section

noncomputable section

/-! What the two calls of the kernel leave in the result. -/

namespace Cert.VQ

open Idealize.ShloMosaic hiding ix0 ix1 ix2 ix3
open Idealize.ShloMosaic.ValueIdx Idealize.ShloMosaic.TcCoe Cert.KernelIdeal Cert.KernelIdeal.Gen

variable (m : (ℓ : Loc nD τ sig) → Buf (Elt Ideal) ℓ) (ρ : Dev nD → PrngReg)

/-- The features as launched. -/
abbrev inF (c : Dev nD) : FVec Ideal S8x1024x256 .f32 := m ((c : Thread nD τ).loc main_arg0)
/-- The codebook as launched. -/
abbrev inC (c : Dev nD) : FVec Ideal S8192x256 .f32 := m ((c : Thread nD τ).loc main_arg1)

/-- The host hands the kernel the normalised code book. -/
theorem host_rows (c : Dev nD) : (W1 m ρ c (Proc.devRef .tc main_v7) : FVec Ideal S8192x256 .bf16)
    = gBook (inC m c) reducesTo_S8192x256_S8192_d1 h_S_ bcast_S8192_S8192x1_0 bcast_S_S8192x1 bcast_S8192x1_S8192x256_0_1 := by
  unfold W1 hostOps0
  after_results_simp
  rfl

/-- The first call finds the features in its first window. -/
theorem in0_0 (c : Dev nD) (t : Fin cfg0.N) : (iblk0 (V1 m ρ) c 0 t : FVec Ideal S8x1024x256 .f32) = inF m c := by
  have e : ∀ t : Fin grid0.N, win0_0.index t = ![0, 0, 0] := by decide +kernel
  funext y
  blk_simp [iblk0, e]
  refine (congrFun (W1_of m ρ c main_arg0 (by decide)) _).trans ?_
  refine congrArg (inF m c) ?_
  funext a; apply Fin.ext; fin_cases a <;> blk_simp [e]

/-- The first call finds the codebook in its second window. -/
theorem in0_1 (c : Dev nD) (t : Fin cfg0.N) : (iblk0 (V1 m ρ) c 1 t : FVec Ideal S8192x256 .f32) = inC m c := by
  have e : ∀ t : Fin grid0.N, win0_1.index t = ![0, 0] := by decide +kernel
  funext y
  blk_simp [iblk0, e]
  refine (congrFun (W1_of m ρ c main_arg1 (by decide)) _).trans ?_
  refine congrArg (inC m c) ?_
  funext a; apply Fin.ext; fin_cases a <;> blk_simp [e]

/-- The first call finds the rows over their sums of squares in its third window. -/
theorem in0_2 (c : Dev nD) (t : Fin cfg0.N) (k : Fin 8192) (d : Fin 256) :
    (iblk0 (V1 m ρ) c 2 t : FVec Ideal S8192x256 .bf16) (ix2 k d) = unit (rows (inC m c) k.val) d := by
  have e : ∀ t : Fin grid0.N, win0_2.index t = ![0, 0] := by decide +kernel
  refine Eq.trans ?_ (gBook_apply (inC m c) reducesTo_S8192x256_S8192_d1 h_S_ bcast_S8192_S8192x1_0 bcast_S_S8192x1 bcast_S8192x1_S8192x256_0_1 k d)
  rw [← host_rows m ρ c]
  blk_simp [iblk0, e]
  refine congrArg (W1 m ρ c (Proc.devRef .tc main_v7)) ?_
  funext a; apply Fin.ext; fin_cases a <;> blk_simp [e]

/-- The only point of the first call's grid. -/
abbrev t0 : Fin cfg0.N := (0 : Fin 1)

/-- The first output array of the first call ends as the body leaves its block. -/
theorem left0_3 {c : Dev nD} (dat : Pipeline.Dat τ (Elt Ideal) Unit ℕ (UR sig nD τ) ℕ cfg0 c) (y : S8x1024x256.Idx) :
    (dat.arrAt 3 cfg0.N : FVec Ideal S8x1024x256 .f32) y = (dat.after 3 t0 : FVec Ideal S8x1024x256 .f32) y :=
  dat.arrAt_emb_eq_after_last 3 t0 (by decide +kernel) y

/-- So does the second. -/
theorem left0_4 {c : Dev nD} (dat : Pipeline.Dat τ (Elt Ideal) Unit ℕ (UR sig nD τ) ℕ cfg0 c) (y : S8x1024x256.Idx) :
    (dat.arrAt 4 cfg0.N : FVec Ideal S8x1024x256 .f32) y = (dat.after 4 t0 : FVec Ideal S8x1024x256 .f32) y :=
  dat.arrAt_emb_eq_after_last 4 t0 (by decide +kernel) y

/-- The rest after ten scales. -/
theorem rest_out (c : Dev nD) (b : Fin 8) (n : Fin 1024) (d : Fin 256) :
    (W2 m ρ c (Proc.devRef .tc main_v8_0) : FVec Ideal S8x1024x256 .f32) (ix3 b n d)
      = (run (rows (inC m c)) (slab (inF m c) b.val) 10).1 n.val d := by
  refine (congrFun (W2_arr m ρ c 3) _).trans ?_
  refine (left0_3 (dat0 (V1 m ρ) c) (ix3 b n d)).trans ?_
  refine (congrFun (after0_3 (V1 m ρ) c t0) (ix3 b n d)).trans ?_
  unfold outsAt0 out0_A_3
  dsimp only
  rw [View.read_writes_junk_eq_canon]
  refine (ten_rest c (grid0.coords t0) (ms0_0 t0) (hs0_0 t0) (ms0_1 t0) (hs0_1 t0) (ms0_2 t0) (hs0_2 t0) (ms0_3 t0) (hs0_3 t0) (ms0_4 t0) (hs0_4 t0)
    (iblk0 (V1 m ρ) c 0 t0) (iblk0 (V1 m ρ) c 1 t0) (iblk0 (V1 m ρ) c 2 t0) (fun k d => (in0_2 m ρ c t0 k d).trans (by rw [in0_1])) b n d).trans ?_
  rw [in0_0, in0_1]

/-- The sum of the codes of ten scales. -/
theorem sum_out (c : Dev nD) (b : Fin 8) (n : Fin 1024) (d : Fin 256) :
    (W2 m ρ c (Proc.devRef .tc main_v8_1) : FVec Ideal S8x1024x256 .f32) (ix3 b n d)
      = (run (rows (inC m c)) (slab (inF m c) b.val) 10).2 n.val d := by
  refine (congrFun (W2_arr m ρ c 4) _).trans ?_
  refine (left0_4 (dat0 (V1 m ρ) c) (ix3 b n d)).trans ?_
  refine (congrFun (after0_4 (V1 m ρ) c t0) (ix3 b n d)).trans ?_
  unfold outsAt0 out0_A_4
  dsimp only
  rw [View.read_writes_junk_eq_canon]
  refine (ten_sum c (grid0.coords t0) (ms0_0 t0) (hs0_0 t0) (ms0_1 t0) (hs0_1 t0) (ms0_2 t0) (hs0_2 t0) (ms0_3 t0) (hs0_3 t0) (ms0_4 t0) (hs0_4 t0)
    (iblk0 (V1 m ρ) c 0 t0) (iblk0 (V1 m ρ) c 1 t0) (iblk0 (V1 m ρ) c 2 t0) (fun k d => (in0_2 m ρ c t0 k d).trans (by rw [in0_1])) b n d).trans ?_
  rw [in0_0, in0_1]

/-! ### The second call -/

/-- The second call leaves every row of the sum with the code of the rest's row added. -/
theorem out1_val (c : Dev nD) (i : grid1.Coords)
    (arg1 : Memref sig .tc .vmem S1x1024x256 .f32) (harg1 : arg1.IsWhole) (arg2 : Memref sig .tc .vmem S1x1024x256 .f32) (harg2 : arg2.IsWhole)
    (arg3 : Memref sig .tc .vmem S8192x256 .f32) (harg3 : arg3.IsWhole) (arg4 : Memref sig .tc .vmem S8192x256 .bf16) (harg4 : arg4.IsWhole)
    (arg5 : Memref sig .tc .vmem S1x1024x256 .f32) (harg5 : arg5.IsWhole)
    (x0 x1 : Vec Ideal S1x1024x256 .f32) (x2 : Vec Ideal S8192x256 .f32) (x3 : Vec Ideal S8192x256 .bf16)
    (hx3 : ∀ (k : Fin 8192) (c : Fin 256), x3 (ix2 k c) = unit (rows x2 k.val) c) (r : Fin 1024) (d : Fin 256) :
    out1_A_4 c i arg1 harg1 arg2 harg2 arg3 harg3 arg4 harg4 arg5 harg5 x0 x1 x2 x3 (ix3 (0 : Fin 1) r d)
      = x1 (ix3 (0 : Fin 1) r d) + code (rows x2) (fun d => x0 (ix3 (0 : Fin 1) r d)) d := by
  have e : ∀ d : Fin 256, (Rect.unit (s := S1x1024x256) ![0, 0, 0] ![1, 1024, 256] (by decide)).toLoadRect.idx (ix3 (0 : Fin 1) r d) = ix3 (0 : Fin 1) r d := by
    intro d; funext a; apply Fin.ext; fin_cases a
    · rfl
    · show 0 + 1 * r.val = r.val; omega
    · show 0 + 1 * d.val = d.val; omega
  unfold out1_A_4
  rw [View.read_writes_junk_eq_canon]
  unfold kernelRun1_A
  dsimp only
  refine (congrArg _ (e d).symm).trans ?_
  refine (View.canon_cons_emb (Rect.unit (s := S1x1024x256) ![0, 0, 0] ![1, 1024, 256] (by decide)) _ [] (ix3 (0 : Fin 1) r d)).trans ?_
  unfold k1_pay9
  refine (shapeCast_ab_1ab_apply ..).trans ?_
  refine congrArg₂ (· + ·) ?_ ?_
  · refine (shapeCast_1ab_ab_apply ..).trans ?_
    refine (Memref.IsWhole.readAt_unread (Val := Elt Ideal) harg2 x1 _ _).trans (congrArg x1 (e d))
  · refine (codes1 c i arg1 harg1 arg2 harg2 arg3 harg3 arg4 harg4 arg5 harg5 _ x2 x3 hx3 r d).trans ?_
    refine congrArg (fun x => code (rows x2) x d) (funext fun d => ?_)
    exact (Memref.IsWhole.readAt_unread (Val := Elt Ideal) harg1 x0 _ _).trans (congrArg x0 (e d))

end Cert.VQ

end
-- ==== Proof.Whole.lean ====
module

public import proofs.«01_k».proof.Proof.Kern

@[expose] public section

noncomputable section

/-! The result of the kernel, and its run. -/

namespace Cert.VQ

open Idealize.ShloMosaic hiding ix0 ix1 ix2 ix3
open Idealize.ShloMosaic.ValueIdx Idealize.ShloMosaic.TcCoe Cert.KernelIdeal Cert.KernelIdeal.Gen

variable (m : (ℓ : Loc nD τ sig) → Buf (Elt Ideal) ℓ) (ρ : Dev nD → PrngReg)

/-- Point `t` of the second call finds batch `t` of the rest. -/
theorem in1_0 (c : Dev nD) (t : Fin cfg1.N) (r : Fin 1024) (d : Fin 256) : (iblk1 (V2 m ρ) c 0 t : FVec Ideal S1x1024x256 .f32) (ix3 (0 : Fin 1) r d)
    = (run (rows (inC m c)) (slab (inF m c) t.val) 10).1 r.val d := by
  have e : ∀ t : Fin grid1.N, win1_0.index t = ![t.val, 0, 0] := by decide +kernel
  refine Eq.trans ?_ (rest_out m ρ c (t : Fin 8) r d)
  blk_simp [iblk1, e]
  refine congrArg (W2 m ρ c (Proc.devRef .tc main_v8_0)) ?_
  funext a; apply Fin.ext; fin_cases a <;> blk_simp [e]

/-- Point `t` of the second call finds batch `t` of the sum. -/
theorem in1_1 (c : Dev nD) (t : Fin cfg1.N) (r : Fin 1024) (d : Fin 256) : (iblk1 (V2 m ρ) c 1 t : FVec Ideal S1x1024x256 .f32) (ix3 (0 : Fin 1) r d)
    = (run (rows (inC m c)) (slab (inF m c) t.val) 10).2 r.val d := by
  have e : ∀ t : Fin grid1.N, win1_1.index t = ![t.val, 0, 0] := by decide +kernel
  refine Eq.trans ?_ (sum_out m ρ c (t : Fin 8) r d)
  blk_simp [iblk1, e]
  refine congrArg (W2 m ρ c (Proc.devRef .tc main_v8_1)) ?_
  funext a; apply Fin.ext; fin_cases a <;> blk_simp [e]

/-- Every point of the second call finds the codebook. -/
theorem in1_2 (c : Dev nD) (t : Fin cfg1.N) : (iblk1 (V2 m ρ) c 2 t : FVec Ideal S8192x256 .f32) = inC m c := by
  have e : ∀ t : Fin grid1.N, win1_2.index t = ![0, 0] := by decide +kernel
  funext y
  blk_simp [iblk1, e]
  refine (congrFun (W2_args m ρ c main_arg1 (by decide)) _).trans ?_
  refine congrArg (inC m c) ?_
  funext a; apply Fin.ext; fin_cases a <;> blk_simp [e]

/-- Every point of the second call finds the rows over their sums of squares. -/
theorem in1_3 (c : Dev nD) (t : Fin cfg1.N) (k : Fin 8192) (d : Fin 256) :
    (iblk1 (V2 m ρ) c 3 t : FVec Ideal S8192x256 .bf16) (ix2 k d) = unit (rows (inC m c) k.val) d := by
  have e : ∀ t : Fin grid1.N, win1_3.index t = ![0, 0] := by decide +kernel
  refine Eq.trans ?_ (gBook_apply (inC m c) reducesTo_S8192x256_S8192_d1 h_S_ bcast_S8192_S8192x1_0 bcast_S_S8192x1 bcast_S8192x1_S8192x256_0_1 k d)
  rw [← host_rows m ρ c]
  refine Eq.trans ?_ (congrFun (W2_of m ρ c main_v7 (by decide)) _)
  blk_simp [iblk1, e]
  refine congrArg (W2 m ρ c (Proc.devRef .tc main_v7)) ?_
  funext a; apply Fin.ext; fin_cases a <;> blk_simp [e]

/-- The output array of the second call ends at `G` if the body leaves batch `t` of `G` at point `t`. -/
theorem left1 {c : Dev nD} (dat : Pipeline.Dat τ (Elt Ideal) Unit ℕ (UR sig nD τ) ℕ cfg1 c) (G : FVec Ideal S8x1024x256 .f32)
    (h : ∀ (t : Fin cfg1.N) (n : Fin 1024) (d : Fin 256), (dat.after 4 t : FVec Ideal S1x1024x256 .f32) (ix3 (0 : Fin 1) n d) = G (ix3 (⟨t.val, t.isLt⟩ : Fin 8) n d)) :
    (dat.arrAt 4 cfg1.N : FVec Ideal S8x1024x256 .f32) = G := by
  have e : ∀ t : Fin grid1.N, win1_4.index t = ![t.val, 0, 0] := by decide +kernel
  refine dat.arrAt_eq_of_covers 4 G (by decide +kernel) fun t _ y => ?_
  have hy : y = (ix3 (0 : Fin 1) (⟨(y 1).val, (y 1).isLt⟩ : Fin 1024) (⟨(y 2).val, (y 2).isLt⟩ : Fin 256)) := by
    funext a; apply Fin.ext; fin_cases a
    · have : (y 0).val < 1 := (y 0).isLt
      show (y 0).val = 0; omega
    · rfl
    · rfl
  rw [hy]
  refine (h t _ _).trans (congrArg G ?_)
  funext a; apply Fin.ext; fin_cases a <;> blk_simp [e]

/-- What the second call leaves: every batch at all eleven scales. -/
theorem whole_out (c : Dev nD) : (W3 m ρ c (Proc.devRef .tc main_v9) : FVec Ideal S8x1024x256 .f32)
    = fun y => whole (rows (inC m c)) (slab (inF m c) (y 0).val) (y 1).val ⟨(y 2).val, (y 2).isLt⟩ := by
  refine (W3_arr m ρ c 4).trans ?_
  refine left1 (dat1 (V2 m ρ) c) _ fun t n d => ?_
  refine (congrFun (after1_4 (V2 m ρ) c t) _).trans ?_
  unfold outsAt1
  refine (out1_val _ _ _ _ _ _ _ _ _ _ _ _ _ _ _ _ (fun k d => (in1_3 m ρ c t k d).trans (by rw [in1_2])) n d).trans ?_
  rw [in1_1, in1_2]
  unfold whole
  refine congrArg (fun x => _ + code _ x d) (funext fun d => ?_)
  exact in1_0 m ρ c t n d

section
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- Every run of the kernel ends, with its arguments as launched and every row of the result at all eleven scales. -/
theorem kernel_run : θ_run defs (onTc (τ := τ) (main (F := Ideal))) ⟨m, fun _ => 0, ρ⟩ (fun r => (∀ c : Dev nD,
      (r.2.mem ((c.tc : Thread nD τ).loc main_v9) : FVec Ideal S8x1024x256 .f32) = result (inF m c) (inC m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v9 (by decide))).trans (whole_out m ρ c),
       (h c _ (mem_uc main_arg0 (by decide))).trans (W3_main_arg0 m ρ c),
       (h c _ (mem_uc main_arg1 (by decide))).trans (W3_main_arg1 m ρ c)⟩), funext fun g => hz g (.inr (no_unscoped g.2))⟩)

end

end Cert.VQ

end
-- ==== Proof.Line.lean ====
module

public import proofs.«01_k».proof.Proof.Gen.ReferenceIdeal
public import Idealize.ShloMosaic.Lib.StableHlo.Run
public import Idealize.ShloMosaic.Lib.IdealHost

@[expose] public section

noncomputable section

/-! A straight-line host program in which every operation writes a new buffer: at its end every operation's equation
holds between the contents of the buffers. -/

namespace Cert.VQ

open Idealize.ShloMosaic Idealize.ShloMosaic.StableHlo Idealize.ShloMosaic.TcCoe Idealize.SL.Sem Cert.ReferenceIdeal

/-- An operation of the reference. -/
abbrev Op := HloOp τ sig (Elt Ideal)
/-- A piece of the reference. -/
abbrev Piece := Prog (TpuEff nD τ sig (Elt Ideal) (Pipeline.Sig Λ₀ (Fin 0) fun p => (pcfgs (F := Ideal) p).Adm) .tc) PUnit
/-- Contents of all buffers. -/
abbrev Mem := Valuation τ sig (Elt Ideal)

/-- `op` writes `y` alone, from the contents of `xs`. -/
structure Reads (op : Op) (y : Ref sig .tc) (xs : List (Ref sig .tc)) : Prop where
  bufs : op.bufs ⊆ tcRefs τ sig
  fresh : op.fresh = ∅
  writes : op.writes = {Proc.devRef .tc y}
  reads : ∀ V V' : Mem, (∀ x ∈ xs, V (Proc.devRef .tc x) = V' (Proc.devRef .tc x)) →
    op.result V (Proc.devRef .tc y) = op.result V' (Proc.devRef .tc y)

/-- An operation with the buffer it writes and those it reads. -/
structure Line1 where
  op : Op
  y : Ref sig .tc
  xs : List (Ref sig .tc)
  ok : Reads op y xs

/-- A piece as its operations in order, and what follows from all their equations. -/
structure Line (p : Piece) where
  lines : List Line1
  eq : p = seq (lines.map Line1.op)
  eqs : Mem → Prop
  imp : ∀ V : Mem, (∀ l ∈ lines, l.op.result V = V) → eqs V

/-- The contents of a typed reference. -/
abbrev get {T : BufTy} (V : Mem) (x : TRef sig T) : T.Contents (Elt Ideal) := x.ofBuf (V (Proc.devRef .tc x.ref))

namespace Line

/-- No operation. -/
def done : Line (pure ⟨⟩) := ⟨[], rfl, fun _ => True, fun _ _ => trivial⟩

variable {p q : Piece}

/-- One operation, then the rest. -/
def cons (l : Line1) (E : Mem → Prop) (hE : ∀ V : Mem, l.op.result V = V → E V) (r : Line p) :
    Line (hlo rfl l.op (fun _ => .ret (⟨⟩ : PUnit)) >>= fun _ => p) where
  lines := l :: r.lines
  eq := by rw [List.map_cons, seq, ← r.eq]
  eqs V := E V ∧ r.eqs V
  imp V h := ⟨hE V (h l List.mem_cons_self), r.imp V fun k hk => h k (List.mem_cons_of_mem _ hk)⟩

/-- A piece, then the rest. -/
def call (a : Line p) (b : Line q) : Line (p >>= fun _ => q) where
  lines := a.lines ++ b.lines
  eq := by rw [List.map_append, seq_append, ← a.eq, ← b.eq]
  eqs V := a.eqs V ∧ b.eqs V
  imp V h := ⟨a.imp V fun k hk => h k (List.mem_append_left _ hk), b.imp V fun k hk => h k (List.mem_append_right _ hk)⟩

section plain
variable (x a b c e y : Ref sig .tc)

/-- A constant. -/
def nul (v : y.ty.Contents (Elt Ideal)) (hy) (r : Line p) : Line (hlo rfl (nullary y v hy) (fun _ => .ret (⟨⟩ : PUnit)) >>= fun _ => p) :=
  cons ⟨nullary y v hy, y, [], nullary_bufs_sub .., rfl, rfl, fun V V' _ => by rw [nullary_result, nullary_result]⟩
    (fun V => V (Proc.devRef .tc y) = v) (fun V h => by rw [← h, nullary_result]) r

/-- An operation of one operand. -/
def un (f : x.ty.Contents (Elt Ideal) → y.ty.Contents (Elt Ideal)) (hx hy) (r : Line p) :
    Line (hlo rfl (unary x y f hx hy) (fun _ => .ret (⟨⟩ : PUnit)) >>= fun _ => p) :=
  cons ⟨unary x y f hx hy, y, [x], unary_bufs_sub .., rfl, rfl, fun V V' h => by rw [unary_result, unary_result, h x (by simp)]⟩
    (fun V => V (Proc.devRef .tc y) = f (V (Proc.devRef .tc x)))
    (fun V h => by conv_lhs => rw [← h, unary_result]) r

/-- A reshape. -/
def resh (he hn hx hy) (r : Line p) :
    Line (hlo rfl (reshape x y he hn hx hy) (fun _ => .ret (⟨⟩ : PUnit)) >>= fun _ => p) :=
  cons ⟨reshape x y he hn hx hy, y, [x], reshape_bufs_sub .., rfl, rfl, fun V V' h => by rw [reshape_result, reshape_result, h x (by simp)]⟩
    (fun V => V (Proc.devRef .tc y) = fun i => he ▸ shapeCast y.ty.shape (V (Proc.devRef .tc x)) hn i)
    (fun V h => by conv_lhs => rw [← h, reshape_result]) r

/-- An operation of two operands. -/
def bin (f : a.ty.Contents (Elt Ideal) → b.ty.Contents (Elt Ideal) → y.ty.Contents (Elt Ideal)) (ha hb hy) (r : Line p) :
    Line (hlo rfl (binary a b y f ha hb hy) (fun _ => .ret (⟨⟩ : PUnit)) >>= fun _ => p) :=
  cons ⟨binary a b y f ha hb hy, y, [a, b], binary_bufs_sub .., rfl, rfl,
      fun V V' h => by rw [binary_result, binary_result, h a (by simp), h b (by simp)]⟩
    (fun V => V (Proc.devRef .tc y) = f (V (Proc.devRef .tc a)) (V (Proc.devRef .tc b)))
    (fun V h => by conv_lhs => rw [← h, binary_result]) r

end plain

section typed
variable {Tx Ta Tb Tc Te Ty : BufTy}

/-- A constant into a typed reference. -/
def tnul (y : TRef sig Ty) (v : Ty.Contents (Elt Ideal)) (r : Line p) :
    Line (hlo rfl (TRef.nullary y v) (fun _ => .ret (⟨⟩ : PUnit)) >>= fun _ => p) :=
  cons ⟨TRef.nullary y v, y.ref, [], nullary_bufs_sub .., rfl, rfl, fun V V' _ => by rw [nullary_result, nullary_result]⟩
    (fun V => get V y = v) (fun V h => by rw [get, ← h, nullary_result, TRef.ofBuf_toBuf]) r

/-- An operation of one operand between typed references. -/
def tun (x : TRef sig Tx) (y : TRef sig Ty) (f : Tx.Contents (Elt Ideal) → Ty.Contents (Elt Ideal)) (r : Line p) :
    Line (hlo rfl (TRef.unary x y f) (fun _ => .ret (⟨⟩ : PUnit)) >>= fun _ => p) :=
  cons ⟨TRef.unary x y f, y.ref, [x.ref], unary_bufs_sub .., rfl, rfl, fun V V' h => by rw [unary_result, unary_result, h x.ref (by simp)]⟩
    (fun V => get V y = f (get V x)) (fun V h => by conv_lhs => rw [get, ← h, unary_result, TRef.ofBuf_toBuf]) r

/-- An operation of two operands between typed references. -/
def tbin (a : TRef sig Ta) (b : TRef sig Tb) (y : TRef sig Ty) (f : Ta.Contents (Elt Ideal) → Tb.Contents (Elt Ideal) → Ty.Contents (Elt Ideal))
    (r : Line p) : Line (hlo rfl (TRef.binary a b y f) (fun _ => .ret (⟨⟩ : PUnit)) >>= fun _ => p) :=
  cons ⟨TRef.binary a b y f, y.ref, [a.ref, b.ref], binary_bufs_sub .., rfl, rfl,
      fun V V' h => by rw [binary_result, binary_result, h a.ref (by simp), h b.ref (by simp)]⟩
    (fun V => get V y = f (get V a) (get V b)) (fun V h => by conv_lhs => rw [get, ← h, binary_result, TRef.ofBuf_toBuf]) r

/-- An operation of three operands between typed references. -/
def tter (c : TRef sig Tc) (a : TRef sig Ta) (b : TRef sig Tb) (y : TRef sig Ty)
    (f : Tc.Contents (Elt Ideal) → Ta.Contents (Elt Ideal) → Tb.Contents (Elt Ideal) → Ty.Contents (Elt Ideal))
    (r : Line p) : Line (hlo rfl (TRef.ternary c a b y f) (fun _ => .ret (⟨⟩ : PUnit)) >>= fun _ => p) :=
  cons ⟨TRef.ternary c a b y f, y.ref, [c.ref, a.ref, b.ref], ternary_bufs_sub .., rfl, rfl,
      fun V V' h => by rw [ternary_result, ternary_result, h c.ref (by simp), h a.ref (by simp), h b.ref (by simp)]⟩
    (fun V => get V y = f (get V c) (get V a) (get V b)) (fun V h => by conv_lhs => rw [get, ← h, ternary_result, TRef.ofBuf_toBuf]) r

/-- An operation of four operands between typed references. -/
def tqua (a : TRef sig Ta) (b : TRef sig Tb) (c : TRef sig Tc) (e : TRef sig Te) (y : TRef sig Ty)
    (f : Ta.Contents (Elt Ideal) → Tb.Contents (Elt Ideal) → Tc.Contents (Elt Ideal) → Te.Contents (Elt Ideal) → Ty.Contents (Elt Ideal))
    (r : Line p) : Line (hlo rfl (TRef.quaternary a b c e y f) (fun _ => .ret (⟨⟩ : PUnit)) >>= fun _ => p) :=
  cons ⟨TRef.quaternary a b c e y f, y.ref, [a.ref, b.ref, c.ref, e.ref], quaternary_bufs_sub .., rfl, rfl,
      fun V V' h => by rw [quaternary_result, quaternary_result, h a.ref (by simp), h b.ref (by simp), h c.ref (by simp), h e.ref (by simp)]⟩
    (fun V => get V y = f (get V a) (get V b) (get V c) (get V e)) (fun V h => by conv_lhs => rw [get, ← h, quaternary_result, TRef.ofBuf_toBuf]) r

end typed

end Line

/-! ### Every operation's equation holds at the end -/

/-- The number of a buffer. -/
def rank (r : Ref sig .tc) : ℕ := r.idx.val

/-- From number `n` on, every operation writes a buffer of a larger number than the operations before it, and than what it reads. -/
def ordered : ℕ → List (Ref sig .tc × List (Ref sig .tc)) → Bool
  | _, [] => true
  | n, (y, xs) :: ts => decide (n ≤ rank y) && xs.all (fun x => decide (rank x < rank y)) && ordered (rank y + 1) ts

/-- The buffers of a list of operations. -/
abbrev touched (ls : List Line1) : List (Ref sig .tc × List (Ref sig .tc)) := ls.map fun l => (l.y, l.xs)

/-- Buffers of different rank are different. -/
theorem rank_ne {x y : Ref sig .tc} (h : rank x ≠ rank y) : x ≠ y := fun e => h (congrArg rank e)

/-- A buffer of a smaller number than all those written keeps its contents. -/
theorem after_low : ∀ (ls : List Line1) (n : ℕ) (V : Mem) (r : Ref sig .tc), ordered n (touched ls) = true → rank r < n →
    after (ls.map Line1.op) V (Proc.devRef .tc r) = V (Proc.devRef .tc r)
  | [], _, _, _, _, _ => rfl
  | l :: ls, n, V, r, h, hr => by
    simp only [touched, List.map_cons, ordered, Bool.and_eq_true, decide_eq_true_eq] at h
    obtain ⟨⟨hn, -⟩, ht⟩ := h
    rw [List.map_cons, after_cons, after_low ls _ _ r ht (by omega)]
    exact result_of_writes_ne _ _ l.y r l.ok.writes (rank_ne (by omega))

/-- At the end no operation would change anything. -/
theorem after_fix : ∀ (ls : List Line1) (n : ℕ) (V : Mem), ordered n (touched ls) = true →
    ∀ l ∈ ls, l.op.result (after (ls.map Line1.op) V) = after (ls.map Line1.op) V
  | [], _, _, _, _, hl => absurd hl List.not_mem_nil
  | k :: ls, n, V, h, l, hl => by
    simp only [touched, List.map_cons, ordered, Bool.and_eq_true, decide_eq_true_eq, List.all_eq_true] at h
    obtain ⟨⟨hn, hx⟩, ht⟩ := h
    rw [List.map_cons, after_cons]
    rcases List.mem_cons.1 hl with rfl | hl
    · funext b
      by_cases hb : b ∈ l.op.writes
      · rw [l.ok.writes, Finset.mem_singleton] at hb
        subst hb
        rw [after_low ls _ _ l.y ht (Nat.lt_succ_self _)]
        refine l.ok.reads _ _ fun x hxm => ?_
        have := hx x hxm
        rw [after_low ls _ _ x ht (by omega)]
        exact result_of_writes_ne _ _ l.y x l.ok.writes (rank_ne (by omega))
      · exact l.op.result_of_not_mem _ hb
    · exact after_fix ls _ _ ht l hl

end Cert.VQ

end
-- ==== Proof.Fns.lean ====
module

public import proofs.«01_k».proof.Proof.Line

@[expose] public section

noncomputable section

/-! The reference's functions as lines, each kind once for all sizes. -/

namespace Cert.VQ

open Idealize.ShloMosaic Idealize.ShloMosaic.StableHlo Idealize.ShloMosaic.TcCoe Idealize.SL.Sem Cert.ReferenceIdeal
open Facts₀

/-- Arrays of the reference with one, two and three axes. -/
abbrev V1 (m : ℕ) : Shape := ⟨1, ![m]⟩
/-- The shape of a matrix. -/
abbrev V2 (m n : ℕ) : Shape := ⟨2, ![m, n]⟩
/-- The shape of a stack of matrices. -/
abbrev V3 (l m n : ℕ) : Shape := ⟨3, ![l, m, n]⟩

/-- Rows taken out of the middle axis. -/
abbrev midDims (n m : ℕ) (wf : GatherDims.WF (V3 8 n 256) (V2 m 1) (V3 8 m 256) [0, 2] [1] [] [1] [] 1 ![8, 1, 256]) :
    GatherDims (V3 8 n 256) (V2 m 1) (V3 8 m 256) where
  offsetDims := [0, 2]
  collapsedSliceDims := [1]
  operandBatchingDims := []
  startIndicesBatchingDims := []
  startIndexMap := [1]
  indexVectorDim := 1
  sliceSizes := ![8, 1, 256]
  wf := wf

/-- Rows taken out of a matrix. -/
abbrev rowDims (n m : ℕ) (wf : GatherDims.WF (V2 n 256) (V2 m 1) (V2 m 256) [1] [0] [] [0] [] 1 ![1, 256]) :
    GatherDims (V2 n 256) (V2 m 1) (V2 m 256) where
  offsetDims := [1]
  collapsedSliceDims := [0]
  operandBatchingDims := []
  startIndicesBatchingDims := []
  startIndexMap := [0]
  indexVectorDim := 1
  sliceSizes := ![1, 256]
  wf := wf

/-- The nearest-neighbour resize of the middle axis, from `n` rows to `m`. -/
def resizeLine {n m : ℕ} {A D : BitVec 32} {K : BitVec 32} {hS : S_.BroadcastsInDim (V1 m) (![] : Fin 0 → Fin (V1 m).rank)}
    {hB : (V1 m).BroadcastsInDim (V2 m 1) (![0] : Fin 1 → Fin (V2 m 1).rank)}
    {wf : GatherDims.WF (V3 8 n 256) (V2 m 1) (V3 8 m 256) [0, 2] [1] [] [1] [] 1 ![8, 1, 256]}
    {arg0 : TRef sig ⟨V3 8 n 256, .f32⟩} {v0 : TRef sig ⟨V1 m, .f32⟩} {cst : TRef sig ⟨S_, .f32⟩} {v1 v2 : TRef sig ⟨V1 m, .f32⟩}
    {cst_0 : TRef sig ⟨S_, .f32⟩} {v3 v4 : TRef sig ⟨V1 m, .f32⟩} {cst_1 : TRef sig ⟨S_, .f32⟩} {v5 v6 v7 : TRef sig ⟨V1 m, .f32⟩}
    {v8 : TRef sig ⟨V1 m, .i32⟩} {c : TRef sig ⟨S_, .i32⟩} {v9 : TRef sig ⟨V1 m, .i32⟩} {v10 : TRef sig ⟨V1 m, .i1⟩}
    {c_2 : TRef sig ⟨S_, .i32⟩} {v11 v12 v13 : TRef sig ⟨V1 m, .i32⟩} {v14 : TRef sig ⟨V2 m 1, .i32⟩}
    {v15 : TRef sig ⟨V3 8 m 256, .f32⟩} :=
  Line.tnul v0 (sitofp (F := Ideal) .f32 (iotaInDim (V1 m) 32 0)) <|
  Line.tnul cst (constant (F := Ideal) S_ .f32 0x3F000000#32) <|
  Line.tun cst v1 (broadcastInDim (V1 m) ![] hS) <|
  Line.tbin v0 v1 v2 (addf (F := Ideal) (φ := .f32)) <|
  Line.tnul cst_0 (constant (F := Ideal) S_ .f32 A) <|
  Line.tun cst_0 v3 (broadcastInDim (V1 m) ![] hS) <|
  Line.tbin v2 v3 v4 (mulf (F := Ideal) (φ := .f32)) <|
  Line.tnul cst_1 (constant (F := Ideal) S_ .f32 D) <|
  Line.tun cst_1 v5 (broadcastInDim (V1 m) ![] hS) <|
  Line.tbin v4 v5 v6 (Host.divf (F := Ideal) (φ := .f32)) <|
  Line.tun v6 v7 (Host.floor (F := Ideal) (φ := .f32)) <|
  Line.tun v7 v8 (fptosi (F := Ideal) (φ := .f32) 32) <|
  Line.tnul c (constantI S_ 32 0#32) <|
  Line.tun c v9 (broadcastInDim (V1 m) ![] hS) <|
  Line.tbin v8 v9 v10 (cmpi .slt) <|
  Line.tnul c_2 (constantI S_ 32 K) <|
  Line.tun c_2 v11 (broadcastInDim (V1 m) ![] hS) <|
  Line.tbin v8 v11 v12 addi <|
  Line.tter v10 v12 v8 v13 select <|
  Line.tun v13 v14 (broadcastInDim (V2 m 1) ![0] hB) <|
  Line.tbin arg0 v14 v15 (fun x i => Host.gather (midDims n m wf) x i) Line.done

/-- The position of the largest entry of each of `m` rows. -/
def argmaxLine {m N : ℕ} {hR : (V2 m N).ReducesTo [1] (V1 m)} {h0 : 0 < S_.numel}
    {arg0 : TRef sig ⟨V2 m N, .f32⟩} {v0 : TRef sig ⟨V2 m N, .i32⟩} {cst : TRef sig ⟨S_, .f32⟩} {c : TRef sig ⟨S_, .i32⟩}
    {v1_0 : TRef sig ⟨V1 m, .f32⟩} {v1_1 : TRef sig ⟨V1 m, .i32⟩} :=
  Line.tnul v0 (iotaInDim (V2 m N) 32 1) <|
  Line.tnul cst (constant (F := Ideal) S_ .f32 0xFF800000#32) <|
  Line.tnul c (constantI S_ 32 0#32) <|
  Line.tqua arg0 v0 cst c v1_0 (fun x y u v j => (Host.argReduce (reducer_argmax_f32_i32 (F := Ideal)) x y u v hR h0 j).1) <|
  Line.tqua arg0 v0 cst c v1_1 (fun x y u v j => (Host.argReduce (reducer_argmax_f32_i32 (F := Ideal)) x y u v hR h0 j).2) Line.done

/-- One selection. -/
def whereLine {m : ℕ} {arg0 : TRef sig ⟨V1 m, .i1⟩} {arg1 arg2 v0 : TRef sig ⟨V1 m, .i32⟩} :=
  Line.tter arg0 arg1 arg2 v0 select Line.done

/-- The rows of a matrix of `N` rows at `m` indices. -/
def takeLine {N m : ℕ} {K L : BitVec 32} {hS : S_.BroadcastsInDim (V1 m) (![] : Fin 0 → Fin (V1 m).rank)}
    {hB : (V1 m).BroadcastsInDim (V2 m 1) (![0] : Fin 1 → Fin (V2 m 1).rank)}
    {hS1 : S_.BroadcastsInDim (V2 m 1) (![] : Fin 0 → Fin (V2 m 1).rank)}
    {hL : (V1 1).BroadcastsInDim (V2 1 1) (![1] : Fin 1 → Fin (V2 1 1).rank)}
    {hL1 : (V2 1 1).BroadcastsInDim (V2 m 1) (![0, 1] : Fin 2 → Fin (V2 m 1).rank)}
    {hR : (V2 m 1).ReducesTo [1] (V1 m)} {h0 : 0 < S_.numel}
    {wf : GatherDims.WF (V2 N 256) (V2 m 1) (V2 m 256) [1] [0] [] [0] [] 1 ![1, 256]}
    {hW : (V1 m).BroadcastsInDim (V2 m 256) (![0] : Fin 1 → Fin (V2 m 256).rank)}
    {hS2 : S_.BroadcastsInDim (V2 m 256) (![] : Fin 0 → Fin (V2 m 256).rank)}
    {arg0 : TRef sig ⟨V2 N 256, .f32⟩} {arg1 : TRef sig ⟨V1 m, .i32⟩} {c : TRef sig ⟨S_, .i32⟩} {v0 : TRef sig ⟨V1 m, .i32⟩}
    {v1 : TRef sig ⟨V1 m, .i1⟩} {c_0 : TRef sig ⟨S_, .i32⟩} {v2 v3 v4 : TRef sig ⟨V1 m, .i32⟩} {v5 : TRef sig ⟨V2 m 1, .i32⟩}
    {c_1 : TRef sig ⟨V1 1, .i32⟩} {c_2 : TRef sig ⟨S_, .i32⟩} {v6 : TRef sig ⟨V2 m 1, .i32⟩} {v7 : TRef sig ⟨V2 m 1, .i1⟩}
    {v8 : TRef sig ⟨V2 1 1, .i32⟩} {v9 : TRef sig ⟨V2 m 1, .i32⟩} {v10 v11 : TRef sig ⟨V2 m 1, .i1⟩} {c_3 : TRef sig ⟨S_, .i1⟩}
    {v12 : TRef sig ⟨V1 m, .i1⟩} {v13 : TRef sig ⟨V2 m 256, .f32⟩} {v14 : TRef sig ⟨V2 m 256, .i1⟩} {cst : TRef sig ⟨S_, .f32⟩}
    {v15 v16 : TRef sig ⟨V2 m 256, .f32⟩} :=
  Line.tnul c (constantI S_ 32 0#32) <|
  Line.tun c v0 (broadcastInDim (V1 m) ![] hS) <|
  Line.tbin arg1 v0 v1 (cmpi .slt) <|
  Line.tnul c_0 (constantI S_ 32 K) <|
  Line.tun c_0 v2 (broadcastInDim (V1 m) ![] hS) <|
  Line.tbin arg1 v2 v3 addi <|
  Line.call (whereLine (arg0 := v1) (arg1 := v3) (arg2 := arg1) (v0 := v4)) <|
  Line.tun v4 v5 (broadcastInDim (V2 m 1) ![0] hB) <|
  Line.tnul c_1 (constantI (V1 1) 32 L) <|
  Line.tnul c_2 (constantI S_ 32 0#32) <|
  Line.tun c_2 v6 (broadcastInDim (V2 m 1) ![] hS1) <|
  Line.tbin v5 v6 v7 (cmpi .sge) <|
  Line.tun c_1 v8 (broadcastInDim (V2 1 1) ![1] hL) <|
  Line.tun v8 v9 (broadcastInDim (V2 m 1) ![0, 1] hL1) <|
  Line.tbin v5 v9 v10 (cmpi .sle) <|
  Line.tbin v7 v10 v11 andi <|
  Line.tnul c_3 (constantI S_ 1 1#1) <|
  Line.tbin v11 c_3 v12 (fun x v => Host.reduce IntOp.andi x v hR h0) <|
  Line.tbin arg0 v5 v13 (fun x i => Host.gather (rowDims N m wf) x i) <|
  Line.tun v12 v14 (broadcastInDim (V2 m 256) ![0] hW) <|
  Line.tnul cst (constant (F := Ideal) S_ .f32 0x7FC00000#32) <|
  Line.tun cst v15 (broadcastInDim (V2 m 256) ![] hS2) <|
  Line.tter v14 v13 v15 v16 select Line.done

end Cert.VQ

end
-- ==== Proof.Argmax.lean ====
module

public import proofs.«01_k».proof.Proof.Fns
public import proofs.«01_k».proof.Proof.Host

@[expose] public section

noncomputable section

/-! The reference's position of the largest entry. -/

namespace Cert.VQ

open Idealize.ShloMosaic Idealize.ShloMosaic.StableHlo Idealize.ShloMosaic.ValueIdx

/-- The reducer keeps the larger entry and, of two equal ones, the smaller position. -/
theorem reducer_eq (a b : EReal × BitVec 32) : Cert.ReferenceIdeal.reducer_argmax_f32_i32 (F := Ideal) a b
    = if b.1 < a.1 then a else if a.1 = b.1 ∧ a.2.toInt < b.2.toInt then (b.1, a.2) else b := by
  obtain ⟨a, i⟩ := a
  obtain ⟨b, j⟩ := b
  unfold Cert.ReferenceIdeal.reducer_argmax_f32_i32
  simp only [Ideal.cmpf_def, Ideal.cmp, IntOp.ori, IntOp.andi, IntOp.cmpi, Scalar.select, BitVec.slt]
  rcases lt_trichotomy a b with h | h | h
  · have h1 : ¬ b < a := not_lt.2 h.le
    simp [h1, h.ne]
  · subst h
    by_cases hi : i.toInt < j.toInt <;> simp [hi]
  · simp [h, h.ne']

/-- The pairs gone through, and the pair they leave. -/
structure Top (l : List (EReal × BitVec 32)) (r : EReal × BitVec 32) : Prop where
  le : ∀ q ∈ l, q.1 ≤ r.1
  first : ∀ q ∈ l, q.1 = r.1 → r.2.toInt ≤ q.2.toInt
  mem : r = (⊥, 0#32) ∨ r ∈ l

/-- Folding the reducer over a list from the least value keeps a value and index that are at the top of the list. -/
theorem top_foldl (l : List (EReal × BitVec 32)) (hl : ∀ q ∈ l, 0 ≤ q.2.toInt) :
    Top l (l.foldl (Cert.ReferenceIdeal.reducer_argmax_f32_i32 (F := Ideal)) (⊥, 0#32)) := by
  induction l using List.reverseRecOn with
  | nil => exact ⟨fun _ h => absurd h List.not_mem_nil, fun _ h => absurd h List.not_mem_nil, .inl rfl⟩
  | append_singleton l q ih =>
    have ih := ih fun p hp => hl p (List.mem_append_left _ hp)
    rw [List.foldl_append, List.foldl_cons, List.foldl_nil, reducer_eq]
    generalize l.foldl _ _ = r at ih ⊢
    obtain ⟨h1, h2, h3⟩ := ih
    split_ifs with hlt heq
    · refine ⟨?_, ?_, h3.imp id fun h => List.mem_append_left _ h⟩
      · intro p hp
        rcases List.mem_append.1 hp with hp | hp
        · exact h1 p hp
        · rw [List.mem_singleton.1 hp]; exact hlt.le
      · intro p hp he
        rcases List.mem_append.1 hp with hp | hp
        · exact h2 p hp he
        · rw [List.mem_singleton.1 hp] at he; exact absurd he hlt.ne
    · obtain ⟨he, hi⟩ := heq
      have hr : (q.1, r.2) = r := by rw [← he]
      rw [hr]
      refine ⟨?_, ?_, h3.imp id fun h => List.mem_append_left _ h⟩
      · intro p hp
        rcases List.mem_append.1 hp with hp | hp
        · exact h1 p hp
        · rw [List.mem_singleton.1 hp]; exact he.ge
      · intro p hp hpe
        rcases List.mem_append.1 hp with hp | hp
        · exact h2 p hp hpe
        · rw [List.mem_singleton.1 hp]; exact hi.le
    · have hle : r.1 ≤ q.1 := not_lt.1 hlt
      refine ⟨?_, ?_, .inr (List.mem_append_right _ (List.mem_singleton.2 rfl))⟩
      · intro p hp
        rcases List.mem_append.1 hp with hp | hp
        · exact (h1 p hp).trans hle
        · rw [List.mem_singleton.1 hp]
      · intro p hp hpe
        rcases List.mem_append.1 hp with hp | hp
        · have hre : r.1 = q.1 := le_antisymm hle (hpe ▸ h1 p hp)
          have hi : ¬ r.2.toInt < q.2.toInt := fun h => heq ⟨hre, h⟩
          exact (not_lt.1 hi).trans (h2 p hp (hpe.trans hre.symm))
        · rw [List.mem_singleton.1 hp]

/-- The pairs of row `r`. -/
theorem mem_fiber {m N : ℕ} (x : (V2 m N).Idx → EReal) (hR : (V2 m N).ReducesTo [1] (V1 m)) (r : Fin m) (q : EReal × BitVec 32) :
    q ∈ Host.argReduceFiber x (iotaInDim (V2 m N) 32 1) hR (ix1 r)
      ↔ ∃ k : Fin N, q = (x (ix2 r k), BitVec.ofNat 32 k.val) := by
  have drop0 : ∀ i : (V2 m N).Idx, (hR.drop i 0).val = (i 0).val := fun i => rfl
  unfold Host.argReduceFiber
  simp only [List.mem_map, List.mem_filter, List.mem_finRange, true_and, decide_eq_true_eq]
  constructor
  · rintro ⟨n, hn, rfl⟩
    generalize (V2 m N).rowMajor.symm n = i at hn ⊢
    refine ⟨i 1, ?_⟩
    have h0 : i 0 = r := Fin.ext (by rw [← drop0, hn]; rfl)
    have hi : i = ix2 r (i 1) := by
      funext a
      match a with
      | ⟨0, _⟩ => exact h0
      | ⟨1, _⟩ => rfl
    exact Prod.ext (congrArg x hi) rfl
  · rintro ⟨k, rfl⟩
    refine ⟨(V2 m N).rowMajor (ix2 r k), ?_, by rw [Equiv.symm_apply_apply]; rfl⟩
    rw [Equiv.symm_apply_apply]
    funext a
    match a with
    | ⟨0, _⟩ => exact Fin.ext (drop0 _)

/-- A number below `2 ^ 31` reads back unchanged from its signed 32-bit word. -/
theorem toInt_ofNat {k : ℕ} (h : k < 2 ^ 31) : (BitVec.ofNat 32 k).toInt = k := by
  rw [BitVec.toInt_eq_toNat_of_lt (by rw [BitVec.toNat_ofNat]; omega), BitVec.toNat_ofNat, Nat.mod_eq_of_lt (by omega)]

/-- The second result of the reduction is the first place of the row's largest entry. -/
theorem argmax_apply {m N : ℕ} (x : FVec Ideal (V2 m N) .f32) (hR : (V2 m N).ReducesTo [1] (V1 m)) (h0 : 0 < (⟨0, ![]⟩ : Shape).numel)
    (hN : N ≤ 2 ^ 31) (v : ℕ → EReal) (r : Fin m) (hv : ∀ k : Fin N, x (ix2 r k) = v k.val) :
    (Host.argReduce (Cert.ReferenceIdeal.reducer_argmax_f32_i32 (F := Ideal)) x (iotaInDim (V2 m N) 32 1)
      (constant (F := Ideal) (⟨0, ![]⟩ : Shape) .f32 0xFF800000#32) (constantI (⟨0, ![]⟩ : Shape) 32 0#32) hR h0 (ix1 r)).2
      = BitVec.ofNat 32 (arg v N) := by
  rw [Ideal.argReduce_eq_reduce2, Host.reduce2_eq_foldl_fiber]
  have e0 : ((constant (F := Ideal) (⟨0, ![]⟩ : Shape) .f32 0xFF800000#32) (Shape.Idx.first h0), (constantI (⟨0, ![]⟩ : Shape) 32 0#32) (Shape.Idx.first h0))
      = ((⊥ : EReal), 0#32) := Prod.ext negInf rfl
  rw [e0]
  have ht := top_foldl (Host.argReduceFiber x (iotaInDim (V2 m N) 32 1) hR (ix1 r)) (by
    intro q hq
    obtain ⟨k, rfl⟩ := (mem_fiber x hR r q).1 hq
    show 0 ≤ (BitVec.ofNat 32 k.val).toInt
    rw [toInt_ofNat (by have := k.isLt; omega)]; omega)
  generalize List.foldl _ _ _ = p at ht ⊢
  obtain ⟨b, i⟩ := p
  obtain ⟨h1, h2, h3⟩ := ht
  have hb : ∀ k < N, v k ≤ b := fun k hk => by
    have := h1 _ ((mem_fiber x hR r _).2 ⟨⟨k, hk⟩, rfl⟩)
    rw [hv] at this; exact this
  rcases h3 with h3 | h3
  · obtain ⟨rfl, rfl⟩ := Prod.mk.inj h3
    have : IsBest v N ⊥ 0 := ⟨hb, .inl ⟨rfl, rfl⟩⟩
    rw [this.arg_eq]
  · obtain ⟨k, hk⟩ := (mem_fiber x hR r _).1 h3
    obtain ⟨rfl, rfl⟩ := Prod.mk.inj hk
    have hbest : IsBest v N (x (ix2 r k)) k.val := ⟨hb, .inr ⟨k.isLt, (hv k).symm, fun k' hk' => by
      have hk'N : k' < N := hk'.trans k.isLt
      refine lt_of_le_of_ne (hb k' hk'N) fun he => ?_
      have := h2 _ ((mem_fiber x hR r _).2 ⟨⟨k', hk'N⟩, rfl⟩) (by rw [hv]; exact he)
      have hkl := k.isLt
      change (BitVec.ofNat 32 k.val).toInt ≤ (BitVec.ofNat 32 k').toInt at this
      rw [toInt_ofNat (by omega), toInt_ofNat (by omega)] at this
      omega⟩⟩
    rw [hbest.arg_eq]

end Cert.VQ

end
-- ==== Proof.Gather.lean ====
module

public import proofs.«01_k».proof.Proof.Fns
public import proofs.«01_k».proof.Proof.Argmax

@[expose] public section

noncomputable section

/-! The reference's gathers, and the resize and the look-up made of them, read at an index. -/

namespace Cert.VQ

open Idealize.ShloMosaic Idealize.ShloMosaic.StableHlo Idealize.ShloMosaic.ValueIdx

variable {α : Type}

/-- A gather of whole rows out of the middle axis reads the row that the index names, clamped into range. -/
theorem gather_mid {n m : ℕ} (hn : 0 < n) (wf) (x : (V3 8 n 256).Idx → α) (idx : IVec (V2 m 1) 32) (b : Fin 8) (i : Fin m) (c : Fin 256) :
    Host.gather (midDims n m wf) x idx (ix3 b i c) = x (ix3 b ⟨min (idx (ix2 i (0 : Fin 1))).toInt.toNat (n - 1), by omega⟩ c) := by
  unfold Host.gather
  congr 1
  funext a
  refine Fin.ext ?_
  show (midDims n m wf).start (ix3 b i c) idx a + (midDims n m wf).batchCoord (ix3 b i c) a + (midDims n m wf).offCoord (ix3 b i c) a = _
  rw [GatherDims.batchCoord_eq_zero _ _ _ List.not_mem_nil, Nat.add_zero]
  have ns : ∀ a : Fin 3, a ≠ 1 → (midDims n m wf).start (ix3 b i c) idx a = 0 := fun a ha => by
    unfold GatherDims.start
    rw [dif_neg fun h => ha (List.mem_singleton.1 h)]
  have cases : a = 0 ∨ a = 1 ∨ a = 2 := by
    match a with
    | ⟨0, _⟩ => exact .inl rfl
    | ⟨1, _⟩ => exact .inr (.inl rfl)
    | ⟨2, _⟩ => exact .inr (.inr rfl)
  rcases cases with rfl | rfl | rfl
  · rw [ns _ (fun h => absurd (congrArg Fin.val h) (by simp)), Nat.zero_add]
    unfold GatherDims.offCoord
    rw [dif_pos ((GatherDims.mem_sKept _ _).2 ⟨by simp, List.not_mem_nil⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ (midDims n m wf).startIndexMap from List.mem_singleton.mpr rfl)]
    have hsi : (midDims n m wf).siIdx (ix3 b i c) ⟨List.idxOf (1 : Fin 3) (midDims n m wf).startIndexMap,
        List.idxOf_lt_length_iff.2 (List.mem_singleton.mpr rfl)⟩ = ix2 i (0 : Fin 1) := by
      funext k; refine Fin.ext ?_
      match k with
      | ⟨0, _⟩ => rfl
      | ⟨1, _⟩ => rfl
    rw [hsi]
    rfl
  · rw [ns _ (fun h => absurd (congrArg Fin.val h) (by simp)), Nat.zero_add]
    unfold GatherDims.offCoord
    rw [dif_pos ((GatherDims.mem_sKept _ _).2 ⟨by simp, List.not_mem_nil⟩)]
    rfl

/-- A gather of whole rows of a matrix reads the row that the index names, clamped into range. -/
theorem gather_row {n m : ℕ} (hn : 0 < n) (wf) (x : (V2 n 256).Idx → α) (idx : IVec (V2 m 1) 32) (i : Fin m) (c : Fin 256) :
    Host.gather (rowDims n m wf) x idx (ix2 i c) = x (ix2 ⟨min (idx (ix2 i (0 : Fin 1))).toInt.toNat (n - 1), by omega⟩ c) := by
  unfold Host.gather
  congr 1
  funext a
  refine Fin.ext ?_
  show (rowDims n m wf).start (ix2 i c) idx a + (rowDims n m wf).batchCoord (ix2 i c) a + (rowDims n m wf).offCoord (ix2 i c) a = _
  rw [GatherDims.batchCoord_eq_zero _ _ _ List.not_mem_nil, Nat.add_zero]
  have cases : a = 0 ∨ a = 1 := by
    match a with
    | ⟨0, _⟩ => exact .inl rfl
    | ⟨1, _⟩ => exact .inr rfl
  rcases cases with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims n m wf).startIndexMap from List.mem_singleton.mpr rfl)]
    have hsi : (rowDims n m wf).siIdx (ix2 i c) ⟨List.idxOf (0 : Fin 2) (rowDims n m wf).startIndexMap,
        List.idxOf_lt_length_iff.2 (List.mem_singleton.mpr rfl)⟩ = ix2 i (0 : Fin 1) := by
      funext k; refine Fin.ext ?_
      match k with
      | ⟨0, _⟩ => rfl
      | ⟨1, _⟩ => rfl
    rw [hsi]
    rfl
  · unfold GatherDims.start
    rw [dif_neg (fun h => absurd (List.mem_singleton.1 h) (by simp)), Nat.zero_add]
    unfold GatherDims.offCoord
    rw [dif_pos ((GatherDims.mem_sKept _ _).2 ⟨by simp, List.not_mem_nil⟩)]
    rfl

/-- A vector stood up as a column. -/
theorem column_apply {m : ℕ} (x : (V1 m).Idx → α) (hB : (V1 m).BroadcastsInDim (V2 m 1) ![0]) (i : Fin m) :
    broadcastInDim (V2 m 1) ![0] hB x (ix2 i (0 : Fin 1)) = x (ix1 i) :=
  broadcastInDim_apply _ _ _ _ _ (spread1 i)

/-- The word of a place below `2^31` is not negative. -/
theorem slt_zero {k : ℕ} (h : k < 2 ^ 31) : IntOp.cmpi .slt (BitVec.ofNat 32 k) 0#32 = 0#1 := by
  have : ¬ (BitVec.ofNat 32 k).toInt < 0 := by rw [toInt_ofNat h]; omega
  simp [IntOp.cmpi, BitVec.slt, this]

/-- Rounding down the scaled middle of place `i`, in words. -/
theorem place_word {n m i : ℕ} (hm : 0 < m) (h : pick n m i < 2 ^ 31) :
    Ideal.fptosi 32 (Ideal.liftRound Int.floor (Ideal.div ((((i : ℤ) : ℝ) + ((1 / 2 : ℝ) : EReal)) * ((n : ℝ) : EReal)) ((m : ℝ) : EReal)))
      = BitVec.ofNat 32 (pick n m i) := by
  have hm' : (0 : ℝ) < m := by exact_mod_cast hm
  have e1 : Ideal.div (((((i : ℤ) : ℝ) : EReal) + ((1 / 2 : ℝ) : EReal)) * ((n : ℝ) : EReal)) ((m : ℝ) : EReal)
      = ((((i : ℝ) + 1 / 2) * n / m : ℝ) : EReal) := by
    unfold Ideal.div
    rw [if_neg (by exact_mod_cast hm'.ne'), Int.cast_natCast, ← EReal.coe_add, ← EReal.coe_mul, ← EReal.coe_inv, ← EReal.coe_mul, ← div_eq_mul_inv]
  have e2 : ⌊((i : ℝ) + 1 / 2) * n / m⌋ = (pick n m i : ℤ) := by
    have e3 : ((i : ℝ) + 1 / 2) * n / m = (((2 * i + 1) * n : ℕ) : ℝ) / ((2 * m : ℕ) : ℝ) := by
      push_cast; field_simp
    have hp : (0 : ℝ) < ((2 * m : ℕ) : ℝ) := by exact_mod_cast (by omega : 0 < 2 * m)
    rw [e3, Int.floor_eq_iff, le_div_iff₀ hp, div_lt_iff₀ hp]
    unfold pick
    constructor
    · exact_mod_cast Nat.div_mul_le_self _ _
    · exact_mod_cast Nat.lt_mul_of_div_lt (Nat.lt_succ_self _) (by omega)
  rw [e1, Ideal.liftRound_coe, e2]
  unfold Ideal.fptosi
  rw [show (((pick n m i : ℤ) : ℝ) : EReal) = ((pick n m i : ℝ) : EReal) by norm_cast]
  have e4 : Ideal.toIntClamped (-(2 ^ (32 - 1) : ℕ)) ((2 ^ (32 - 1) : ℕ) - 1) ((pick n m i : ℝ) : EReal)
      = max (-((2 ^ (32 - 1) : ℕ) : ℤ)) (min (((2 ^ (32 - 1) : ℕ) : ℤ) - 1) (pick n m i : ℤ)) := by
    show max _ (min _ (if 0 ≤ (pick n m i : ℝ) then ⌊(pick n m i : ℝ)⌋ else _)) = _
    rw [if_pos (Nat.cast_nonneg _), Int.floor_natCast]
  rw [e4]
  rw [min_eq_right (by norm_num; omega), max_eq_right (by norm_num)]
  rfl

end Cert.VQ

end
-- ==== Proof.Parts.lean ====
module

public import proofs.«01_k».proof.Proof.Gather

@[expose] public section

noncomputable section

/-! What the reference's functions leave in their buffers. -/

namespace Cert.VQ

open Idealize.ShloMosaic Idealize.ShloMosaic.StableHlo Idealize.ShloMosaic.TcCoe Idealize.SL.Sem Cert.ReferenceIdeal Idealize.ShloMosaic.ValueIdx
open Facts₀

/-- The word `0x3F000000` is one half. -/
theorem half_word : Ideal.ofBits .f32 0x3F000000#32 = ((1 / 2 : ℝ) : EReal) := by
  simp [Ideal.ofBits, Ideal.ieee]
  rw [← EReal.coe_mul]
  norm_num

/-- The resize from `n` rows to `m` leaves at row `i` the row that `pick` names. -/
theorem resize_eqs {V : Mem} {n m : ℕ} {A D : BitVec 32} {K : BitVec 32} {hS : S_.BroadcastsInDim (V1 m) (![] : Fin 0 → Fin (V1 m).rank)}
    {hB : (V1 m).BroadcastsInDim (V2 m 1) (![0] : Fin 1 → Fin (V2 m 1).rank)}
    {wf : GatherDims.WF (V3 8 n 256) (V2 m 1) (V3 8 m 256) [0, 2] [1] [] [1] [] 1 ![8, 1, 256]}
    {arg0 : TRef sig ⟨V3 8 n 256, .f32⟩} {v0 : TRef sig ⟨V1 m, .f32⟩} {cst : TRef sig ⟨S_, .f32⟩} {v1 v2 : TRef sig ⟨V1 m, .f32⟩}
    {cst_0 : TRef sig ⟨S_, .f32⟩} {v3 v4 : TRef sig ⟨V1 m, .f32⟩} {cst_1 : TRef sig ⟨S_, .f32⟩} {v5 v6 v7 : TRef sig ⟨V1 m, .f32⟩}
    {v8 : TRef sig ⟨V1 m, .i32⟩} {c : TRef sig ⟨S_, .i32⟩} {v9 : TRef sig ⟨V1 m, .i32⟩} {v10 : TRef sig ⟨V1 m, .i1⟩}
    {c_2 : TRef sig ⟨S_, .i32⟩} {v11 v12 v13 : TRef sig ⟨V1 m, .i32⟩} {v14 : TRef sig ⟨V2 m 1, .i32⟩}
    {v15 : TRef sig ⟨V3 8 m 256, .f32⟩}
    (h : (resizeLine (n := n) (m := m) (A := A) (D := D) (K := K) (hS := hS) (hB := hB) (wf := wf) (arg0 := arg0) (v0 := v0) (cst := cst) (v1 := v1) (v2 := v2) (cst_0 := cst_0) (v3 := v3) (v4 := v4) (cst_1 := cst_1) (v5 := v5) (v6 := v6) (v7 := v7) (v8 := v8) (c := c) (v9 := v9) (v10 := v10) (c_2 := c_2) (v11 := v11) (v12 := v12) (v13 := v13) (v14 := v14) (v15 := v15)).eqs V)
    (hA : Ideal.ofBits .f32 A = ((n : ℝ) : EReal)) (hD : Ideal.ofBits .f32 D = ((m : ℝ) : EReal)) (hn : 0 < n) (hn' : n ≤ 1024) (hm' : m ≤ 1024)
    (b : Fin 8) (i : Fin m) (c : Fin 256) :
    get V v15 (ix3 b i c) = get V arg0 (ix3 b ⟨pick n m i.val, pick_lt i.isLt hn⟩ c) := by
  obtain ⟨e0, ecst, e1, e2, ecst0, e3, e4, ecst1, e5, e6, e7, e8, ec, e9, e10, -, -, -, e13, e14, e15, -⟩ := h
  have hi := i.isLt
  have hp : pick n m i.val < n := pick_lt i.isLt hn
  have a0 : get V v0 (ix1 i) = ((((i.val : ℤ) : ℝ) : ℝ) : EReal) := by
    refine (congrFun e0 _).trans ?_
    show (((BitVec.ofNat 32 i.val).toInt : ℝ) : EReal) = _
    rw [toInt_ofNat (by omega)]
  have a1 : get V v1 (ix1 i) = ((1 / 2 : ℝ) : EReal) :=
    (congrFun e1 _).trans ((broadcastInDim_scalar_apply ..).trans ((congrFun ecst _).trans half_word))
  have a3 : get V v3 (ix1 i) = ((n : ℝ) : EReal) :=
    (congrFun e3 _).trans ((broadcastInDim_scalar_apply ..).trans ((congrFun ecst0 _).trans hA))
  have a5 : get V v5 (ix1 i) = ((m : ℝ) : EReal) :=
    (congrFun e5 _).trans ((broadcastInDim_scalar_apply ..).trans ((congrFun ecst1 _).trans hD))
  have a2 : get V v2 (ix1 i) = get V v0 (ix1 i) + get V v1 (ix1 i) := congrFun e2 _
  have a4 : get V v4 (ix1 i) = get V v2 (ix1 i) * get V v3 (ix1 i) := congrFun e4 _
  have a6 : get V v6 (ix1 i) = Ideal.div (get V v4 (ix1 i)) (get V v5 (ix1 i)) := congrFun e6 _
  have a7 : get V v7 (ix1 i) = Ideal.liftRound Int.floor (get V v6 (ix1 i)) := congrFun e7 _
  have a8 : get V v8 (ix1 i) = BitVec.ofNat 32 (pick n m i.val) := by
    refine (congrFun e8 _).trans ?_
    show Ideal.fptosi 32 (get V v7 (ix1 i)) = _
    rw [a7, a6, a4, a2, a0, a1, a3, a5]
    exact place_word (by omega) (by omega)
  have a9 : get V v9 (ix1 i) = 0#32 :=
    (congrFun e9 _).trans ((broadcastInDim_scalar_apply ..).trans (congrFun ec _))
  have a10 : get V v10 (ix1 i) = 0#1 := by
    refine (congrFun e10 _).trans ?_
    show IntOp.cmpi .slt (get V v8 (ix1 i)) (get V v9 (ix1 i)) = _
    rw [a8, a9]
    exact slt_zero (by omega)
  have a13 : get V v13 (ix1 i) = BitVec.ofNat 32 (pick n m i.val) := by
    refine (congrFun e13 _).trans ?_
    show Scalar.select (get V v10 (ix1 i)) _ (get V v8 (ix1 i)) = _
    rw [a10, a8]; rfl
  have a14 : get V v14 (ix2 i (0 : Fin 1)) = BitVec.ofNat 32 (pick n m i.val) :=
    (congrFun e14 _).trans ((column_apply ..).trans a13)
  refine (congrFun e15 _).trans ((gather_mid hn ..).trans ?_)
  refine congrArg (get V arg0) (congrArg (fun k => ix3 b k c) (Fin.ext ?_))
  show min (get V v14 (ix2 i (0 : Fin 1))).toInt.toNat (n - 1) = pick n m i.val
  rw [a14, toInt_ofNat (by omega), Int.toNat_natCast]
  omega

/-- The position of a row's largest entry. -/
theorem argmax_eqs {V : Mem} {m N : ℕ} {hR : (V2 m N).ReducesTo [1] (V1 m)} {h0 : 0 < S_.numel}
    {arg0 : TRef sig ⟨V2 m N, .f32⟩} {v0 : TRef sig ⟨V2 m N, .i32⟩} {cst : TRef sig ⟨S_, .f32⟩} {c : TRef sig ⟨S_, .i32⟩}
    {v1_0 : TRef sig ⟨V1 m, .f32⟩} {v1_1 : TRef sig ⟨V1 m, .i32⟩}
    (h : (argmaxLine (m := m) (N := N) (hR := hR) (h0 := h0) (arg0 := arg0) (v0 := v0) (cst := cst) (c := c) (v1_0 := v1_0) (v1_1 := v1_1)).eqs V)
    (hN : N ≤ 2 ^ 31) (v : ℕ → EReal) (r : Fin m) (hv : ∀ k : Fin N, get V arg0 (ix2 r k) = v k.val) :
    get V v1_1 (ix1 r) = BitVec.ofNat 32 (arg v N) := by
  obtain ⟨e0, ecst, ec, -, e1, -⟩ := h
  refine (congrFun e1 _).trans ?_
  rw [e0, ecst, ec]
  exact argmax_apply _ hR h0 hN v r hv

/-- A conjunction over an axis of one bit is that bit. -/
theorem andi_apply {m : ℕ} (x : IVec (V2 m 1) 1) (init : IVec S_ 1) (hR : (V2 m 1).ReducesTo [1] (V1 m)) (h0 : 0 < S_.numel) (r : Fin m)
    (hx : x (ix2 r (0 : Fin 1)) = 1#1) (hi : ∀ k, init k = 1#1) : Host.reduce IntOp.andi x init hR h0 (ix1 r) = 1#1 := by
  have h : (V2 m 1).Reduces [1] (V1 m) := ⟨hR.1, Nat.one_pos, hR.2⟩
  refine (Host.reduce_eq_fold_single IntOp.andi x init hR h h0 (ix1 r)).trans ?_
  rw [hi]
  have e : ∀ k : Fin 1, (x ∘ h.lift (ix1 r)) k = 1#1 := fun k => by
    obtain rfl : k = 0 := Subsingleton.elim _ _
    exact (congrArg x (lift_row h r 0)).trans hx
  exact congrArg (fun f : Fin 1 → BitVec 1 => (Finset.univ : Finset (Fin 1)).fold IntOp.andi 1#1 f) (funext e)

/-- A vector's entry repeated along rows. -/
theorem across {m : ℕ} (r : Fin m) (c : Fin 256) (a : Fin 1) :
    (ix1 r a).val = if (V1 m).size a = 1 then 0 else (ix2 r c ((![0] : Fin 1 → Fin 2) a)).val := by
  fin_cases a
  show r.val = if m = 1 then 0 else r.val
  split
  · have := r.isLt; omega
  · rfl

/-- The row of a matrix at an index in range. -/
theorem take_eqs {V : Mem} {N m : ℕ} {K L : BitVec 32} {hS : S_.BroadcastsInDim (V1 m) (![] : Fin 0 → Fin (V1 m).rank)}
    {hB : (V1 m).BroadcastsInDim (V2 m 1) (![0] : Fin 1 → Fin (V2 m 1).rank)}
    {hS1 : S_.BroadcastsInDim (V2 m 1) (![] : Fin 0 → Fin (V2 m 1).rank)}
    {hL : (V1 1).BroadcastsInDim (V2 1 1) (![1] : Fin 1 → Fin (V2 1 1).rank)}
    {hL1 : (V2 1 1).BroadcastsInDim (V2 m 1) (![0, 1] : Fin 2 → Fin (V2 m 1).rank)}
    {hR : (V2 m 1).ReducesTo [1] (V1 m)} {h0 : 0 < S_.numel}
    {wf : GatherDims.WF (V2 N 256) (V2 m 1) (V2 m 256) [1] [0] [] [0] [] 1 ![1, 256]}
    {hW : (V1 m).BroadcastsInDim (V2 m 256) (![0] : Fin 1 → Fin (V2 m 256).rank)}
    {hS2 : S_.BroadcastsInDim (V2 m 256) (![] : Fin 0 → Fin (V2 m 256).rank)}
    {arg0 : TRef sig ⟨V2 N 256, .f32⟩} {arg1 : TRef sig ⟨V1 m, .i32⟩} {c : TRef sig ⟨S_, .i32⟩} {v0 : TRef sig ⟨V1 m, .i32⟩}
    {v1 : TRef sig ⟨V1 m, .i1⟩} {c_0 : TRef sig ⟨S_, .i32⟩} {v2 v3 v4 : TRef sig ⟨V1 m, .i32⟩} {v5 : TRef sig ⟨V2 m 1, .i32⟩}
    {c_1 : TRef sig ⟨V1 1, .i32⟩} {c_2 : TRef sig ⟨S_, .i32⟩} {v6 : TRef sig ⟨V2 m 1, .i32⟩} {v7 : TRef sig ⟨V2 m 1, .i1⟩}
    {v8 : TRef sig ⟨V2 1 1, .i32⟩} {v9 : TRef sig ⟨V2 m 1, .i32⟩} {v10 v11 : TRef sig ⟨V2 m 1, .i1⟩} {c_3 : TRef sig ⟨S_, .i1⟩}
    {v12 : TRef sig ⟨V1 m, .i1⟩} {v13 : TRef sig ⟨V2 m 256, .f32⟩} {v14 : TRef sig ⟨V2 m 256, .i1⟩} {cst : TRef sig ⟨S_, .f32⟩}
    {v15 v16 : TRef sig ⟨V2 m 256, .f32⟩}
    (h : (takeLine (N := N) (m := m) (K := K) (L := L) (hS := hS) (hB := hB) (hS1 := hS1) (hL := hL) (hL1 := hL1) (hR := hR) (h0 := h0) (wf := wf) (hW := hW) (hS2 := hS2) (arg0 := arg0) (arg1 := arg1) (c := c) (v0 := v0) (v1 := v1) (c_0 := c_0) (v2 := v2) (v3 := v3) (v4 := v4) (v5 := v5) (c_1 := c_1) (c_2 := c_2) (v6 := v6) (v7 := v7) (v8 := v8) (v9 := v9) (v10 := v10) (v11 := v11) (c_3 := c_3) (v12 := v12) (v13 := v13) (v14 := v14) (cst := cst) (v15 := v15) (v16 := v16)).eqs V)
    (hL' : L.toInt = (N : ℤ) - 1) (hN : N ≤ 2 ^ 31) (r : Fin m) (c' : Fin 256) (a : ℕ) (ha : a < N)
    (hr : get V arg1 (ix1 r) = BitVec.ofNat 32 a) :
    get V v16 (ix2 r c') = get V arg0 (ix2 ⟨a, ha⟩ c') := by
  obtain ⟨ec, e0, e1, -, -, -, ⟨e4, -⟩, e5, ec1, ec2, e6, e7, e8, e9, e10, e11, ec3, e12, e13, e14, -, -, e16, -⟩ := h
  have hz : (BitVec.ofNat 32 a).toInt = (a : ℤ) := toInt_ofNat (by omega)
  have a0 : get V v0 (ix1 r) = 0#32 := (congrFun e0 _).trans ((broadcastInDim_scalar_apply ..).trans (congrFun ec _))
  have a1 : get V v1 (ix1 r) = 0#1 := by
    refine (congrFun e1 _).trans ?_
    show IntOp.cmpi .slt (get V arg1 (ix1 r)) (get V v0 (ix1 r)) = _
    rw [hr, a0]
    exact slt_zero (by omega)
  have a4 : get V v4 (ix1 r) = BitVec.ofNat 32 a := by
    refine (congrFun e4 _).trans ?_
    show Scalar.select (get V v1 (ix1 r)) _ (get V arg1 (ix1 r)) = _
    rw [a1, hr]; rfl
  have a5 : get V v5 (ix2 r (0 : Fin 1)) = BitVec.ofNat 32 a := (congrFun e5 _).trans ((column_apply ..).trans a4)
  have a6 : get V v6 (ix2 r (0 : Fin 1)) = 0#32 := (congrFun e6 _).trans ((broadcastInDim_scalar_apply ..).trans (congrFun ec2 _))
  have a7 : get V v7 (ix2 r (0 : Fin 1)) = 1#1 := by
    refine (congrFun e7 _).trans ?_
    show IntOp.cmpi .sge (get V v5 (ix2 r (0 : Fin 1))) (get V v6 (ix2 r (0 : Fin 1))) = _
    rw [a5, a6]
    simp [IntOp.cmpi, BitVec.sle, hz]
  have a8 : ∀ k, get V v8 k = L := fun k => (congrFun e8 k).trans (congrFun ec1 _)
  have a9 : ∀ k, get V v9 k = L := fun k => (congrFun e9 k).trans (a8 _)
  have a10 : get V v10 (ix2 r (0 : Fin 1)) = 1#1 := by
    refine (congrFun e10 _).trans ?_
    show IntOp.cmpi .sle (get V v5 (ix2 r (0 : Fin 1))) (get V v9 (ix2 r (0 : Fin 1))) = _
    rw [a5, a9]
    have : (a : ℤ) ≤ N - 1 := by omega
    simp [IntOp.cmpi, BitVec.sle, hz, hL', this]
  have a11 : get V v11 (ix2 r (0 : Fin 1)) = 1#1 := by
    refine (congrFun e11 _).trans ?_
    show IntOp.andi (get V v7 (ix2 r (0 : Fin 1))) (get V v10 (ix2 r (0 : Fin 1))) = _
    rw [a7, a10]; rfl
  have a12 : get V v12 (ix1 r) = 1#1 := (congrFun e12 _).trans (andi_apply _ _ _ _ r a11 fun k => congrFun ec3 k)
  have a14 : get V v14 (ix2 r c') = 1#1 :=
    (congrFun e14 _).trans ((broadcastInDim_apply _ _ _ _ (ix1 r) (across r c')).trans a12)
  have a13 : get V v13 (ix2 r c') = get V arg0 (ix2 ⟨a, ha⟩ c') := by
    refine (congrFun e13 _).trans ((gather_row (by omega) ..).trans ?_)
    refine congrArg (get V arg0) (congrArg (fun k => ix2 k c') (Fin.ext ?_))
    show min (get V v5 (ix2 r (0 : Fin 1))).toInt.toNat (N - 1) = a
    rw [a5, hz, Int.toNat_natCast]
    omega
  refine (congrFun e16 _).trans ?_
  show Scalar.select (get V v14 (ix2 r c')) (get V v13 (ix2 r c')) _ = _
  rw [a14]
  exact a13

end Cert.VQ

end
-- ==== Proof.Scale.lean ====
module

public import proofs.«01_k».proof.Proof.Parts
public import Idealize.ShloMosaic.Lib.StackMember

@[expose] public section

noncomputable section

/-! One scale of the reference, for any number of places. -/

namespace Cert.VQ

open Idealize.ShloMosaic Idealize.ShloMosaic.ValueIdx

/-- The index that a reduction over the last axis reads is the given one with that axis put back. -/
theorem lift_depth {p : ℕ} (h : (V3 8 p 256).Reduces [2] (V2 8 p)) (b : Fin 8) (i : Fin p) (k : Fin 256) :
    h.lift (ix2 b i) k = ix3 b i k := by
  funext c; apply Fin.ext; fin_cases c <;> rfl

/-- Adding a last axis of size one reads the matrix's own entry. -/
theorem deep {p : ℕ} (b : Fin 8) (i : Fin p) (a : Fin 2) :
    (ix2 b i a).val = if (V2 8 p).size a = 1 then 0 else (ix3 b i (0 : Fin 1) ((![0, 1] : Fin 2 → Fin 3) a)).val := by
  fin_cases a
  · rfl
  · show i.val = if p = 1 then 0 else i.val
    split
    · have := i.isLt; omega
    · rfl

/-- Broadcasting a last axis of size one over 256 places reads the same entry. -/
theorem along {p : ℕ} (b : Fin 8) (i : Fin p) (c : Fin 256) (a : Fin 3) :
    (ix3 b i (0 : Fin 1) a).val = if (V3 8 p 1).size a = 1 then 0 else (ix3 b i c ((![0, 1, 2] : Fin 3 → Fin 3) a)).val := by
  fin_cases a
  · rfl
  · show i.val = if p = 1 then 0 else i.val
    split
    · have := i.isLt; omega
    · rfl
  · rfl

/-- The row of the flattened stack at which batch `b` keeps its place `i`. -/
def flat {p P : ℕ} (hP : P = 8 * p) (b : Fin 8) (i : Fin p) : Fin P :=
  ⟨b.val * p + i.val, by
    have h1 := i.isLt
    have h2 : b.val * p ≤ 7 * p := Nat.mul_le_mul_right p (by omega)
    omega⟩

/-- A stack of matrices flattened, -/
theorem flat_apply {α : Type} {p P : ℕ} (hP : P = 8 * p) (x : (V3 8 p 256).Idx → α) (h : (V3 8 p 256).ShapeCasts (V2 P 256))
    (b : Fin 8) (i : Fin p) (c : Fin 256) : shapeCast (V2 P 256) x h (ix2 (flat hP b i) c) = x (ix3 b i c) := by
  refine shapeCast_apply x h _ _ ?_
  rw [Shape.rowMajor_val_three, Shape.rowMajor_val_two]
  rfl

/-- and stacked again. -/
theorem stack_apply {α : Type} {p P : ℕ} (hP : P = 8 * p) (x : (V2 P 256).Idx → α) (h : (V2 P 256).ShapeCasts (V3 8 p 256))
    (b : Fin 8) (i : Fin p) (c : Fin 256) : shapeCast (V3 8 p 256) x h (ix3 b i c) = x (ix2 (flat hP b i) c) := by
  refine shapeCast_apply x h _ _ ?_
  rw [Shape.rowMajor_val_three, Shape.rowMajor_val_two]
  rfl

/-- Every row of a stack over its sum of squares. -/
theorem norm_apply {p : ℕ} {x sq den x15 : FVec Ideal (V3 8 p 256) .f32} {z e : FVec Ideal ⟨0, ![]⟩ .f32} {s : FVec Ideal (V2 8 p) .f32}
    {s1 e1 t1 : FVec Ideal (V3 8 p 1) .f32} {hR : (V3 8 p 256).ReducesTo [2] (V2 8 p)} {h0 : 0 < (⟨0, ![]⟩ : Shape).numel}
    {hB : (V2 8 p).BroadcastsInDim (V3 8 p 1) ![0, 1]} {hS : (⟨0, ![]⟩ : Shape).BroadcastsInDim (V3 8 p 1) ![]}
    {hB' : (V3 8 p 1).BroadcastsInDim (V3 8 p 256) ![0, 1, 2]}
    (q1 : sq = mulf x x) (q2 : z = constant ⟨0, ![]⟩ .f32 0x00000000#32) (q3 : s = Host.reduceAdd sq z hR h0)
    (q4 : s1 = broadcastInDim (V3 8 p 1) ![0, 1] hB s) (q5 : e = constant ⟨0, ![]⟩ .f32 0x358637BD#32)
    (q6 : e1 = broadcastInDim (V3 8 p 1) ![] hS e) (q7 : t1 = addf s1 e1) (q8 : den = broadcastInDim (V3 8 p 256) ![0, 1, 2] hB' t1)
    (q9 : x15 = Host.divf x den) (b : Fin 8) (i : Fin p) (c : Fin 256) : x15 (ix3 b i c) = unit (fun c => x (ix3 b i c)) c := by
  subst q1 q2 q3 q4 q5 q6 q7 q8 q9
  have h : (V3 8 p 256).Reduces [2] (V2 8 p) := ⟨hR.1, Nat.two_pos, hR.2⟩
  refine (hostDivf_apply ..).trans ?_
  unfold unit
  refine congrArg (Ideal.div (x (ix3 b i c))) ?_
  refine (broadcastInDim_apply ![0, 1, 2] hB' _ (ix3 b i c) (ix3 b i (0 : Fin 1)) (along b i c)).trans ?_
  refine congrArg₂ (· + ·) ?_ (broadcastInDim_scalar_apply ..)
  refine (broadcastInDim_apply ![0, 1] hB _ (ix3 b i (0 : Fin 1)) (ix2 b i) (deep b i)).trans ?_
  refine (Ideal.hostReduceAdd_single hR h _ _ (ix2 b i)).trans ?_
  refine (congrArg (· + _) Ideal.ofBits_zero_f32).trans ((zero_add _).trans ?_)
  exact Finset.sum_congr rfl fun (j : Fin 256) _ => congrArg (fun j => x j * x j) (lift_depth h b i j)

/-- The codes of a stack of rows, by the reference's operations. -/
theorem codes_apply {p P : ℕ} (hP : P = 8 * p) {C G : FVec Ideal (V2 8192 256) .f32}
    {x sq den x15 : FVec Ideal (V3 8 p 256) .f32} {z e : FVec Ideal ⟨0, ![]⟩ .f32} {s : FVec Ideal (V2 8 p) .f32}
    {s1 e1 t1 : FVec Ideal (V3 8 p 1) .f32} {x16 : FVec Ideal (V2 P 256) .f32} {x17 : FVec Ideal (V2 256 8192) .f32}
    {x18 : FVec Ideal (V2 P 8192) .f32} {x19 : IVec (V1 P) 32} {x20 : FVec Ideal (V2 P 256) .f32} {x21 : FVec Ideal (V3 8 p 256) .f32}
    {hR : (V3 8 p 256).ReducesTo [2] (V2 8 p)} {h0 : 0 < (⟨0, ![]⟩ : Shape).numel}
    {hB : (V2 8 p).BroadcastsInDim (V3 8 p 1) ![0, 1]} {hS : (⟨0, ![]⟩ : Shape).BroadcastsInDim (V3 8 p 1) ![]}
    {hB' : (V3 8 p 1).BroadcastsInDim (V3 8 p 256) ![0, 1, 2]} {hC : (V3 8 p 256).ShapeCasts (V2 P 256)}
    {hT : (V2 8192 256).Transposes [1, 0] (V2 256 8192)} {D : DotDims (V2 P 256) (V2 256 8192) (V2 P 8192)}
    {hC' : (V2 P 256).ShapeCasts (V3 8 p 256)}
    (hG : ∀ (k : Fin 8192) c, G (ix2 k c) = unit (rows C k.val) c) (hD : D = DotDims.plain P 256 8192)
    (q1 : sq = mulf x x) (q2 : z = constant ⟨0, ![]⟩ .f32 0x00000000#32) (q3 : s = Host.reduceAdd sq z hR h0)
    (q4 : s1 = broadcastInDim (V3 8 p 1) ![0, 1] hB s) (q5 : e = constant ⟨0, ![]⟩ .f32 0x358637BD#32)
    (q6 : e1 = broadcastInDim (V3 8 p 1) ![] hS e) (q7 : t1 = addf s1 e1) (q8 : den = broadcastInDim (V3 8 p 256) ![0, 1, 2] hB' t1)
    (q9 : x15 = Host.divf x den) (q10 : x16 = fun i => shapeCast (V2 P 256) x15 hC i) (q11 : x17 = transpose (V2 256 8192) [1, 0] G hT)
    (q12 : x18 = Host.dotGeneral D none x16 x17)
    (q13 : ∀ (v : ℕ → EReal) (r : Fin P), (∀ k : Fin 8192, x18 (ix2 r k) = v k.val) → x19 (ix1 r) = BitVec.ofNat 32 (arg v 8192))
    (q14 : ∀ (r : Fin P) (c : Fin 256) (a : ℕ) (ha : a < 8192), x19 (ix1 r) = BitVec.ofNat 32 a → x20 (ix2 r c) = C (ix2 ⟨a, ha⟩ c))
    (q15 : x21 = fun i => shapeCast (V3 8 p 256) x20 hC' i) (b : Fin 8) (i : Fin p) (c : Fin 256) :
    x21 (ix3 b i c) = code (rows C) (fun c => x (ix3 b i c)) c := by
  have a16 : ∀ c, x16 (ix2 (flat hP b i) c) = unit (fun c => x (ix3 b i c)) c := fun c =>
    (congrFun q10 _).trans ((flat_apply hP x15 hC b i c).trans (norm_apply q1 q2 q3 q4 q5 q6 q7 q8 q9 b i c))
  have a18 : ∀ k : Fin 8192, x18 (ix2 (flat hP b i) k) = scores (rows C) (fun c => x (ix3 b i c)) k.val := fun k => by
    rw [q12, hD]
    refine (StackMember.dotGeneral_plain_apply none x16 x17 (flat hP b i) k).trans ?_
    refine Finset.sum_congr rfl fun c _ => congrArg₂ (· * ·) (a16 c) ?_
    rw [q11]
    exact (transpose_ix2_apply G hT c k).trans (hG k c)
  have a20 := q14 (flat hP b i) c _ (near_lt (rows C) (fun c => x (ix3 b i c))) (q13 _ _ a18)
  rw [q15]
  refine (stack_apply hP x20 hC' b i c).trans (a20.trans ?_)
  unfold code
  rw [rows_of_lt C (near_lt ..)]

/-- Remainder and sum after `s` scales, as the reference keeps them. -/
def Stage (F : FVec Ideal (V3 8 1024 256) .f32) (C : FVec Ideal (V2 8192 256) .f32) (s : ℕ) (rest hat : FVec Ideal (V3 8 1024 256) .f32) : Prop :=
  ∀ (b : Fin 8) (n : Fin 1024) (c : Fin 256),
    rest (ix3 b n c) = (run (rows C) (slab F b.val) s).1 n.val c ∧ hat (ix3 b n c) = (run (rows C) (slab F b.val) s).2 n.val c

/-- Before the first scale the remainder is the input and the sum is zero. -/
theorem stage_zero {F : FVec Ideal (V3 8 1024 256) .f32} {C : FVec Ideal (V2 8192 256) .f32} {hat : FVec Ideal (V3 8 1024 256) .f32}
    (h : ∀ i, hat i = 0) : Stage F C 0 F hat := fun b n c => ⟨(slab_apply F b n c).symm, h _⟩

/-- One scale takes the reference's remainder and sum to the next. -/
theorem stage_succ {F : FVec Ideal (V3 8 1024 256) .f32} {C : FVec Ideal (V2 8192 256) .f32} {s p : ℕ}
    {rest hat up' rest' hat' : FVec Ideal (V3 8 1024 256) .f32} {x y : FVec Ideal (V3 8 p 256) .f32}
    (hs : Stage F C s rest hat) (hp : 0 < p) (hsp : scales.getD s 1 = p)
    (hdown : ∀ (b : Fin 8) (i : Fin p) (c : Fin 256), x (ix3 b i c) = rest (ix3 b ⟨pick 1024 p i.val, pick_lt i.isLt (by decide)⟩ c))
    (hcode : ∀ (b : Fin 8) (i : Fin p) (c : Fin 256), y (ix3 b i c) = code (rows C) (fun c => x (ix3 b i c)) c)
    (hup : ∀ (b : Fin 8) (n : Fin 1024) (c : Fin 256), up' (ix3 b n c) = y (ix3 b ⟨pick p 1024 n.val, pick_lt n.isLt hp⟩ c))
    (hhat : hat' = addf hat up') (hrest : rest' = subf rest up') : Stage F C (s + 1) rest' hat' := by
  intro b n c
  have e : up' (ix3 b n c) = up (rows C) p (run (rows C) (slab F b.val) s).1 n.val c := by
    rw [hup, hcode]
    refine congrFun (congrArg (code (rows C)) (funext fun c => ?_)) c
    rw [hdown]
    exact (hs b _ c).1
  subst hhat hrest hsp
  constructor
  · show rest (ix3 b n c) - up' (ix3 b n c) = _
    rw [e, (hs b n c).1]; rfl
  · show hat (ix3 b n c) + up' (ix3 b n c) = _
    rw [e, (hs b n c).2]; rfl

/-- The last scale codes every place by itself. -/
theorem stage_last {F : FVec Ideal (V3 8 1024 256) .f32} {C : FVec Ideal (V2 8192 256) .f32}
    {rest hat y out : FVec Ideal (V3 8 1024 256) .f32} (hs : Stage F C 10 rest hat)
    (hcode : ∀ (b : Fin 8) (i : Fin 1024) (c : Fin 256), y (ix3 b i c) = code (rows C) (fun c => rest (ix3 b i c)) c)
    (hout : out = addf hat y) : out = result F C := by
  funext k
  obtain ⟨b, n, c, rfl⟩ : ∃ (b : Fin 8) (n : Fin 1024) (c : Fin 256), k = ix3 b n c := ⟨k 0, k 1, k 2, eq_ix3 k⟩
  subst hout
  show hat (ix3 b n c) + y (ix3 b n c) = (run (rows C) (slab F b.val) 10).2 n.val c + code (rows C) ((run (rows C) (slab F b.val) 10).1 n.val) c
  rw [hcode, (hs b n c).2, show (fun c => rest (ix3 b n c)) = (run (rows C) (slab F b.val) 10).1 n.val from funext fun c => (hs b n c).1]

end Cert.VQ

end
-- ==== Proof.RefLine.lean ====
module

public import proofs.«01_k».proof.Proof.Fns

@[expose] public section

noncomputable section

/-! The reference as one line, its run, and what holds at its end. -/

namespace Cert.VQ

open Idealize.ShloMosaic Idealize.ShloMosaic.StableHlo Idealize.ShloMosaic.TcCoe Idealize.SL.Sem Cert.ReferenceIdeal
open Cert.ReferenceIdeal.Gen

/-- Part 0 of the reference. -/
def part0 (d : Dev nD) : Line (main_part0 (F := Ideal) d) :=
  .bin _ _ _ _ _ _ _ <| .nul _ _ _ <| .bin _ _ _ _ _ _ _ <| .un _ _ _ _ _ <| .nul _ _ _ <| .un _ _ _ _ _ <|
  .bin _ _ _ _ _ _ _ <| .un _ _ _ _ _ <| .bin _ _ _ _ _ _ _ <| .nul _ _ _ <| .un _ _ _ _ _ <| .call resizeLine <|
  .bin _ _ _ _ _ _ _ <| .nul _ _ _ <| .bin _ _ _ _ _ _ _ <| .un _ _ _ _ _ <| .nul _ _ _ <| .un _ _ _ _ _ <|
  .bin _ _ _ _ _ _ _ <| .un _ _ _ _ _ <| .bin _ _ _ _ _ _ _ <| .resh _ _ _ _ _ _ <| .un _ _ _ _ _ <| .bin _ _ _ _ _ _ _ <|
  .call argmaxLine <| .call takeLine <| .resh _ _ _ _ _ _ <| .call resizeLine <| .bin _ _ _ _ _ _ _ <| .bin _ _ _ _ _ _ _ <|
  .call resizeLine <| .bin _ _ _ _ _ _ _ <| .nul _ _ _ <| .bin _ _ _ _ _ _ _ <| .un _ _ _ _ _ <| .nul _ _ _ <| .un _ _ _ _ _ <|
  .bin _ _ _ _ _ _ _ <| .un _ _ _ _ _ <| .bin _ _ _ _ _ _ _ <| .resh _ _ _ _ _ _ <| .un _ _ _ _ _ <| .bin _ _ _ _ _ _ _ <|
  .call argmaxLine <| .call takeLine <| .resh _ _ _ _ _ _ <| .call resizeLine <| .bin _ _ _ _ _ _ _ <| .bin _ _ _ _ _ _ _ <|
  .call resizeLine <| .bin _ _ _ _ _ _ _ <| .nul _ _ _ <| .bin _ _ _ _ _ _ _ <| .un _ _ _ _ _ <| .nul _ _ _ <| .un _ _ _ _ _ <|
  .bin _ _ _ _ _ _ _ <| .un _ _ _ _ _ <| .bin _ _ _ _ _ _ _ <| .resh _ _ _ _ _ _ .done

/-- Part 1 of the reference. -/
def part1 (d : Dev nD) : Line (main_part1 (F := Ideal) d) :=
  .un _ _ _ _ _ <| .bin _ _ _ _ _ _ _ <| .call argmaxLine <| .call takeLine <| .resh _ _ _ _ _ _ <| .call resizeLine <|
  .bin _ _ _ _ _ _ _ <| .bin _ _ _ _ _ _ _ <| .call resizeLine <| .bin _ _ _ _ _ _ _ <| .nul _ _ _ <| .bin _ _ _ _ _ _ _ <|
  .un _ _ _ _ _ <| .nul _ _ _ <| .un _ _ _ _ _ <| .bin _ _ _ _ _ _ _ <| .un _ _ _ _ _ <| .bin _ _ _ _ _ _ _ <|
  .resh _ _ _ _ _ _ <| .un _ _ _ _ _ <| .bin _ _ _ _ _ _ _ <| .call argmaxLine <| .call takeLine <| .resh _ _ _ _ _ _ <|
  .call resizeLine <| .bin _ _ _ _ _ _ _ <| .bin _ _ _ _ _ _ _ <| .call resizeLine <| .bin _ _ _ _ _ _ _ <| .nul _ _ _ <|
  .bin _ _ _ _ _ _ _ <| .un _ _ _ _ _ <| .nul _ _ _ <| .un _ _ _ _ _ <| .bin _ _ _ _ _ _ _ <| .un _ _ _ _ _ <|
  .bin _ _ _ _ _ _ _ <| .resh _ _ _ _ _ _ <| .un _ _ _ _ _ <| .bin _ _ _ _ _ _ _ <| .call argmaxLine <| .call takeLine <|
  .resh _ _ _ _ _ _ <| .call resizeLine <| .bin _ _ _ _ _ _ _ <| .bin _ _ _ _ _ _ _ <| .call resizeLine <| .bin _ _ _ _ _ _ _ <|
  .nul _ _ _ <| .bin _ _ _ _ _ _ _ <| .un _ _ _ _ _ <| .nul _ _ _ <| .un _ _ _ _ _ <| .bin _ _ _ _ _ _ _ <| .un _ _ _ _ _ <|
  .bin _ _ _ _ _ _ _ <| .resh _ _ _ _ _ _ <| .un _ _ _ _ _ <| .bin _ _ _ _ _ _ _ <| argmaxLine

/-- Part 2 of the reference. -/
def part2 (d : Dev nD) : Line (main_part2 (F := Ideal) d) :=
  .call takeLine <| .resh _ _ _ _ _ _ <| .call resizeLine <| .bin _ _ _ _ _ _ _ <| .bin _ _ _ _ _ _ _ <| .call resizeLine <|
  .bin _ _ _ _ _ _ _ <| .nul _ _ _ <| .bin _ _ _ _ _ _ _ <| .un _ _ _ _ _ <| .nul _ _ _ <| .un _ _ _ _ _ <|
  .bin _ _ _ _ _ _ _ <| .un _ _ _ _ _ <| .bin _ _ _ _ _ _ _ <| .resh _ _ _ _ _ _ <| .un _ _ _ _ _ <| .bin _ _ _ _ _ _ _ <|
  .call argmaxLine <| .call takeLine <| .resh _ _ _ _ _ _ <| .call resizeLine <| .bin _ _ _ _ _ _ _ <| .bin _ _ _ _ _ _ _ <|
  .call resizeLine <| .bin _ _ _ _ _ _ _ <| .nul _ _ _ <| .bin _ _ _ _ _ _ _ <| .un _ _ _ _ _ <| .nul _ _ _ <| .un _ _ _ _ _ <|
  .bin _ _ _ _ _ _ _ <| .un _ _ _ _ _ <| .bin _ _ _ _ _ _ _ <| .resh _ _ _ _ _ _ <| .un _ _ _ _ _ <| .bin _ _ _ _ _ _ _ <|
  .call argmaxLine <| .call takeLine <| .resh _ _ _ _ _ _ <| .call resizeLine <| .bin _ _ _ _ _ _ _ <| .bin _ _ _ _ _ _ _ <|
  .call resizeLine <| .bin _ _ _ _ _ _ _ <| .nul _ _ _ <| .bin _ _ _ _ _ _ _ <| .un _ _ _ _ _ <| .nul _ _ _ <| .un _ _ _ _ _ <|
  .bin _ _ _ _ _ _ _ <| .un _ _ _ _ _ <| .bin _ _ _ _ _ _ _ <| .resh _ _ _ _ _ _ <| .un _ _ _ _ _ <| .bin _ _ _ _ _ _ _ <|
  .call argmaxLine <| .call takeLine <| .resh _ _ _ _ _ _ <| resizeLine

/-- Part 3 of the reference. -/
def part3 (d : Dev nD) : Line (main_part3 (F := Ideal) d) :=
  .bin _ _ _ _ _ _ _ <| .bin _ _ _ _ _ _ _ <| .call resizeLine <| .bin _ _ _ _ _ _ _ <| .nul _ _ _ <| .bin _ _ _ _ _ _ _ <|
  .un _ _ _ _ _ <| .nul _ _ _ <| .un _ _ _ _ _ <| .bin _ _ _ _ _ _ _ <| .un _ _ _ _ _ <| .bin _ _ _ _ _ _ _ <|
  .resh _ _ _ _ _ _ <| .un _ _ _ _ _ <| .bin _ _ _ _ _ _ _ <| .call argmaxLine <| .call takeLine <| .resh _ _ _ _ _ _ <|
  .call resizeLine <| .bin _ _ _ _ _ _ _ <| .bin _ _ _ _ _ _ _ <| .call .done <| .bin _ _ _ _ _ _ _ <| .nul _ _ _ <|
  .bin _ _ _ _ _ _ _ <| .un _ _ _ _ _ <| .nul _ _ _ <| .un _ _ _ _ _ <| .bin _ _ _ _ _ _ _ <| .un _ _ _ _ _ <|
  .bin _ _ _ _ _ _ _ <| .resh _ _ _ _ _ _ <| .un _ _ _ _ _ <| .bin _ _ _ _ _ _ _ <| .call argmaxLine <| .call takeLine <|
  .resh _ _ _ _ _ _ <| .call .done <| .bin _ _ _ _ _ _ _ <| .bin _ _ _ _ _ _ _ <| .done

/-- The reference as one line. -/
def mainLine (d : Dev nD) : Line (main (F := Ideal) d) := .call (part0 d) <| .call (part1 d) <| .call (part2 d) (part3 d)

end Cert.VQ

end
-- ==== Proof.Run.lean ====
module

public import proofs.«01_k».proof.Proof.RefLine
public import Idealize.ShloMosaic.Lib.Quiescent

@[expose] public section

noncomputable section

/-! The reference's run, and what holds at its end. -/

namespace Cert.VQ

open Idealize.ShloMosaic Idealize.ShloMosaic.StableHlo Idealize.ShloMosaic.TcCoe Idealize.SL.Sem Cert.ReferenceIdeal
open Cert.ReferenceIdeal.Gen

/-- Every operation of the reference writes a buffer of a larger number than all before it. -/
theorem in_order (d : Dev nD) : ordered 2 (touched (mainLine d).lines) = true := by decide +kernel +revert

/-- No buffer of the reference is scoped. -/
theorem no_scoped_refs : (Finset.univ.filter fun b : Ref sig .tc => b.isScoped) = ∅ := by decide +kernel

/-- No semaphore of the reference is scoped: it has none. -/
theorem no_scoped_sems : (Finset.univ.filter fun sm : SemLoc sig => sm.isScoped .tc) = ∅ := by decide

/-- The reference's operations. -/
abbrev refOps (d : Dev nD) : List Op := (mainLine d).lines.map Line1.op

/-- The contents of a device's buffers at the end of the reference. -/
abbrev final (m : (ℓ : Loc nD τ sig) → Buf (Elt Ideal) ℓ) (d : Dev nD) : Mem := after (refOps d) (launchContents m d)

/-- The reference runs to `final`, and every counter ends at zero. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc), r.2.mem ((d.tc : Thread nD τ).loc b) = final m d (Proc.devRef .tc b)) ∧ r.2.sem = fun _ => 0 :=
  (θ_run (defs (F := Ideal)) _ _).mono (fun r h => ⟨h, sem_eq_zero_of_no_sems (by decide) r.2⟩)
    (run_seq no_scoped_refs no_scoped_sems defs main refOps (fun d => (mainLine d).eq)
      (fun d => List.forall_iff_forall_mem.2 fun op h => by
        obtain ⟨l, -, rfl⟩ := List.mem_map.1 h
        exact l.ok.bufs)
      m ρ (fun d op h => by
        obtain ⟨l, -, rfl⟩ := List.mem_map.1 h
        exact l.ok.fresh))

/-- The arguments end as they were launched. -/
theorem final_arg0 (m : (ℓ : Loc nD τ sig) → Buf (Elt Ideal) ℓ) (d : Dev nD) :
    final m d (Proc.devRef .tc main_arg0) = m ((d.tc : Thread nD τ).loc main_arg0) :=
  after_low (mainLine d).lines 2 (launchContents m d) main_arg0 (in_order d) (by decide)

/-- The reference leaves its second argument as it was. -/
theorem final_arg1 (m : (ℓ : Loc nD τ sig) → Buf (Elt Ideal) ℓ) (d : Dev nD) :
    final m d (Proc.devRef .tc main_arg1) = m ((d.tc : Thread nD τ).loc main_arg1) :=
  after_low (mainLine d).lines 2 (launchContents m d) main_arg1 (in_order d) (by decide)

/-- At the end every operation's equation holds. -/
theorem final_eqs (m : (ℓ : Loc nD τ sig) → Buf (Elt Ideal) ℓ) (d : Dev nD) : (mainLine d).eqs (final m d) :=
  (mainLine d).imp _ (after_fix (mainLine d).lines 2 _ (in_order d))

end Cert.VQ

end
-- ==== Proof.Chain.lean ====
module

public import proofs.«01_k».proof.Proof.Scale
public import proofs.«01_k».proof.Proof.Run

@[expose] public section

noncomputable section

/-! The reference's result. -/

namespace Cert.VQ

open Idealize.ShloMosaic Idealize.ShloMosaic.StableHlo Idealize.ShloMosaic.TcCoe Idealize.SL.Sem Cert.ReferenceIdeal Idealize.ShloMosaic.ValueIdx

/-- The bits of a natural between `2 ^ k` and `2 ^ (k + 1)`. -/
theorem bits_of {b : BitVec 32} {n k : ℕ} (h1 : b.extractLsb' 31 1 = 0#1) (h2 : (b.extractLsb' 23 8).toNat = 127 + k) (hk : k ≤ 23)
    (h3 : 2 ^ 23 + (b.extractLsb' 0 23).toNat = n * 2 ^ (23 - k)) : Ideal.ofBits .f32 b = ((n : ℝ) : EReal) := by
  show Ideal.ieee 8 23 b = _
  unfold Ideal.ieee
  simp only [h1, h2, h3, show 8 + 23 = 31 from rfl]
  rw [if_neg (by omega), if_neg (by omega)]
  refine congrArg _ ?_
  have e : ((127 + k : ℕ) : ℤ) - (2 ^ (8 - 1) - 1) - (23 : ℕ) = -((23 - k : ℕ) : ℤ) := by push_cast [hk]; ring
  rw [e, zpow_neg, zpow_natCast]
  push_cast
  field_simp

/-- At the end of the reference its result is the quantisation of its arguments. -/
theorem result_eq {V : Mem} (d : Dev nD) (h : (mainLine d).eqs V) :
    V (Proc.devRef .tc main_v193) = result (V (Proc.devRef .tc main_arg0)) (V (Proc.devRef .tc main_arg1)) := by
  obtain ⟨⟨p0, p1, p2, p3, p4, p5, p6, p7, p8, p9, p10, d0, a1_0, a2_0, a3_0, a4_0, a5_0, a6_0, a7_0, a8_0, a9_0, a10_0, a11_0, a12_0, m0, t0, s0, u0, h0, r0,
      d1, a1_1, a2_1, a3_1, a4_1, a5_1, a6_1, a7_1, a8_1, a9_1, a10_1, a11_1, a12_1, m1, t1, s1, u1, h1, r1, d2, a1_2, a2_2, a3_2, a4_2, a5_2, a6_2, a7_2,
      a8_2, a9_2, a10_2, -⟩,
    ⟨a11_2, a12_2, m2, t2, s2, u2, h2, r2, d3, a1_3, a2_3, a3_3, a4_3, a5_3, a6_3, a7_3, a8_3, a9_3, a10_3, a11_3, a12_3, m3, t3, s3, u3, h3, r3, d4,
      a1_4, a2_4, a3_4, a4_4, a5_4, a6_4, a7_4, a8_4, a9_4, a10_4, a11_4, a12_4, m4, t4, s4, u4, h4, r4, d5, a1_5, a2_5, a3_5, a4_5, a5_5, a6_5, a7_5,
      a8_5, a9_5, a10_5, a11_5, a12_5, m5⟩,
    ⟨t5, s5, u5, h5, r5, d6, a1_6, a2_6, a3_6, a4_6, a5_6, a6_6, a7_6, a8_6, a9_6, a10_6, a11_6, a12_6, m6, t6, s6, u6, h6, r6, d7, a1_7, a2_7, a3_7,
      a4_7, a5_7, a6_7, a7_7, a8_7, a9_7, a10_7, a11_7, a12_7, m7, t7, s7, u7, h7, r7, d8, a1_8, a2_8, a3_8, a4_8, a5_8, a6_8, a7_8, a8_8, a9_8, a10_8,
      a11_8, a12_8, m8, t8, s8, u8⟩,
    ⟨h8, r8, d9, a1_9, a2_9, a3_9, a4_9, a5_9, a6_9, a7_9, a8_9, a9_9, a10_9, a11_9, a12_9, m9, t9, s9, u9, h9, r9, -, a1_10, a2_10, a3_10, a4_10, a5_10,
      a6_10, a7_10, a8_10, a9_10, a10_10, a11_10, a12_10, m10, t10, s10, -, h10, -, -⟩⟩ := h
  have w1 : Ideal.ofBits .f32 0x3F800000#32 = ((1 : ℕ) : ℝ) := bits_of (k := 0) rfl rfl (by decide) rfl
  have w4 : Ideal.ofBits .f32 0x40800000#32 = ((4 : ℕ) : ℝ) := bits_of (k := 2) rfl rfl (by decide) rfl
  have w9 : Ideal.ofBits .f32 0x41100000#32 = ((9 : ℕ) : ℝ) := bits_of (k := 3) rfl rfl (by decide) rfl
  have w16 : Ideal.ofBits .f32 0x41800000#32 = ((16 : ℕ) : ℝ) := bits_of (k := 4) rfl rfl (by decide) rfl
  have w25 : Ideal.ofBits .f32 0x41C80000#32 = ((25 : ℕ) : ℝ) := bits_of (k := 4) rfl rfl (by decide) rfl
  have w36 : Ideal.ofBits .f32 0x42100000#32 = ((36 : ℕ) : ℝ) := bits_of (k := 5) rfl rfl (by decide) rfl
  have w64 : Ideal.ofBits .f32 0x42800000#32 = ((64 : ℕ) : ℝ) := bits_of (k := 6) rfl rfl (by decide) rfl
  have w100 : Ideal.ofBits .f32 0x42C80000#32 = ((100 : ℕ) : ℝ) := bits_of (k := 6) rfl rfl (by decide) rfl
  have w169 : Ideal.ofBits .f32 0x43290000#32 = ((169 : ℕ) : ℝ) := bits_of (k := 7) rfl rfl (by decide) rfl
  have w256 : Ideal.ofBits .f32 0x43800000#32 = ((256 : ℕ) : ℝ) := bits_of (k := 8) rfl rfl (by decide) rfl
  have w1024 : Ideal.ofBits .f32 0x44800000#32 = ((1024 : ℕ) : ℝ) := bits_of (k := 10) rfl rfl (by decide) rfl
  have hG : ∀ (k : Fin 8192) (c : Fin 256), V (Proc.devRef .tc main_v6) (ix2 k c) = unit (rows (V (Proc.devRef .tc main_arg1)) k.val) c := fun k c => by
    rw [p8, p7, p6, p5, p4, p3, p2, p1, p0]
    exact gBook_apply _ _ _ _ _ _ k c
  have z : Stage (V (Proc.devRef .tc main_arg0)) (V (Proc.devRef .tc main_arg1)) 0 (V (Proc.devRef .tc main_arg0)) (V (Proc.devRef .tc main_v7)) :=
    stage_zero fun i => by
      rw [p10, p9]
      exact (broadcastInDim_scalar_apply ..).trans Ideal.ofBits_zero_f32
  have g0 := stage_succ z (by decide) rfl (resize_eqs d0 w1024 w1 (by decide) le_rfl (by decide))
    (codes_apply rfl hG rfl a1_0 a2_0 a3_0 a4_0 a5_0 a6_0 a7_0 a8_0 a9_0 a10_0 a11_0 a12_0 (fun v r hv => argmax_eqs m0 (by decide) v r hv)
      (fun r c a ha hr => take_eqs t0 rfl (by decide) r c a ha hr) s0)
    (resize_eqs u0 w1 w1024 (by decide) (by decide) le_rfl) h0 r0
  have g1 := stage_succ g0 (by decide) rfl (resize_eqs d1 w1024 w4 (by decide) le_rfl (by decide))
    (codes_apply rfl hG rfl a1_1 a2_1 a3_1 a4_1 a5_1 a6_1 a7_1 a8_1 a9_1 a10_1 a11_1 a12_1 (fun v r hv => argmax_eqs m1 (by decide) v r hv)
      (fun r c a ha hr => take_eqs t1 rfl (by decide) r c a ha hr) s1)
    (resize_eqs u1 w4 w1024 (by decide) (by decide) le_rfl) h1 r1
  have g2 := stage_succ g1 (by decide) rfl (resize_eqs d2 w1024 w9 (by decide) le_rfl (by decide))
    (codes_apply rfl hG rfl a1_2 a2_2 a3_2 a4_2 a5_2 a6_2 a7_2 a8_2 a9_2 a10_2 a11_2 a12_2 (fun v r hv => argmax_eqs m2 (by decide) v r hv)
      (fun r c a ha hr => take_eqs t2 rfl (by decide) r c a ha hr) s2)
    (resize_eqs u2 w9 w1024 (by decide) (by decide) le_rfl) h2 r2
  have g3 := stage_succ g2 (by decide) rfl (resize_eqs d3 w1024 w16 (by decide) le_rfl (by decide))
    (codes_apply rfl hG rfl a1_3 a2_3 a3_3 a4_3 a5_3 a6_3 a7_3 a8_3 a9_3 a10_3 a11_3 a12_3 (fun v r hv => argmax_eqs m3 (by decide) v r hv)
      (fun r c a ha hr => take_eqs t3 rfl (by decide) r c a ha hr) s3)
    (resize_eqs u3 w16 w1024 (by decide) (by decide) le_rfl) h3 r3
  have g4 := stage_succ g3 (by decide) rfl (resize_eqs d4 w1024 w25 (by decide) le_rfl (by decide))
    (codes_apply rfl hG rfl a1_4 a2_4 a3_4 a4_4 a5_4 a6_4 a7_4 a8_4 a9_4 a10_4 a11_4 a12_4 (fun v r hv => argmax_eqs m4 (by decide) v r hv)
      (fun r c a ha hr => take_eqs t4 rfl (by decide) r c a ha hr) s4)
    (resize_eqs u4 w25 w1024 (by decide) (by decide) le_rfl) h4 r4
  have g5 := stage_succ g4 (by decide) rfl (resize_eqs d5 w1024 w36 (by decide) le_rfl (by decide))
    (codes_apply rfl hG rfl a1_5 a2_5 a3_5 a4_5 a5_5 a6_5 a7_5 a8_5 a9_5 a10_5 a11_5 a12_5 (fun v r hv => argmax_eqs m5 (by decide) v r hv)
      (fun r c a ha hr => take_eqs t5 rfl (by decide) r c a ha hr) s5)
    (resize_eqs u5 w36 w1024 (by decide) (by decide) le_rfl) h5 r5
  have g6 := stage_succ g5 (by decide) rfl (resize_eqs d6 w1024 w64 (by decide) le_rfl (by decide))
    (codes_apply rfl hG rfl a1_6 a2_6 a3_6 a4_6 a5_6 a6_6 a7_6 a8_6 a9_6 a10_6 a11_6 a12_6 (fun v r hv => argmax_eqs m6 (by decide) v r hv)
      (fun r c a ha hr => take_eqs t6 rfl (by decide) r c a ha hr) s6)
    (resize_eqs u6 w64 w1024 (by decide) (by decide) le_rfl) h6 r6
  have g7 := stage_succ g6 (by decide) rfl (resize_eqs d7 w1024 w100 (by decide) le_rfl (by decide))
    (codes_apply rfl hG rfl a1_7 a2_7 a3_7 a4_7 a5_7 a6_7 a7_7 a8_7 a9_7 a10_7 a11_7 a12_7 (fun v r hv => argmax_eqs m7 (by decide) v r hv)
      (fun r c a ha hr => take_eqs t7 rfl (by decide) r c a ha hr) s7)
    (resize_eqs u7 w100 w1024 (by decide) (by decide) le_rfl) h7 r7
  have g8 := stage_succ g7 (by decide) rfl (resize_eqs d8 w1024 w169 (by decide) le_rfl (by decide))
    (codes_apply rfl hG rfl a1_8 a2_8 a3_8 a4_8 a5_8 a6_8 a7_8 a8_8 a9_8 a10_8 a11_8 a12_8 (fun v r hv => argmax_eqs m8 (by decide) v r hv)
      (fun r c a ha hr => take_eqs t8 rfl (by decide) r c a ha hr) s8)
    (resize_eqs u8 w169 w1024 (by decide) (by decide) le_rfl) h8 r8
  have g9 := stage_succ g8 (by decide) rfl (resize_eqs d9 w1024 w256 (by decide) le_rfl (by decide))
    (codes_apply rfl hG rfl a1_9 a2_9 a3_9 a4_9 a5_9 a6_9 a7_9 a8_9 a9_9 a10_9 a11_9 a12_9 (fun v r hv => argmax_eqs m9 (by decide) v r hv)
      (fun r c a ha hr => take_eqs t9 rfl (by decide) r c a ha hr) s9)
    (resize_eqs u9 w256 w1024 (by decide) (by decide) le_rfl) h9 r9
  exact stage_last g9 (codes_apply rfl hG rfl a1_10 a2_10 a3_10 a4_10 a5_10 a6_10 a7_10 a8_10 a9_10 a10_10 a11_10 a12_10 (fun v r hv => argmax_eqs m10 (by decide) v r hv)
      (fun r c a ha hr => take_eqs t10 rfl (by decide) r c a ha hr) s10) h10

end Cert.VQ

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Whole
public import proofs.«01_k».proof.Proof.Chain
public import Idealize.ShloMosaic.Adequacy
public import Idealize.ShloMosaic.Init

@[expose] public section

noncomputable section

namespace Cert.Proof

open Idealize.ShloMosaic Idealize.SL.Sem Cert.Kernel

/-- The reference runs, leaves its arguments as they were, and every counter ends at zero. -/
theorem reference_frame : Cert.quiescent_ReferenceIdeal (hReferenceIdeal := Cert.ReferenceIdeal.Gen.facts) := fun m ρ _ =>
  (θ_run _ _ _).mono
    (fun _ h => ⟨fun c => ⟨(h.1 c _).trans (Cert.VQ.final_arg0 m c), (h.1 c _).trans (Cert.VQ.final_arg1 m c)⟩, h.2⟩)
    (Cert.VQ.ref_run m ρ)

/-- From equal arguments, kernel and reference both end with the multi-scale quantisation of the features by the codebook. -/
theorem same_result : Cert.algebraic_KernelIdeal_ReferenceIdeal (hKernelIdeal := Cert.KernelIdeal.Gen.facts)
    (hReferenceIdeal := Cert.ReferenceIdeal.Gen.facts) := fun m ρ m' ρ' _ hm =>
  ⟨fun c => Cert.VQ.result (Cert.VQ.inF m c) (Cert.VQ.inC m c),
    (θ_run _ _ _).mono (fun _ h => h.1) (Cert.VQ.kernel_run m ρ),
    (θ_run _ _ _).mono
      (fun _ h c => ⟨(h.1 c _).trans ((Cert.VQ.result_eq c (Cert.VQ.final_eqs m' c)).trans
          (congrArg₂ Cert.VQ.result ((Cert.VQ.final_arg0 m' c).trans (hm c).1) ((Cert.VQ.final_arg1 m' c).trans (hm c).2))),
        (h.1 c _).trans (Cert.VQ.final_arg0 m' c), (h.1 c _).trans (Cert.VQ.final_arg1 m' c)⟩)
      (Cert.VQ.ref_run m' ρ')⟩

/-- Kernel, idealized kernel and reference each run and leave their arguments unchanged; the idealized kernel is the
    kernel's own text; and from equal arguments kernel and reference end with equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_result⟩

end Cert.Proof

end
